-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_weights [hPre_finite_weights : Cert.Pre_finite_weights.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_weights [hPre_finite_weights : Cert.Pre_finite_weights.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_weights [hKernel6Ideal : Cert.Kernel6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_weights m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_weights [hReference6Ideal : Cert.Reference6Ideal.Facts] [hPre_finite_weights : Cert.Pre_finite_weights.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_weights m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "flush" .f32 0xC3160000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "query_scale" .f32 0x3E0293EE#32 ((((Real.sqrt 128) * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "diff_scale" .f32 0x3E38AA3B#32 (((8 * (Real.log 2))⁻¹ : ℝ) : EReal)

def algebraic_Kernel6Ideal_Reference6Ideal_pre_finite_weights [hKernel6Ideal : Cert.Kernel6Ideal.Facts] [hReference6Ideal : Cert.Reference6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_weights m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)) (v2 : (c : Dev Cert.Kernel6Ideal.nD) → Buf (Elt Ideal) ((c.tc : Thread Cert.Kernel6Ideal.nD Cert.Kernel6Ideal.τ).loc Cert.Kernel6Ideal.main_v29_2)) (v3 : (c : Dev Cert.Kernel6Ideal.nD) → Buf (Elt Ideal) ((c.tc : Thread Cert.Kernel6Ideal.nD Cert.Kernel6Ideal.τ).loc Cert.Kernel6Ideal.main_v29_3)) (v4 : (c : Dev Cert.Kernel6Ideal.nD) → Buf (Elt Ideal) ((c.tc : Thread Cert.Kernel6Ideal.nD Cert.Kernel6Ideal.τ).loc Cert.Kernel6Ideal.main_v29_4)) (v5 : (c : Dev Cert.Kernel6Ideal.nD) → Buf (Elt Ideal) ((c.tc : Thread Cert.Kernel6Ideal.nD Cert.Kernel6Ideal.τ).loc Cert.Kernel6Ideal.main_v29_5)) (v6 : (c : Dev Cert.Kernel6Ideal.nD) → Buf (Elt Ideal) ((c.tc : Thread Cert.Kernel6Ideal.nD Cert.Kernel6Ideal.τ).loc Cert.Kernel6Ideal.main_v29_6)) (v7 : (c : Dev Cert.Kernel6Ideal.nD) → Buf (Elt Ideal) ((c.tc : Thread Cert.Kernel6Ideal.nD Cert.Kernel6Ideal.τ).loc Cert.Kernel6Ideal.main_v29_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_v29_2) = v2 c
          ∧ r.2.mem ((c.tc : Thread Cert.Kernel6Ideal.nD Cert.Kernel6Ideal.τ).loc Cert.Kernel6Ideal.main_v29_3) = v3 c
          ∧ r.2.mem ((c.tc : Thread Cert.Kernel6Ideal.nD Cert.Kernel6Ideal.τ).loc Cert.Kernel6Ideal.main_v29_4) = v4 c
          ∧ r.2.mem ((c.tc : Thread Cert.Kernel6Ideal.nD Cert.Kernel6Ideal.τ).loc Cert.Kernel6Ideal.main_v29_5) = v5 c
          ∧ r.2.mem ((c.tc : Thread Cert.Kernel6Ideal.nD Cert.Kernel6Ideal.τ).loc Cert.Kernel6Ideal.main_v29_6) = v6 c
          ∧ r.2.mem ((c.tc : Thread Cert.Kernel6Ideal.nD Cert.Kernel6Ideal.τ).loc Cert.Kernel6Ideal.main_v29_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_v49) = v2 c
          ∧ r.2.mem ((c.tc : Thread Cert.Reference6Ideal.nD Cert.Reference6Ideal.τ).loc Cert.Reference6Ideal.main_v51) = v3 c
          ∧ r.2.mem ((c.tc : Thread Cert.Reference6Ideal.nD Cert.Reference6Ideal.τ).loc Cert.Reference6Ideal.main_v22) = v4 c
          ∧ r.2.mem ((c.tc : Thread Cert.Reference6Ideal.nD Cert.Reference6Ideal.τ).loc Cert.Reference6Ideal.main_v46) = v5 c
          ∧ r.2.mem ((c.tc : Thread Cert.Reference6Ideal.nD Cert.Reference6Ideal.τ).loc Cert.Reference6Ideal.main_v52) = v6 c
          ∧ r.2.mem ((c.tc : Thread Cert.Reference6Ideal.nD Cert.Reference6Ideal.τ).loc Cert.Reference6Ideal.main_v24) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_weights : Cert.Pre_finite_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_weights (hKernel6Ideal := hKernel6Ideal) (hPre_finite_weights := hPre_finite_weights)
    ∧ quiescent_Reference6Ideal (hReference6Ideal := hReference6Ideal)
    ∧ quiescent_Reference6Ideal_pre_finite_weights (hReference6Ideal := hReference6Ideal) (hPre_finite_weights := hPre_finite_weights)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_weights (hKernel6Ideal := hKernel6Ideal) (hReference6Ideal := hReference6Ideal) (hPre_finite_weights := hPre_finite_weights)
-- ==== Pre_finite.lean ====
abbrev S32768x1024 : Shape := ⟨2, ![32768, 1024]⟩
abbrev S128x1024x256 : Shape := ⟨3, ![128, 1024, 256]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)

variable [Facts]

def fn {F : FTy → Type} [FloatOps F] (main_arg0 : FVec F S32768x1024 .bf16) (main_arg1 : FVec F S32768x1024 .bf16) (main_arg2 : FVec F S128x1024x256 .bf16) : IVec S32768x1024 1 × IVec S32768x1024 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x1024 .f32 := (extf .f32 · bitsLt_bf16_f32) main_arg1
  let main_v5 : FVec F S32768x1024 .f32 := Host.absf main_v4
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  (main_v3, main_v7)
-- ==== Pre_finite_weights.lean ====
abbrev S32768x1024 : Shape := ⟨2, ![32768, 1024]⟩
abbrev S4x1024 : Shape := ⟨2, ![4, 1024]⟩
abbrev S2x1024x3088 : Shape := ⟨3, ![2, 1024, 3088]⟩
abbrev S2x16x256 : Shape := ⟨3, ![2, 16, 256]⟩
abbrev S2x256 : Shape := ⟨2, ![2, 256]⟩
abbrev S_ : Shape := ⟨0, ![]⟩

class Facts : Prop where
  bcast_S_S4x1024 : S_.BroadcastsInDim S4x1024 (![] : Fin 0 → Fin S4x1024.rank)
  bcast_S_S2x1024x3088 : S_.BroadcastsInDim S2x1024x3088 (![] : Fin 0 → Fin S2x1024x3088.rank)
  bcast_S_S2x16x256 : S_.BroadcastsInDim S2x16x256 (![] : Fin 0 → Fin S2x16x256.rank)

variable [Facts]

def fn {F : FTy → Type} [FloatOps F] (main_arg0 : FVec F S32768x1024 .f32) (main_arg1 : FVec F S4x1024 .f32) (main_arg2 : FVec F S2x1024x3088 .f32) (main_arg3 : FVec F S2x16x256 .f32) (main_arg4 : FVec F S2x256 .f32) : IVec S4x1024 1 × IVec S2x1024x3088 1 × IVec S2x16x256 1 :=
  let main_v0 : FVec F S4x1024 .f32 := Host.absf main_arg1
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S2x1024x3088 .f32 := Host.absf main_arg2
  let main_cst_0 : FVec F S_ .f32 := constant S_ .f32 0x7F800000#32
  let main_v4 : FVec F S2x1024x3088 .f32 := broadcastInDim S2x1024x3088 ![] bcast_S_S2x1024x3088 main_cst_0
  let main_v5 : IVec S2x1024x3088 1 := cmpf .olt main_v3 main_v4
  let main_v6 : FVec F S2x16x256 .f32 := Host.absf main_arg3
  let main_cst_1 : FVec F S_ .f32 := constant S_ .f32 0x7F800000#32
  let main_v7 : FVec F S2x16x256 .f32 := broadcastInDim S2x16x256 ![] bcast_S_S2x16x256 main_cst_1
  let main_v8 : IVec S2x16x256 1 := cmpf .olt main_v6 main_v7
  (main_v2, main_v5, main_v8)
-- ==== Kernel.lean ====
abbrev S32768x1024 : Shape := ⟨2, ![32768, 1024]⟩
abbrev S128x1024x256 : Shape := ⟨3, ![128, 1024, 256]⟩
abbrev S4096x128 : Shape := ⟨2, ![4096, 128]⟩
abbrev S16384x128 : Shape := ⟨2, ![16384, 128]⟩
abbrev S64x128x256 : Shape := ⟨3, ![64, 128, 256]⟩
abbrev S16x128x256 : Shape := ⟨3, ![16, 128, 256]⟩
abbrev S264x256 : Shape := ⟨2, ![264, 256]⟩
abbrev S256x256 : Shape := ⟨2, ![256, 256]⟩
abbrev S256x128 : Shape := ⟨2, ![256, 128]⟩
abbrev S1x128x256 : Shape := ⟨3, ![1, 128, 256]⟩
abbrev S128x256 : Shape := ⟨2, ![128, 256]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 4
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S128x1024x256, .bf16⟩
  | .hbm, ⟨3, _⟩ => ⟨S32768x1024, .bf16⟩
  | .local _ .vmem, ⟨0, _⟩ => ⟨S4096x128, .bf16⟩
  | .local _ .vmem, ⟨1, _⟩ => ⟨S4096x128, .bf16⟩
  | .local _ .vmem, ⟨2, _⟩ => ⟨S16384x128, .bf16⟩
  | .local _ .vmem, ⟨3, _⟩ => ⟨S16384x128, .bf16⟩
  | .local _ .vmem, ⟨4, _⟩ => ⟨S64x128x256, .bf16⟩
  | .local _ .vmem, ⟨5, _⟩ => ⟨S64x128x256, .bf16⟩
  | .local _ .vmem, ⟨6, _⟩ => ⟨S4096x128, .bf16⟩
  | .local _ .vmem, ⟨7, _⟩ => ⟨S4096x128, .bf16⟩
  | .local _ .vmem, ⟨8, _⟩ => ⟨S16x128x256, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c16_i32 : BitVec 32 := 16#32
  let v0 : BitVec 32 := Scalar.muli arg2 c16_i32
  let c0_i32 : BitVec 32 := 0#32
  let v13 : BitVec 32 := Scalar.addi v0 c0_i32
  let c256_i32_0 : BitVec 32 := 256#32
  let v14 : BitVec 32 := Scalar.muli v13 c256_i32_0
  v14
def k0_off1 (i : grid0.Coords) (c0_i32 : BitVec 32) : Fin 2 → Nat :=
  let arg2 : BitVec 32 := BitVec.ofNat 32 (i 2).val
  let c16_i32 : BitVec 32 := 16#32
  let v0 : BitVec 32 := Scalar.muli arg2 c16_i32
  let v13 : BitVec 32 := Scalar.addi v0 c0_i32
  let c256_i32_0 : BitVec 32 := 256#32
  let v14 : BitVec 32 := Scalar.muli v13 c256_i32_0
  let v15 : BitVec 32 := v14
  let v16 : Index := Scalar.indexCast v15
  let c0 : Index := 0#32
  ![v16.toNat, 0]
def k0_off2 (i : grid0.Coords) (c0_i32 : BitVec 32) : Fin 3 → Nat :=
  let arg2 : BitVec 32 := BitVec.ofNat 32 (i 2).val
  let c16_i32 : BitVec 32 := 16#32
  let v0 : BitVec 32 := Scalar.muli arg2 c16_i32
  let v13 : BitVec 32 := Scalar.addi v0 c0_i32
  let v18 : Index := Scalar.indexCast v13
  let c0_1 : Index := 0#32
  let c0_2 : Index := 0#32
  ![v18.toNat, 0, 0]
def k0_mult2 (i : grid0.Coords) : BitVec 32 :=
  let arg2 : BitVec 32 := BitVec.ofNat 32 (i 2).val
  let c16_i32 : BitVec 32 := 16#32
  let v0 : BitVec 32 := Scalar.muli arg2 c16_i32
  let c1_i32 : BitVec 32 := 1#32
  let v21 : BitVec 32 := Scalar.addi v0 c1_i32
  let c256_i32_3 : BitVec 32 := 256#32
  let v22 : BitVec 32 := Scalar.muli v21 c256_i32_3
  v22
def k0_mult3 (i : grid0.Coords) : BitVec 32 :=
  let arg2 : BitVec 32 := BitVec.ofNat 32 (i 2).val
  let c16_i32 : BitVec 32 := 16#32
  let v0 : BitVec 32 := Scalar.muli arg2 c16_i32
  let c2_i32 : BitVec 32 := 2#32
  let v29 : BitVec 32 := Scalar.addi v0 c2_i32
  let c256_i32_7 : BitVec 32 := 256#32
  let v30 : BitVec 32 := Scalar.muli v29 c256_i32_7
  v30
def k0_mult4 (i : grid0.Coords) : BitVec 32 :=
  let arg2 : BitVec 32 := BitVec.ofNat 32 (i 2).val
  let c16_i32 : BitVec 32 := 16#32
  let v0 : BitVec 32 := Scalar.muli arg2 c16_i32
  let c3_i32 : BitVec 32 := 3#32
  let v37 : BitVec 32 := Scalar.addi v0 c3_i32
  let c256_i32_11 : BitVec 32 := 256#32
  let v38 : BitVec 32 := Scalar.muli v37 c256_i32_11
  v38
def k0_mult5 (i : grid0.Coords) : BitVec 32 :=
  let arg2 : BitVec 32 := BitVec.ofNat 32 (i 2).val
  let c16_i32 : BitVec 32 := 16#32
  let v0 : BitVec 32 := Scalar.muli arg2 c16_i32
  let c4_i32 : BitVec 32 := 4#32
  let v45 : BitVec 32 := Scalar.addi v0 c4_i32
  let c256_i32_15 : BitVec 32 := 256#32
  let v46 : BitVec 32 := Scalar.muli v45 c256_i32_15
  v46
def k0_mult6 (i : grid0.Coords) : BitVec 32 :=
  let arg2 : BitVec 32 := BitVec.ofNat 32 (i 2).val
  let c16_i32 : BitVec 32 := 16#32
  let v0 : BitVec 32 := Scalar.muli arg2 c16_i32
  let c5_i32 : BitVec 32 := 5#32
  let v53 : BitVec 32 := Scalar.addi v0 c5_i32
  let c256_i32_19 : BitVec 32 := 256#32
  let v54 : BitVec 32 := Scalar.muli v53 c256_i32_19
  v54
def k0_mult7 (i : grid0.Coords) : BitVec 32 :=
  let arg2 : BitVec 32 := BitVec.ofNat 32 (i 2).val
  let c16_i32 : BitVec 32 := 16#32
  let v0 : BitVec 32 := Scalar.muli arg2 c16_i32
  let c6_i32 : BitVec 32 := 6#32
  let v61 : BitVec 32 := Scalar.addi v0 c6_i32
  let c256_i32_23 : BitVec 32 := 256#32
  let v62 : BitVec 32 := Scalar.muli v61 c256_i32_23
  v62
def k0_mult8 (i : grid0.Coords) : BitVec 32 :=
  let arg2 : BitVec 32 := BitVec.ofNat 32 (i 2).val
  let c16_i32 : BitVec 32 := 16#32
  let v0 : BitVec 32 := Scalar.muli arg2 c16_i32
  let c7_i32 : BitVec 32 := 7#32
  let v69 : BitVec 32 := Scalar.addi v0 c7_i32
  let c256_i32_27 : BitVec 32 := 256#32
  let v70 : BitVec 32 := Scalar.muli v69 c256_i32_27
  v70
def k0_mult9 (i : grid0.Coords) : BitVec 32 :=
  let arg2 : BitVec 32 := BitVec.ofNat 32 (i 2).val
  let c16_i32 : BitVec 32 := 16#32
  let v0 : BitVec 32 := Scalar.muli arg2 c16_i32
  let c8_i32 : BitVec 32 := 8#32
  let v77 : BitVec 32 := Scalar.addi v0 c8_i32
  let c256_i32_31 : BitVec 32 := 256#32
  let v78 : BitVec 32 := Scalar.muli v77 c256_i32_31
  v78
def k0_mult10 (i : grid0.Coords) : BitVec 32 :=
  let arg2 : BitVec 32 := BitVec.ofNat 32 (i 2).val
  let c16_i32 : BitVec 32 := 16#32
  let v0 : BitVec 32 := Scalar.muli arg2 c16_i32
  let c9_i32 : BitVec 32 := 9#32
  let v85 : BitVec 32 := Scalar.addi v0 c9_i32
  let c256_i32_35 : BitVec 32 := 256#32
  let v86 : BitVec 32 := Scalar.muli v85 c256_i32_35
  v86
def k0_mult11 (i : grid0.Coords) : BitVec 32 :=
  let arg2 : BitVec 32 := BitVec.ofNat 32 (i 2).val
  let c16_i32 : BitVec 32 := 16#32
  let v0 : BitVec 32 := Scalar.muli arg2 c16_i32
  let c10_i32 : BitVec 32 := 10#32
  let v93 : BitVec 32 := Scalar.addi v0 c10_i32
  let c256_i32_39 : BitVec 32 := 256#32
  let v94 : BitVec 32 := Scalar.muli v93 c256_i32_39
  v94
def k0_mult12 (i : grid0.Coords) : BitVec 32 :=
  let arg2 : BitVec 32 := BitVec.ofNat 32 (i 2).val
  let c16_i32 : BitVec 32 := 16#32
  let v0 : BitVec 32 := Scalar.muli arg2 c16_i32
  let c11_i32 : BitVec 32 := 11#32
  let v101 : BitVec 32 := Scalar.addi v0 c11_i32
  let c256_i32_43 : BitVec 32 := 256#32
  let v102 : BitVec 32 := Scalar.muli v101 c256_i32_43
  v102
def k0_mult13 (i : grid0.Coords) : BitVec 32 :=
  let arg2 : BitVec 32 := BitVec.ofNat 32 (i 2).val
  let c16_i32 : BitVec 32 := 16#32
  let v0 : BitVec 32 := Scalar.muli arg2 c16_i32
  let c12_i32 : BitVec 32 := 12#32
  let v109 : BitVec 32 := Scalar.addi v0 c12_i32
  let c256_i32_47 : BitVec 32 := 256#32
  let v110 : BitVec 32 := Scalar.muli v109 c256_i32_47
  v110
def k0_mult14 (i : grid0.Coords) : BitVec 32 :=
  let arg2 : BitVec 32 := BitVec.ofNat 32 (i 2).val
  let c16_i32 : BitVec 32 := 16#32
  let v0 : BitVec 32 := Scalar.muli arg2 c16_i32
  let c13_i32 : BitVec 32 := 13#32
  let v117 : BitVec 32 := Scalar.addi v0 c13_i32
  let c256_i32_51 : BitVec 32 := 256#32
  let v118 : BitVec 32 := Scalar.muli v117 c256_i32_51
  v118
def k0_mult15 (i : grid0.Coords) : BitVec 32 :=
  let arg2 : BitVec 32 := BitVec.ofNat 32 (i 2).val
  let c16_i32 : BitVec 32 := 16#32
  let v0 : BitVec 32 := Scalar.muli arg2 c16_i32
  let c14_i32 : BitVec 32 := 14#32
  let v125 : BitVec 32 := Scalar.addi v0 c14_i32
  let c256_i32_55 : BitVec 32 := 256#32
  let v126 : BitVec 32 := Scalar.muli v125 c256_i32_55
  v126
def k0_mult16 (i : grid0.Coords) : BitVec 32 :=
  let arg2 : BitVec 32 := BitVec.ofNat 32 (i 2).val
  let c16_i32 : BitVec 32 := 16#32
  let v0 : BitVec 32 := Scalar.muli arg2 c16_i32
  let c15_i32 : BitVec 32 := 15#32
  let v133 : BitVec 32 := Scalar.addi v0 c15_i32
  let c256_i32_59 : BitVec 32 := 256#32
  let v134 : BitVec 32 := Scalar.muli v133 c256_i32_59
  v134
def k0_mult17 (i : grid0.Coords) : BitVec 32 :=
  let arg2 : BitVec 32 := BitVec.ofNat 32 (i 2).val
  let c16_i32 : BitVec 32 := 16#32
  let v0 : BitVec 32 := Scalar.muli arg2 c16_i32
  let c0_i32_63 : BitVec 32 := 0#32
  let v141 : BitVec 32 := Scalar.addi v0 c0_i32_63
  let c1_i32_64 : BitVec 32 := 1#32
  let v142 : BitVec 32 := Scalar.subi v141 c1_i32_64
  let c0_i32_65 : BitVec 32 := 0#32
  let v143 : BitVec 32 := Scalar.maxsi v142 c0_i32_65
  let c256_i32_66 : BitVec 32 := 256#32
  let v144 : BitVec 32 := Scalar.muli v143 c256_i32_66
  v144
def k0_off3 (i : grid0.Coords) (c0_i32_63 : BitVec 32) : Fin 2 → Nat :=
  let arg2 : BitVec 32 := BitVec.ofNat 32 (i 2).val
  let c16_i32 : BitVec 32 := 16#32
  let v0 : BitVec 32 := Scalar.muli arg2 c16_i32
  let v141 : BitVec 32 := Scalar.addi v0 c0_i32_63
  let c1_i32_64 : BitVec 32 := 1#32
  let v142 : BitVec 32 := Scalar.subi v141 c1_i32_64
  let c0_i32_65 : BitVec 32 := 0#32
  let v143 : BitVec 32 := Scalar.maxsi v142 c0_i32_65
  let c256_i32_66 : BitVec 32 := 256#32
  let v144 : BitVec 32 := Scalar.muli v143 c256_i32_66
  let v145 : BitVec 32 := v144
  let v146 : Index := Scalar.indexCast v145
  let c0_67 : Index := 0#32
  ![v146.toNat, 0]
def k0_off4 (i : grid0.Coords) (c0_i32_63 : BitVec 32) : Fin 3 → Nat :=
  let arg2 : BitVec 32 := BitVec.ofNat 32 (i 2).val
  let c16_i32 : BitVec 32 := 16#32
  let v0 : BitVec 32 := Scalar.muli arg2 c16_i32
  let v141 : BitVec 32 := Scalar.addi v0 c0_i32_63
  let c1_i32_64 : BitVec 32 := 1#32
  let v142 : BitVec 32 := Scalar.subi v141 c1_i32_64
  let c0_i32_65 : BitVec 32 := 0#32
  let v143 : BitVec 32 := Scalar.maxsi v142 c0_i32_65
  let v148 : Index := Scalar.indexCast v143
  let c0_68 : Index := 0#32
  let c0_69 : Index := 0#32
  ![v148.toNat, 0, 0]
def k0_mult18 (i : grid0.Coords) : BitVec 32 :=
  let arg2 : BitVec 32 := BitVec.ofNat 32 (i 2).val
  let c16_i32 : BitVec 32 := 16#32
  let v0 : BitVec 32 := Scalar.muli arg2 c16_i32
  let c1_i32_71 : BitVec 32 := 1#32
  let v152 : BitVec 32 := Scalar.addi v0 c1_i32_71
  let c1_i32_72 : BitVec 32 := 1#32
  let v153 : BitVec 32 := Scalar.subi v152 c1_i32_72
  let c0_i32_73 : BitVec 32 := 0#32
  let v154 : BitVec 32 := Scalar.maxsi v153 c0_i32_73
  let c256_i32_74 : BitVec 32 := 256#32
  let v155 : BitVec 32 := Scalar.muli v154 c256_i32_74
  v155
def k0_mult19 (i : grid0.Coords) : BitVec 32 :=
  let arg2 : BitVec 32 := BitVec.ofNat 32 (i 2).val
  let c16_i32 : BitVec 32 := 16#32
  let v0 : BitVec 32 := Scalar.muli arg2 c16_i32
  let c2_i32_79 : BitVec 32 := 2#32
  let v163 : BitVec 32 := Scalar.addi v0 c2_i32_79
  let c1_i32_80 : BitVec 32 := 1#32
  let v164 : BitVec 32 := Scalar.subi v163 c1_i32_80
  let c0_i32_81 : BitVec 32 := 0#32
  let v165 : BitVec 32 := Scalar.maxsi v164 c0_i32_81
  let c256_i32_82 : BitVec 32 := 256#32
  let v166 : BitVec 32 := Scalar.muli v165 c256_i32_82
  v166
def k0_mult20 (i : grid0.Coords) : BitVec 32 :=
  let arg2 : BitVec 32 := BitVec.ofNat 32 (i 2).val
  let c16_i32 : BitVec 32 := 16#32
  let v0 : BitVec 32 := Scalar.muli arg2 c16_i32
  let c3_i32_87 : BitVec 32 := 3#32
  let v174 : BitVec 32 := Scalar.addi v0 c3_i32_87
  let c1_i32_88 : BitVec 32 := 1#32
  let v175 : BitVec 32 := Scalar.subi v174 c1_i32_88
  let c0_i32_89 : BitVec 32 := 0#32
  let v176 : BitVec 32 := Scalar.maxsi v175 c0_i32_89
  let c256_i32_90 : BitVec 32 := 256#32
  let v177 : BitVec 32 := Scalar.muli v176 c256_i32_90
  v177
def k0_mult21 (i : grid0.Coords) : BitVec 32 :=
  let arg2 : BitVec 32 := BitVec.ofNat 32 (i 2).val
  let c16_i32 : BitVec 32 := 16#32
  let v0 : BitVec 32 := Scalar.muli arg2 c16_i32
  let c4_i32_95 : BitVec 32 := 4#32
  let v185 : BitVec 32 := Scalar.addi v0 c4_i32_95
  let c1_i32_96 : BitVec 32 := 1#32
  let v186 : BitVec 32 := Scalar.subi v185 c1_i32_96
  let c0_i32_97 : BitVec 32 := 0#32
  let v187 : BitVec 32 := Scalar.maxsi v186 c0_i32_97
  let c256_i32_98 : BitVec 32 := 256#32
  let v188 : BitVec 32 := Scalar.muli v187 c256_i32_98
  v188
def k0_mult22 (i : grid0.Coords) : BitVec 32 :=
  let arg2 : BitVec 32 := BitVec.ofNat 32 (i 2).val
  let c16_i32 : BitVec 32 := 16#32
  let v0 : BitVec 32 := Scalar.muli arg2 c16_i32
  let c5_i32_103 : BitVec 32 := 5#32
  let v196 : BitVec 32 := Scalar.addi v0 c5_i32_103
  let c1_i32_104 : BitVec 32 := 1#32
  let v197 : BitVec 32 := Scalar.subi v196 c1_i32_104
  let c0_i32_105 : BitVec 32 := 0#32
  let v198 : BitVec 32 := Scalar.maxsi v197 c0_i32_105
  let c256_i32_106 : BitVec 32 := 256#32
  let v199 : BitVec 32 := Scalar.muli v198 c256_i32_106
  v199
def k0_mult23 (i : grid0.Coords) : BitVec 32 :=
  let arg2 : BitVec 32 := BitVec.ofNat 32 (i 2).val
  let c16_i32 : BitVec 32 := 16#32
  let v0 : BitVec 32 := Scalar.muli arg2 c16_i32
  let c6_i32_111 : BitVec 32 := 6#32
  let v207 : BitVec 32 := Scalar.addi v0 c6_i32_111
  let c1_i32_112 : BitVec 32 := 1#32
  let v208 : BitVec 32 := Scalar.subi v207 c1_i32_112
  let c0_i32_113 : BitVec 32 := 0#32
  let v209 : BitVec 32 := Scalar.maxsi v208 c0_i32_113
  let c256_i32_114 : BitVec 32 := 256#32
  let v210 : BitVec 32 := Scalar.muli v209 c256_i32_114
  v210
def k0_mult24 (i : grid0.Coords) : BitVec 32 :=
  let arg2 : BitVec 32 := BitVec.ofNat 32 (i 2).val
  let c16_i32 : BitVec 32 := 16#32
  let v0 : BitVec 32 := Scalar.muli arg2 c16_i32
  let c7_i32_119 : BitVec 32 := 7#32
  let v218 : BitVec 32 := Scalar.addi v0 c7_i32_119
  let c1_i32_120 : BitVec 32 := 1#32
  let v219 : BitVec 32 := Scalar.subi v218 c1_i32_120
  let c0_i32_121 : BitVec 32 := 0#32
  let v220 : BitVec 32 := Scalar.maxsi v219 c0_i32_121
  let c256_i32_122 : BitVec 32 := 256#32
  let v221 : BitVec 32 := Scalar.muli v220 c256_i32_122
  v221
def k0_mult25 (i : grid0.Coords) : BitVec 32 :=
  let arg2 : BitVec 32 := BitVec.ofNat 32 (i 2).val
  let c16_i32 : BitVec 32 := 16#32
  let v0 : BitVec 32 := Scalar.muli arg2 c16_i32
  let c8_i32_127 : BitVec 32 := 8#32
  let v229 : BitVec 32 := Scalar.addi v0 c8_i32_127
  let c1_i32_128 : BitVec 32 := 1#32
  let v230 : BitVec 32 := Scalar.subi v229 c1_i32_128
  let c0_i32_129 : BitVec 32 := 0#32
  let v231 : BitVec 32 := Scalar.maxsi v230 c0_i32_129
  let c256_i32_130 : BitVec 32 := 256#32
  let v232 : BitVec 32 := Scalar.muli v231 c256_i32_130
  v232
def k0_mult26 (i : grid0.Coords) : BitVec 32 :=
  let arg2 : BitVec 32 := BitVec.ofNat 32 (i 2).val
  let c16_i32 : BitVec 32 := 16#32
  let v0 : BitVec 32 := Scalar.muli arg2 c16_i32
  let c9_i32_135 : BitVec 32 := 9#32
  let v240 : BitVec 32 := Scalar.addi v0 c9_i32_135
  let c1_i32_136 : BitVec 32 := 1#32
  let v241 : BitVec 32 := Scalar.subi v240 c1_i32_136
  let c0_i32_137 : BitVec 32 := 0#32
  let v242 : BitVec 32 := Scalar.maxsi v241 c0_i32_137
  let c256_i32_138 : BitVec 32 := 256#32
  let v243 : BitVec 32 := Scalar.muli v242 c256_i32_138
  v243
def k0_mult27 (i : grid0.Coords) : BitVec 32 :=
  let arg2 : BitVec 32 := BitVec.ofNat 32 (i 2).val
  let c16_i32 : BitVec 32 := 16#32
  let v0 : BitVec 32 := Scalar.muli arg2 c16_i32
  let c10_i32_143 : BitVec 32 := 10#32
  let v251 : BitVec 32 := Scalar.addi v0 c10_i32_143
  let c1_i32_144 : BitVec 32 := 1#32
  let v252 : BitVec 32 := Scalar.subi v251 c1_i32_144
  let c0_i32_145 : BitVec 32 := 0#32
  let v253 : BitVec 32 := Scalar.maxsi v252 c0_i32_145
  let c256_i32_146 : BitVec 32 := 256#32
  let v254 : BitVec 32 := Scalar.muli v253 c256_i32_146
  v254
def k0_mult28 (i : grid0.Coords) : BitVec 32 :=
  let arg2 : BitVec 32 := BitVec.ofNat 32 (i 2).val
  let c16_i32 : BitVec 32 := 16#32
  let v0 : BitVec 32 := Scalar.muli arg2 c16_i32
  let c11_i32_151 : BitVec 32 := 11#32
  let v262 : BitVec 32 := Scalar.addi v0 c11_i32_151
  let c1_i32_152 : BitVec 32 := 1#32
  let v263 : BitVec 32 := Scalar.subi v262 c1_i32_152
  let c0_i32_153 : BitVec 32 := 0#32
  let v264 : BitVec 32 := Scalar.maxsi v263 c0_i32_153
  let c256_i32_154 : BitVec 32 := 256#32
  let v265 : BitVec 32 := Scalar.muli v264 c256_i32_154
  v265
def k0_mult29 (i : grid0.Coords) : BitVec 32 :=
  let arg2 : BitVec 32 := BitVec.ofNat 32 (i 2).val
  let c16_i32 : BitVec 32 := 16#32
  let v0 : BitVec 32 := Scalar.muli arg2 c16_i32
  let c12_i32_159 : BitVec 32 := 12#32
  let v273 : BitVec 32 := Scalar.addi v0 c12_i32_159
  let c1_i32_160 : BitVec 32 := 1#32
  let v274 : BitVec 32 := Scalar.subi v273 c1_i32_160
  let c0_i32_161 : BitVec 32 := 0#32
  let v275 : BitVec 32 := Scalar.maxsi v274 c0_i32_161
  let c256_i32_162 : BitVec 32 := 256#32
  let v276 : BitVec 32 := Scalar.muli v275 c256_i32_162
  v276
def k0_mult30 (i : grid0.Coords) : BitVec 32 :=
  let arg2 : BitVec 32 := BitVec.ofNat 32 (i 2).val
  let c16_i32 : BitVec 32 := 16#32
  let v0 : BitVec 32 := Scalar.muli arg2 c16_i32
  let c13_i32_167 : BitVec 32 := 13#32
  let v284 : BitVec 32 := Scalar.addi v0 c13_i32_167
  let c1_i32_168 : BitVec 32 := 1#32
  let v285 : BitVec 32 := Scalar.subi v284 c1_i32_168
  let c0_i32_169 : BitVec 32 := 0#32
  let v286 : BitVec 32 := Scalar.maxsi v285 c0_i32_169
  let c256_i32_170 : BitVec 32 := 256#32
  let v287 : BitVec 32 := Scalar.muli v286 c256_i32_170
  v287
def k0_mult31 (i : grid0.Coords) : BitVec 32 :=
  let arg2 : BitVec 32 := BitVec.ofNat 32 (i 2).val
  let c16_i32 : BitVec 32 := 16#32
  let v0 : BitVec 32 := Scalar.muli arg2 c16_i32
  let c14_i32_175 : BitVec 32 := 14#32
  let v295 : BitVec 32 := Scalar.addi v0 c14_i32_175
  let c1_i32_176 : BitVec 32 := 1#32
  let v296 : BitVec 32 := Scalar.subi v295 c1_i32_176
  let c0_i32_177 : BitVec 32 := 0#32
  let v297 : BitVec 32 := Scalar.maxsi v296 c0_i32_177
  let c256_i32_178 : BitVec 32 := 256#32
  let v298 : BitVec 32 := Scalar.muli v297 c256_i32_178
  v298
def k0_mult32 (i : grid0.Coords) : BitVec 32 :=
  let arg2 : BitVec 32 := BitVec.ofNat 32 (i 2).val
  let c16_i32 : BitVec 32 := 16#32
  let v0 : BitVec 32 := Scalar.muli arg2 c16_i32
  let c15_i32_183 : BitVec 32 := 15#32
  let v306 : BitVec 32 := Scalar.addi v0 c15_i32_183
  let c1_i32_184 : BitVec 32 := 1#32
  let v307 : BitVec 32 := Scalar.subi v306 c1_i32_184
  let c0_i32_185 : BitVec 32 := 0#32
  let v308 : BitVec 32 := Scalar.maxsi v307 c0_i32_185
  let c256_i32_186 : BitVec 32 := 256#32
  let v309 : BitVec 32 := Scalar.muli v308 c256_i32_186
  v309
def k0_mult33 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c0_i32_724 : BitVec 32 := 0#32
  let v1444 : BitVec 32 := Scalar.addi v0 c0_i32_724
  let c2_i32_723 : BitVec 32 := 2#32
  let v1443 : BitVec 32 := Scalar.addi arg8 c2_i32_723
  let v1445 : BitVec 32 := Scalar.subi v1444 v1443
  let c0_i32_725 : BitVec 32 := 0#32
  let v1446 : BitVec 32 := Scalar.maxsi v1445 c0_i32_725
  let c256_i32_726 : BitVec 32 := 256#32
  let v1447 : BitVec 32 := Scalar.muli v1446 c256_i32_726
  v1447

def k0_off5 (i : grid0.Coords) (arg8 : BitVec 32) (c0_i32_724 : BitVec 32) : Fin 2 → Nat :=
  let arg2 : BitVec 32 := BitVec.ofNat 32 (i 2).val
  let c16_i32 : BitVec 32 := 16#32
  let v0 : BitVec 32 := Scalar.muli arg2 c16_i32
  let v1444 : BitVec 32 := Scalar.addi v0 c0_i32_724
  let c2_i32_723 : BitVec 32 := 2#32
  let v1443 : BitVec 32 := Scalar.addi arg8 c2_i32_723
  let v1445 : BitVec 32 := Scalar.subi v1444 v1443
  let c0_i32_725 : BitVec 32 := 0#32
  let v1446 : BitVec 32 := Scalar.maxsi v1445 c0_i32_725
  let c256_i32_726 : BitVec 32 := 256#32
  let v1447 : BitVec 32 := Scalar.muli v1446 c256_i32_726
  let v1448 : BitVec 32 := v1447
  let v1449 : Index := Scalar.indexCast v1448
  let c0_727 : Index := 0#32
  ![v1449.toNat, 0]
def k0_off6 (i : grid0.Coords) (arg8 : BitVec 32) (c0_i32_724 : BitVec 32) : Fin 3 → Nat :=
  let arg2 : BitVec 32 := BitVec.ofNat 32 (i 2).val
  let c16_i32 : BitVec 32 := 16#32
  let v0 : BitVec 32 := Scalar.muli arg2 c16_i32
  let v1444 : BitVec 32 := Scalar.addi v0 c0_i32_724
  let c2_i32_723 : BitVec 32 := 2#32
  let v1443 : BitVec 32 := Scalar.addi arg8 c2_i32_723
  let v1445 : BitVec 32 := Scalar.subi v1444 v1443
  let c0_i32_725 : BitVec 32 := 0#32
  let v1446 : BitVec 32 := Scalar.maxsi v1445 c0_i32_725
  let v1451 : Index := Scalar.indexCast v1446
  let c0_728 : Index := 0#32
  let c0_729 : Index := 0#32
  ![v1451.toNat, 0, 0]
def k0_mult34 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c1_i32_731 : BitVec 32 := 1#32
  let v1455 : BitVec 32 := Scalar.addi v0 c1_i32_731
  let c2_i32_723 : BitVec 32 := 2#32
  let v1443 : BitVec 32 := Scalar.addi arg8 c2_i32_723
  let v1456 : BitVec 32 := Scalar.subi v1455 v1443
  let c0_i32_732 : BitVec 32 := 0#32
  let v1457 : BitVec 32 := Scalar.maxsi v1456 c0_i32_732
  let c256_i32_733 : BitVec 32 := 256#32
  let v1458 : BitVec 32 := Scalar.muli v1457 c256_i32_733
  v1458
def k0_mult35 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c2_i32_738 : BitVec 32 := 2#32
  let v1466 : BitVec 32 := Scalar.addi v0 c2_i32_738
  let c2_i32_723 : BitVec 32 := 2#32
  let v1443 : BitVec 32 := Scalar.addi arg8 c2_i32_723
  let v1467 : BitVec 32 := Scalar.subi v1466 v1443
  let c0_i32_739 : BitVec 32 := 0#32
  let v1468 : BitVec 32 := Scalar.maxsi v1467 c0_i32_739
  let c256_i32_740 : BitVec 32 := 256#32
  let v1469 : BitVec 32 := Scalar.muli v1468 c256_i32_740
  v1469
def k0_mult36 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c3_i32_745 : BitVec 32 := 3#32
  let v1477 : BitVec 32 := Scalar.addi v0 c3_i32_745
  let c2_i32_723 : BitVec 32 := 2#32
  let v1443 : BitVec 32 := Scalar.addi arg8 c2_i32_723
  let v1478 : BitVec 32 := Scalar.subi v1477 v1443
  let c0_i32_746 : BitVec 32 := 0#32
  let v1479 : BitVec 32 := Scalar.maxsi v1478 c0_i32_746
  let c256_i32_747 : BitVec 32 := 256#32
  let v1480 : BitVec 32 := Scalar.muli v1479 c256_i32_747
  v1480
def k0_mult37 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c4_i32_752 : BitVec 32 := 4#32
  let v1488 : BitVec 32 := Scalar.addi v0 c4_i32_752
  let c2_i32_723 : BitVec 32 := 2#32
  let v1443 : BitVec 32 := Scalar.addi arg8 c2_i32_723
  let v1489 : BitVec 32 := Scalar.subi v1488 v1443
  let c0_i32_753 : BitVec 32 := 0#32
  let v1490 : BitVec 32 := Scalar.maxsi v1489 c0_i32_753
  let c256_i32_754 : BitVec 32 := 256#32
  let v1491 : BitVec 32 := Scalar.muli v1490 c256_i32_754
  v1491
def k0_mult38 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c5_i32_759 : BitVec 32 := 5#32
  let v1499 : BitVec 32 := Scalar.addi v0 c5_i32_759
  let c2_i32_723 : BitVec 32 := 2#32
  let v1443 : BitVec 32 := Scalar.addi arg8 c2_i32_723
  let v1500 : BitVec 32 := Scalar.subi v1499 v1443
  let c0_i32_760 : BitVec 32 := 0#32
  let v1501 : BitVec 32 := Scalar.maxsi v1500 c0_i32_760
  let c256_i32_761 : BitVec 32 := 256#32
  let v1502 : BitVec 32 := Scalar.muli v1501 c256_i32_761
  v1502
def k0_mult39 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c6_i32_766 : BitVec 32 := 6#32
  let v1510 : BitVec 32 := Scalar.addi v0 c6_i32_766
  let c2_i32_723 : BitVec 32 := 2#32
  let v1443 : BitVec 32 := Scalar.addi arg8 c2_i32_723
  let v1511 : BitVec 32 := Scalar.subi v1510 v1443
  let c0_i32_767 : BitVec 32 := 0#32
  let v1512 : BitVec 32 := Scalar.maxsi v1511 c0_i32_767
  let c256_i32_768 : BitVec 32 := 256#32
  let v1513 : BitVec 32 := Scalar.muli v1512 c256_i32_768
  v1513
def k0_mult40 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c7_i32_773 : BitVec 32 := 7#32
  let v1521 : BitVec 32 := Scalar.addi v0 c7_i32_773
  let c2_i32_723 : BitVec 32 := 2#32
  let v1443 : BitVec 32 := Scalar.addi arg8 c2_i32_723
  let v1522 : BitVec 32 := Scalar.subi v1521 v1443
  let c0_i32_774 : BitVec 32 := 0#32
  let v1523 : BitVec 32 := Scalar.maxsi v1522 c0_i32_774
  let c256_i32_775 : BitVec 32 := 256#32
  let v1524 : BitVec 32 := Scalar.muli v1523 c256_i32_775
  v1524
def k0_mult41 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c8_i32_780 : BitVec 32 := 8#32
  let v1532 : BitVec 32 := Scalar.addi v0 c8_i32_780
  let c2_i32_723 : BitVec 32 := 2#32
  let v1443 : BitVec 32 := Scalar.addi arg8 c2_i32_723
  let v1533 : BitVec 32 := Scalar.subi v1532 v1443
  let c0_i32_781 : BitVec 32 := 0#32
  let v1534 : BitVec 32 := Scalar.maxsi v1533 c0_i32_781
  let c256_i32_782 : BitVec 32 := 256#32
  let v1535 : BitVec 32 := Scalar.muli v1534 c256_i32_782
  v1535
def k0_mult42 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c9_i32_787 : BitVec 32 := 9#32
  let v1543 : BitVec 32 := Scalar.addi v0 c9_i32_787
  let c2_i32_723 : BitVec 32 := 2#32
  let v1443 : BitVec 32 := Scalar.addi arg8 c2_i32_723
  let v1544 : BitVec 32 := Scalar.subi v1543 v1443
  let c0_i32_788 : BitVec 32 := 0#32
  let v1545 : BitVec 32 := Scalar.maxsi v1544 c0_i32_788
  let c256_i32_789 : BitVec 32 := 256#32
  let v1546 : BitVec 32 := Scalar.muli v1545 c256_i32_789
  v1546
def k0_mult43 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c10_i32_794 : BitVec 32 := 10#32
  let v1554 : BitVec 32 := Scalar.addi v0 c10_i32_794
  let c2_i32_723 : BitVec 32 := 2#32
  let v1443 : BitVec 32 := Scalar.addi arg8 c2_i32_723
  let v1555 : BitVec 32 := Scalar.subi v1554 v1443
  let c0_i32_795 : BitVec 32 := 0#32
  let v1556 : BitVec 32 := Scalar.maxsi v1555 c0_i32_795
  let c256_i32_796 : BitVec 32 := 256#32
  let v1557 : BitVec 32 := Scalar.muli v1556 c256_i32_796
  v1557
def k0_mult44 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c11_i32_801 : BitVec 32 := 11#32
  let v1565 : BitVec 32 := Scalar.addi v0 c11_i32_801
  let c2_i32_723 : BitVec 32 := 2#32
  let v1443 : BitVec 32 := Scalar.addi arg8 c2_i32_723
  let v1566 : BitVec 32 := Scalar.subi v1565 v1443
  let c0_i32_802 : BitVec 32 := 0#32
  let v1567 : BitVec 32 := Scalar.maxsi v1566 c0_i32_802
  let c256_i32_803 : BitVec 32 := 256#32
  let v1568 : BitVec 32 := Scalar.muli v1567 c256_i32_803
  v1568
def k0_mult45 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c12_i32_808 : BitVec 32 := 12#32
  let v1576 : BitVec 32 := Scalar.addi v0 c12_i32_808
  let c2_i32_723 : BitVec 32 := 2#32
  let v1443 : BitVec 32 := Scalar.addi arg8 c2_i32_723
  let v1577 : BitVec 32 := Scalar.subi v1576 v1443
  let c0_i32_809 : BitVec 32 := 0#32
  let v1578 : BitVec 32 := Scalar.maxsi v1577 c0_i32_809
  let c256_i32_810 : BitVec 32 := 256#32
  let v1579 : BitVec 32 := Scalar.muli v1578 c256_i32_810
  v1579
def k0_mult46 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c13_i32_815 : BitVec 32 := 13#32
  let v1587 : BitVec 32 := Scalar.addi v0 c13_i32_815
  let c2_i32_723 : BitVec 32 := 2#32
  let v1443 : BitVec 32 := Scalar.addi arg8 c2_i32_723
  let v1588 : BitVec 32 := Scalar.subi v1587 v1443
  let c0_i32_816 : BitVec 32 := 0#32
  let v1589 : BitVec 32 := Scalar.maxsi v1588 c0_i32_816
  let c256_i32_817 : BitVec 32 := 256#32
  let v1590 : BitVec 32 := Scalar.muli v1589 c256_i32_817
  v1590
def k0_mult47 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c14_i32_822 : BitVec 32 := 14#32
  let v1598 : BitVec 32 := Scalar.addi v0 c14_i32_822
  let c2_i32_723 : BitVec 32 := 2#32
  let v1443 : BitVec 32 := Scalar.addi arg8 c2_i32_723
  let v1599 : BitVec 32 := Scalar.subi v1598 v1443
  let c0_i32_823 : BitVec 32 := 0#32
  let v1600 : BitVec 32 := Scalar.maxsi v1599 c0_i32_823
  let c256_i32_824 : BitVec 32 := 256#32
  let v1601 : BitVec 32 := Scalar.muli v1600 c256_i32_824
  v1601
def k0_mult48 (i : grid0.Coords) (arg8 : BitVec 32) : BitVec 32 :=
  let arg2 : BitVec 32 := BitVec.ofNat 32 (i 2).val
  let c16_i32 : BitVec 32 := 16#32
  let v0 : BitVec 32 := Scalar.muli arg2 c16_i32
  let c15_i32_829 : BitVec 32 := 15#32
  let v1609 : BitVec 32 := Scalar.addi v0 c15_i32_829
  let c2_i32_723 : BitVec 32 := 2#32
  let v1443 : BitVec 32 := Scalar.addi arg8 c2_i32_723
  let v1610 : BitVec 32 := Scalar.subi v1609 v1443
  let c0_i32_830 : BitVec 32 := 0#32
  let v1611 : BitVec 32 := Scalar.maxsi v1610 c0_i32_830
  let c256_i32_831 : BitVec 32 := 256#32
  let v1612 : BitVec 32 := Scalar.muli v1611 c256_i32_831
  v1612

def k0_chk1 (i : grid0.Coords) (arg8 : BitVec 32) : Prop :=
  (256 ∣ (k0_mult33 i arg8).toNat) ∧
  (∀ (r : Fin 16), ∀ a, (k0_off5 i arg8 (BitVec.ofNat 32 r.val)) a + S256x128.size a ≤ S16384x128.size a) ∧
  (∀ (r : Fin 16), ∀ a, (k0_off6 i arg8 (BitVec.ofNat 32 r.val)) a + S1x128x256.size a ≤ S64x128x256.size a) ∧
  (256 ∣ (k0_mult34 i arg8).toNat) ∧
  (256 ∣ (k0_mult35 i arg8).toNat) ∧
  (256 ∣ (k0_mult36 i arg8).toNat) ∧
  (256 ∣ (k0_mult37 i arg8).toNat) ∧
  (256 ∣ (k0_mult38 i arg8).toNat) ∧
  (256 ∣ (k0_mult39 i arg8).toNat) ∧
  (256 ∣ (k0_mult40 i arg8).toNat) ∧
  (256 ∣ (k0_mult41 i arg8).toNat) ∧
  (256 ∣ (k0_mult42 i arg8).toNat) ∧
  (256 ∣ (k0_mult43 i arg8).toNat) ∧
  (256 ∣ (k0_mult44 i arg8).toNat) ∧
  (256 ∣ (k0_mult45 i arg8).toNat) ∧
  (256 ∣ (k0_mult46 i arg8).toNat) ∧
  (256 ∣ (k0_mult47 i arg8).toNat) ∧
  (256 ∣ (k0_mult48 i arg8).toNat)
theorem k0_mult33_dvd : ∀ (i : grid0.Coords) (arg8 : BitVec 32) (k0_hw1 : k0_chk1 i arg8), 256 ∣ (k0_mult33 i arg8).toNat := fun i arg8 k0_hw1 => k0_hw1.1
theorem k0_off5_inb : ∀ (i : grid0.Coords) (arg8 : BitVec 32) (k0_hw1 : k0_chk1 i arg8), ∀ (r : Fin 16), ∀ a, (k0_off5 i arg8 (BitVec.ofNat 32 r.val)) a + S256x128.size a ≤ S16384x128.size a := fun i arg8 k0_hw1 r => k0_hw1.2.1 r
theorem k0_off6_inb : ∀ (i : grid0.Coords) (arg8 : BitVec 32) (k0_hw1 : k0_chk1 i arg8), ∀ (r : Fin 16), ∀ a, (k0_off6 i arg8 (BitVec.ofNat 32 r.val)) a + S1x128x256.size a ≤ S64x128x256.size a := fun i arg8 k0_hw1 r => k0_hw1.2.2.1 r
theorem k0_mult34_dvd : ∀ (i : grid0.Coords) (arg8 : BitVec 32) (k0_hw1 : k0_chk1 i arg8), 256 ∣ (k0_mult34 i arg8).toNat := fun i arg8 k0_hw1 => k0_hw1.2.2.2.1
theorem k0_mult35_dvd : ∀ (i : grid0.Coords) (arg8 : BitVec 32) (k0_hw1 : k0_chk1 i arg8), 256 ∣ (k0_mult35 i arg8).toNat := fun i arg8 k0_hw1 => k0_hw1.2.2.2.2.1
theorem k0_mult36_dvd : ∀ (i : grid0.Coords) (arg8 : BitVec 32) (k0_hw1 : k0_chk1 i arg8), 256 ∣ (k0_mult36 i arg8).toNat := fun i arg8 k0_hw1 => k0_hw1.2.2.2.2.2.1
theorem k0_mult37_dvd : ∀ (i : grid0.Coords) (arg8 : BitVec 32) (k0_hw1 : k0_chk1 i arg8), 256 ∣ (k0_mult37 i arg8).toNat := fun i arg8 k0_hw1 => k0_hw1.2.2.2.2.2.2.1
theorem k0_mult38_dvd : ∀ (i : grid0.Coords) (arg8 : BitVec 32) (k0_hw1 : k0_chk1 i arg8), 256 ∣ (k0_mult38 i arg8).toNat := fun i arg8 k0_hw1 => k0_hw1.2.2.2.2.2.2.2.1
theorem k0_mult39_dvd : ∀ (i : grid0.Coords) (arg8 : BitVec 32) (k0_hw1 : k0_chk1 i arg8), 256 ∣ (k0_mult39 i arg8).toNat := fun i arg8 k0_hw1 => k0_hw1.2.2.2.2.2.2.2.2.1
theorem k0_mult40_dvd : ∀ (i : grid0.Coords) (arg8 : BitVec 32) (k0_hw1 : k0_chk1 i arg8), 256 ∣ (k0_mult40 i arg8).toNat := fun i arg8 k0_hw1 => k0_hw1.2.2.2.2.2.2.2.2.2.1
theorem k0_mult41_dvd : ∀ (i : grid0.Coords) (arg8 : BitVec 32) (k0_hw1 : k0_chk1 i arg8), 256 ∣ (k0_mult41 i arg8).toNat := fun i arg8 k0_hw1 => k0_hw1.2.2.2.2.2.2.2.2.2.2.1
theorem k0_mult42_dvd : ∀ (i : grid0.Coords) (arg8 : BitVec 32) (k0_hw1 : k0_chk1 i arg8), 256 ∣ (k0_mult42 i arg8).toNat := fun i arg8 k0_hw1 => k0_hw1.2.2.2.2.2.2.2.2.2.2.2.1
theorem k0_mult43_dvd : ∀ (i : grid0.Coords) (arg8 : BitVec 32) (k0_hw1 : k0_chk1 i arg8), 256 ∣ (k0_mult43 i arg8).toNat := fun i arg8 k0_hw1 => k0_hw1.2.2.2.2.2.2.2.2.2.2.2.2.1
theorem k0_mult44_dvd : ∀ (i : grid0.Coords) (arg8 : BitVec 32) (k0_hw1 : k0_chk1 i arg8), 256 ∣ (k0_mult44 i arg8).toNat := fun i arg8 k0_hw1 => k0_hw1.2.2.2.2.2.2.2.2.2.2.2.2.2.1
theorem k0_mult45_dvd : ∀ (i : grid0.Coords) (arg8 : BitVec 32) (k0_hw1 : k0_chk1 i arg8), 256 ∣ (k0_mult45 i arg8).toNat := fun i arg8 k0_hw1 => k0_hw1.2.2.2.2.2.2.2.2.2.2.2.2.2.2.1
theorem k0_mult46_dvd : ∀ (i : grid0.Coords) (arg8 : BitVec 32) (k0_hw1 : k0_chk1 i arg8), 256 ∣ (k0_mult46 i arg8).toNat := fun i arg8 k0_hw1 => k0_hw1.2.2.2.2.2.2.2.2.2.2.2.2.2.2.2.1
theorem k0_mult47_dvd : ∀ (i : grid0.Coords) (arg8 : BitVec 32) (k0_hw1 : k0_chk1 i arg8), 256 ∣ (k0_mult47 i arg8).toNat := fun i arg8 k0_hw1 => k0_hw1.2.2.2.2.2.2.2.2.2.2.2.2.2.2.2.2.1
theorem k0_mult48_dvd : ∀ (i : grid0.Coords) (arg8 : BitVec 32) (k0_hw1 : k0_chk1 i arg8), 256 ∣ (k0_mult48 i arg8).toNat := fun i arg8 k0_hw1 => k0_hw1.2.2.2.2.2.2.2.2.2.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S64x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "flush" => some ⊥
  | "inv_ln2" => some (((Real.log 2)⁻¹ : ℝ) : EReal)
  | _ => none
-- ==== ReferenceIdeal.lean ====
abbrev S32768x1024 : Shape := ⟨2, ![32768, 1024]⟩
abbrev S128x1024x256 : Shape := ⟨3, ![128, 1024, 256]⟩
abbrev S2x16384x8x128 : Shape := ⟨4, ![2, 16384, 8, 128]⟩
abbrev S_ : Shape := ⟨0, ![]⟩
abbrev S128x256x1024 : Shape := ⟨3, ![128, 256, 1024]⟩
abbrev S2x8x16384x16384 : Shape := ⟨4, ![2, 8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x128x16384 : Shape := ⟨4, ![2, 8, 128, 16384]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S128x1024x256, .bf16⟩
  | .hbm, ⟨3, _⟩ => ⟨S32768x1024, .f32⟩
  | .hbm, ⟨4, _⟩ => ⟨S2x16384x8x128, .f32⟩
  | .hbm, ⟨5, _⟩ => ⟨S_, .f32⟩
  | .hbm, ⟨6, _⟩ => ⟨S_, .f32⟩
  | .hbm, ⟨7, _⟩ => ⟨S2x16384x8x128, .f32⟩
  | .hbm, ⟨8, _⟩ => ⟨S2x16384x8x128, .f32⟩
  | .hbm, ⟨9, _⟩ => ⟨S32768x1024, .f32⟩
  | .hbm, ⟨10, _⟩ => ⟨S2x16384x8x128, .f32⟩
  | .hbm, ⟨11, _⟩ => ⟨S128x256x1024, .bf16⟩
  | .hbm, ⟨12, _⟩ => ⟨S128x256x1024, .f32⟩
  | .hbm, ⟨13, _⟩ => ⟨S2x16384x8x128, .f32⟩
  | .hbm, ⟨14, _⟩ => ⟨S2x8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S2x8x16384x16384, .f32⟩
  | .hbm, ⟨23, _⟩ => ⟨S2x8x16384x16384, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .i1⟩
  | .hbm, ⟨27, _⟩ => ⟨S2x8x16384x16384, .f32⟩
  | .hbm, ⟨28, _⟩ => ⟨S2x8x16384x16384, .f32⟩
  | .hbm, ⟨29, _⟩ => ⟨S2x8x16384x16384, .f32⟩
  | .hbm, ⟨30, _⟩ => ⟨S2x8x16384x16384, .f32⟩
  | .hbm, ⟨31, _⟩ => ⟨S2x8x16384x16384, .f32⟩
  | .hbm, ⟨32, _⟩ => ⟨S2x8x16384x16384, .f32⟩
  | .hbm, ⟨33, _⟩ => ⟨S2x8x16384x16384, .f32⟩
  | .hbm, ⟨34, _⟩ => ⟨S2x8x16384x16384, .f32⟩
  | .hbm, ⟨35, _⟩ => ⟨S2x8x16384x16384, .f32⟩
  | .hbm, ⟨36, _⟩ => ⟨S_, .f32⟩
  | .hbm, ⟨37, _⟩ => ⟨S_, .f32⟩
  | .hbm, ⟨38, _⟩ => ⟨S2x8x16384x16384, .i1⟩
  | .hbm, ⟨39, _⟩ => ⟨S2x8x16384x16384, .f32⟩
  | .hbm, ⟨40, _⟩ => ⟨S2x8x16384x16384, .f32⟩
  | .hbm, ⟨41, _⟩ => ⟨S16384x1, .i32⟩
  | .hbm, ⟨42, _⟩ => ⟨S1x16384, .i32⟩
  | .hbm, ⟨43, _⟩ => ⟨S16384x16384, .i32⟩
  | .hbm, ⟨44, _⟩ => ⟨S16384x16384, .i32⟩
  | .hbm, ⟨45, _⟩ => ⟨S16384x16384, .i1⟩
  | .hbm, ⟨46, _⟩ => ⟨S16384x16384, .f32⟩
  | .hbm, ⟨47, _⟩ => ⟨S2x8x16384x16384, .f32⟩
  | .hbm, ⟨48, _⟩ => ⟨S2x8x16384x16384, .f32⟩
  | .hbm, ⟨49, _⟩ => ⟨S2x8x16384x16384, .f32⟩
  | .hbm, ⟨50, _⟩ => ⟨S2x8x16384x16384, .f32⟩
  | .hbm, ⟨51, _⟩ => ⟨S_, .f32⟩
  | .hbm, ⟨52, _⟩ => ⟨S_, .f32⟩
  | .hbm, ⟨53, _⟩ => ⟨S2x8x16384x16384, .i1⟩
  | .hbm, ⟨54, _⟩ => ⟨S2x8x16384x16384, .f32⟩
  | .hbm, ⟨55, _⟩ => ⟨S2x8x16384x16384, .f32⟩
  | .hbm, ⟨56, _⟩ => ⟨S2x8x128x16384, .f32⟩
  | .hbm, ⟨57, _⟩ => ⟨S2x16384x8x128, .f32⟩
  | .hbm, ⟨58, _⟩ => ⟨S32768x1024, .f32⟩
  | .hbm, ⟨59, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== Kernel2.lean ====
abbrev S32768x1024 : Shape := ⟨2, ![32768, 1024]⟩
abbrev S4x2x1024 : Shape := ⟨3, ![4, 2, 1024]⟩
abbrev S4x2x1024x1408 : Shape := ⟨4, ![4, 2, 1024, 1408]⟩
abbrev S4x2x1408x1024 : Shape := ⟨4, ![4, 2, 1408, 1024]⟩
abbrev S4x2x1024x2816 : Shape := ⟨4, ![4, 2, 1024, 2816]⟩
abbrev S8x1024x2816 : Shape := ⟨3, ![8, 1024, 2816]⟩
abbrev S8x1408x1024 : Shape := ⟨3, ![8, 1408, 1024]⟩
abbrev S8x1x1024 : Shape := ⟨3, ![8, 1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x1408x1024 : Shape := ⟨3, ![1, 1408, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S256x1408 : Shape := ⟨2, ![256, 1408]⟩
abbrev S1408x1024 : Shape := ⟨2, ![1408, 1024]⟩

abbrev nBuf : Space → Nat
  | .hbm => 14
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S4x2x1024, .f32⟩
  | .hbm, ⟨2, _⟩ => ⟨S4x2x1024, .f32⟩
  | .hbm, ⟨3, _⟩ => ⟨S4x2x1024x1408, .f32⟩
  | .hbm, ⟨4, _⟩ => ⟨S4x2x1024x1408, .f32⟩
  | .hbm, ⟨5, _⟩ => ⟨S4x2x1408x1024, .f32⟩
  | .hbm, ⟨6, _⟩ => ⟨S4x2x1024x2816, .f32⟩
  | .hbm, ⟨7, _⟩ => ⟨S4x2x1024x2816, .bf16⟩
  | .hbm, ⟨8, _⟩ => ⟨S8x1024x2816, .bf16⟩
  | .hbm, ⟨9, _⟩ => ⟨S4x2x1408x1024, .bf16⟩
  | .hbm, ⟨10, _⟩ => ⟨S8x1408x1024, .bf16⟩
  | .hbm, ⟨11, _⟩ => ⟨S8x1x1024, .f32⟩
  | .hbm, ⟨12, _⟩ => ⟨S8x1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1408x1024, .bf16⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S4x2x1024 : Shape := ⟨3, ![4, 2, 1024]⟩
abbrev S4x2x1024x1408 : Shape := ⟨4, ![4, 2, 1024, 1408]⟩
abbrev S4x2x1408x1024 : Shape := ⟨4, ![4, 2, 1408, 1024]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x1408 : Shape := ⟨4, ![1, 1, 1024, 1408]⟩
abbrev S1024x1408 : Shape := ⟨2, ![1024, 1408]⟩
abbrev S1x1x1408x1024 : Shape := ⟨4, ![1, 1, 1408, 1024]⟩
abbrev S1408x1024 : Shape := ⟨2, ![1408, 1024]⟩
abbrev S32768x1408 : Shape := ⟨2, ![32768, 1408]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x2x1024, .f32⟩
  | .hbm, ⟨2, _⟩ => ⟨S4x2x1024, .f32⟩
  | .hbm, ⟨3, _⟩ => ⟨S4x2x1024x1408, .f32⟩
  | .hbm, ⟨4, _⟩ => ⟨S4x2x1024x1408, .f32⟩
  | .hbm, ⟨5, _⟩ => ⟨S4x2x1408x1024, .f32⟩
  | .hbm, ⟨6, _⟩ => ⟨S1x1x1024, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1x1024x1408, .f32⟩
  | .hbm, ⟨25, _⟩ => ⟨S1024x1408, .f32⟩
  | .hbm, ⟨26, _⟩ => ⟨S1x1x1024x1408, .f32⟩
  | .hbm, ⟨27, _⟩ => ⟨S1024x1408, .f32⟩
  | .hbm, ⟨28, _⟩ => ⟨S1x1x1408x1024, .f32⟩
  | .hbm, ⟨29, _⟩ => ⟨S1408x1024, .f32⟩
  | .hbm, ⟨30, _⟩ => ⟨S32768x1408, .f32⟩
  | .hbm, ⟨31, _⟩ => ⟨S32768x1408, .f32⟩
  | .hbm, ⟨32, _⟩ => ⟨S32768x1408, .f32⟩
  | .hbm, ⟨33, _⟩ => ⟨S_, .f32⟩
  | .hbm, ⟨34, _⟩ => ⟨S32768x1408, .f32⟩
  | .hbm, ⟨35, _⟩ => ⟨S32768x1408, .f32⟩
  | .hbm, ⟨36, _⟩ => ⟨S_, .f32⟩
  | .hbm, ⟨37, _⟩ => ⟨S32768x1408, .f32⟩
  | .hbm, ⟨38, _⟩ => ⟨S32768x1408, .f32⟩
  | .hbm, ⟨39, _⟩ => ⟨S32768x1408, .f32⟩
  | .hbm, ⟨40, _⟩ => ⟨S32768x1408, .f32⟩
  | .hbm, ⟨41, _⟩ => ⟨S32768x1408, .f32⟩
  | .hbm, ⟨42, _⟩ => ⟨S32768x1024, .f32⟩
  | .hbm, ⟨43, _⟩ => ⟨S1x1x1024, .f32⟩
  | .hbm, ⟨44, _⟩ => ⟨S1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel3.lean ====
abbrev S32768x1024 : Shape := ⟨2, ![32768, 1024]⟩
abbrev S2x1024x1024 : Shape := ⟨3, ![2, 1024, 1024]⟩
abbrev S4x1024 : Shape := ⟨2, ![4, 1024]⟩
abbrev S4x2x1024 : Shape := ⟨3, ![4, 2, 1024]⟩
abbrev S4x2x1024x1408 : Shape := ⟨4, ![4, 2, 1024, 1408]⟩
abbrev S4x2x1408x1024 : Shape := ⟨4, ![4, 2, 1408, 1024]⟩
abbrev S4x2x1024x2816 : Shape := ⟨4, ![4, 2, 1024, 2816]⟩
abbrev S8x1024x2816 : Shape := ⟨3, ![8, 1024, 2816]⟩
abbrev S8x1408x1024 : Shape := ⟨3, ![8, 1408, 1024]⟩
abbrev S8x1x1024 : Shape := ⟨3, ![8, 1, 1024]⟩
abbrev S4x1x1024 : Shape := ⟨3, ![4, 1, 1024]⟩
abbrev S1024x1024 : Shape := ⟨2, ![1024, 1024]⟩
abbrev S1024x512 : Shape := ⟨2, ![1024, 512]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x1408x1024 : Shape := ⟨3, ![1, 1408, 1024]⟩
abbrev S256x512 : Shape := ⟨2, ![256, 512]⟩
abbrev S1x512x1024 : Shape := ⟨3, ![1, 512, 1024]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S256x1408 : Shape := ⟨2, ![256, 1408]⟩
abbrev S1408x1024 : Shape := ⟨2, ![1408, 1024]⟩

abbrev nBuf : Space → Nat
  | .hbm => 19
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x1024x1024, .f32⟩
  | .hbm, ⟨3, _⟩ => ⟨S4x1024, .f32⟩
  | .hbm, ⟨4, _⟩ => ⟨S4x2x1024, .f32⟩
  | .hbm, ⟨5, _⟩ => ⟨S4x2x1024, .f32⟩
  | .hbm, ⟨6, _⟩ => ⟨S4x2x1024x1408, .f32⟩
  | .hbm, ⟨7, _⟩ => ⟨S4x2x1024x1408, .f32⟩
  | .hbm, ⟨8, _⟩ => ⟨S4x2x1408x1024, .f32⟩
  | .hbm, ⟨9, _⟩ => ⟨S4x2x1024x2816, .f32⟩
  | .hbm, ⟨10, _⟩ => ⟨S4x2x1024x2816, .bf16⟩
  | .hbm, ⟨11, _⟩ => ⟨S8x1024x2816, .bf16⟩
  | .hbm, ⟨12, _⟩ => ⟨S4x2x1408x1024, .bf16⟩
  | .hbm, ⟨13, _⟩ => ⟨S8x1408x1024, .bf16⟩
  | .hbm, ⟨14, _⟩ => ⟨S8x1x1024, .f32⟩
  | .hbm, ⟨15, _⟩ => ⟨S8x1x1024, .f32⟩
  | .hbm, ⟨16, _⟩ => ⟨S2x1024x1024, .bf16⟩
  | .hbm, ⟨17, _⟩ => ⟨S4x1x1024, .f32⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024x2816, .bf16⟩
  | .local _ .vmem, ⟨10, _⟩ => ⟨S1x1408x1024, .bf16⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1408x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S2x1024x1024 : Shape := ⟨3, ![2, 1024, 1024]⟩
abbrev S4x1024 : Shape := ⟨2, ![4, 1024]⟩
abbrev S4x2x1024 : Shape := ⟨3, ![4, 2, 1024]⟩
abbrev S4x2x1024x1408 : Shape := ⟨4, ![4, 2, 1024, 1408]⟩
abbrev S4x2x1408x1024 : Shape := ⟨4, ![4, 2, 1408, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1x1024 : Shape := ⟨3, ![1, 1, 1024]⟩
abbrev S1x1x1024x1408 : Shape := ⟨4, ![1, 1, 1024, 1408]⟩
abbrev S1024x1408 : Shape := ⟨2, ![1024, 1408]⟩
abbrev S1x1x1408x1024 : Shape := ⟨4, ![1, 1, 1408, 1024]⟩
abbrev S1408x1024 : Shape := ⟨2, ![1408, 1024]⟩
abbrev S32768x1408 : Shape := ⟨2, ![32768, 1408]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x1024x1024, .f32⟩
  | .hbm, ⟨3, _⟩ => ⟨S4x1024, .f32⟩
  | .hbm, ⟨4, _⟩ => ⟨S4x2x1024, .f32⟩
  | .hbm, ⟨5, _⟩ => ⟨S4x2x1024, .f32⟩
  | .hbm, ⟨6, _⟩ => ⟨S4x2x1024x1408, .f32⟩
  | .hbm, ⟨7, _⟩ => ⟨S4x2x1024x1408, .f32⟩
  | .hbm, ⟨8, _⟩ => ⟨S4x2x1408x1024, .f32⟩
  | .hbm, ⟨9, _⟩ => ⟨S32768x1024, .f32⟩
  | .hbm, ⟨10, _⟩ => ⟨S1x1024x1024, .f32⟩
  | .hbm, ⟨11, _⟩ => ⟨S1024x1024, .f32⟩
  | .hbm, ⟨12, _⟩ => ⟨S32768x1024, .f32⟩
  | .hbm, ⟨13, _⟩ => ⟨S1x1024, .f32⟩
  | .hbm, ⟨14, _⟩ => ⟨S1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S1x1x1024, .f32⟩
  | .hbm, ⟨33, _⟩ => ⟨S1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1x1x1024x1408, .f32⟩
  | .hbm, ⟨51, _⟩ => ⟨S1024x1408, .f32⟩
  | .hbm, ⟨52, _⟩ => ⟨S1x1x1024x1408, .f32⟩
  | .hbm, ⟨53, _⟩ => ⟨S1024x1408, .f32⟩
  | .hbm, ⟨54, _⟩ => ⟨S1x1x1408x1024, .f32⟩
  | .hbm, ⟨55, _⟩ => ⟨S1408x1024, .f32⟩
  | .hbm, ⟨56, _⟩ => ⟨S32768x1408, .f32⟩
  | .hbm, ⟨57, _⟩ => ⟨S32768x1408, .f32⟩
  | .hbm, ⟨58, _⟩ => ⟨S32768x1408, .f32⟩
  | .hbm, ⟨59, _⟩ => ⟨S_, .f32⟩
  | .hbm, ⟨60, _⟩ => ⟨S32768x1408, .f32⟩
  | .hbm, ⟨61, _⟩ => ⟨S32768x1408, .f32⟩
  | .hbm, ⟨62, _⟩ => ⟨S_, .f32⟩
  | .hbm, ⟨63, _⟩ => ⟨S32768x1408, .f32⟩
  | .hbm, ⟨64, _⟩ => ⟨S32768x1408, .f32⟩
  | .hbm, ⟨65, _⟩ => ⟨S32768x1408, .f32⟩
  | .hbm, ⟨66, _⟩ => ⟨S32768x1408, .f32⟩
  | .hbm, ⟨67, _⟩ => ⟨S32768x1408, .f32⟩
  | .hbm, ⟨68, _⟩ => ⟨S32768x1024, .f32⟩
  | .hbm, ⟨69, _⟩ => ⟨S1x1x1024, .f32⟩
  | .hbm, ⟨70, _⟩ => ⟨S1024, .f32⟩
  | .hbm, ⟨71, _⟩ => ⟨S32768x1024, .f32⟩
  | .hbm, ⟨72, _⟩ => ⟨S_, .f32⟩
  | .hbm, ⟨73, _⟩ => ⟨S32768, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S_, .f32⟩
  | .hbm, ⟨79, _⟩ => ⟨S32768x1, .f32⟩
  | .hbm, ⟨80, _⟩ => ⟨S32768x1, .f32⟩
  | .hbm, ⟨81, _⟩ => ⟨S32768x1, .f32⟩
  | .hbm, ⟨82, _⟩ => ⟨S32768x1024, .f32⟩
  | .hbm, ⟨83, _⟩ => ⟨S32768x1024, .f32⟩
  | .hbm, ⟨84, _⟩ => ⟨S1x1024, .f32⟩
  | .hbm, ⟨85, _⟩ => ⟨S32768x1024, .f32⟩
  | .hbm, ⟨86, _⟩ => ⟨S32768x1024, .f32⟩
  | .hbm, ⟨87, _⟩ => ⟨S_, .f32⟩
  | .hbm, ⟨88, _⟩ => ⟨S32768x1024, .f32⟩
  | .hbm, ⟨89, _⟩ => ⟨S32768x1024, .f32⟩
  | .hbm, ⟨90, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S2x1024x1024 : Shape := ⟨3, ![2, 1024, 1024]⟩
abbrev S4x1024 : Shape := ⟨2, ![4, 1024]⟩
abbrev S4x2x1024 : Shape := ⟨3, ![4, 2, 1024]⟩
abbrev S4x2x1024x1408 : Shape := ⟨4, ![4, 2, 1024, 1408]⟩
abbrev S4x2x1408x1024 : Shape := ⟨4, ![4, 2, 1408, 1024]⟩
abbrev S4x2x1024x2816 : Shape := ⟨4, ![4, 2, 1024, 2816]⟩
abbrev S8x1024x2816 : Shape := ⟨3, ![8, 1024, 2816]⟩
abbrev S8x1408x1024 : Shape := ⟨3, ![8, 1408, 1024]⟩
abbrev S8x1x1024 : Shape := ⟨3, ![8, 1, 1024]⟩
abbrev S4x1x1024 : Shape := ⟨3, ![4, 1, 1024]⟩
abbrev S1024x1024 : Shape := ⟨2, ![1024, 1024]⟩
abbrev S1024x512 : Shape := ⟨2, ![1024, 512]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x1408x1024 : Shape := ⟨3, ![1, 1408, 1024]⟩
abbrev S256x512 : Shape := ⟨2, ![256, 512]⟩
abbrev S1x512x1024 : Shape := ⟨3, ![1, 512, 1024]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S256x1408 : Shape := ⟨2, ![256, 1408]⟩
abbrev S1408x1024 : Shape := ⟨2, ![1408, 1024]⟩

abbrev nBuf : Space → Nat
  | .hbm => 20
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S2x1024x1024, .f32⟩
  | .hbm, ⟨4, _⟩ => ⟨S4x1024, .f32⟩
  | .hbm, ⟨5, _⟩ => ⟨S4x2x1024, .f32⟩
  | .hbm, ⟨6, _⟩ => ⟨S4x2x1024, .f32⟩
  | .hbm, ⟨7, _⟩ => ⟨S4x2x1024x1408, .f32⟩
  | .hbm, ⟨8, _⟩ => ⟨S4x2x1024x1408, .f32⟩
  | .hbm, ⟨9, _⟩ => ⟨S4x2x1408x1024, .f32⟩
  | .hbm, ⟨10, _⟩ => ⟨S4x2x1024x2816, .f32⟩
  | .hbm, ⟨11, _⟩ => ⟨S4x2x1024x2816, .bf16⟩
  | .hbm, ⟨12, _⟩ => ⟨S8x1024x2816, .bf16⟩
  | .hbm, ⟨13, _⟩ => ⟨S4x2x1408x1024, .bf16⟩
  | .hbm, ⟨14, _⟩ => ⟨S8x1408x1024, .bf16⟩
  | .hbm, ⟨15, _⟩ => ⟨S8x1x1024, .f32⟩
  | .hbm, ⟨16, _⟩ => ⟨S8x1x1024, .f32⟩
  | .hbm, ⟨17, _⟩ => ⟨S2x1024x1024, .bf16⟩
  | .hbm, ⟨18, _⟩ => ⟨S4x1x1024, .f32⟩
  | .hbm, ⟨19, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024x2816, .bf16⟩
  | .local _ .vmem, ⟨10, _⟩ => ⟨S1x1408x1024, .bf16⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1408x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S32768x1024 : Shape := ⟨2, ![32768, 1024]⟩
abbrev S32768x512 : Shape := ⟨2, ![32768, 512]⟩
abbrev S2x1024x1024 : Shape := ⟨3, ![2, 1024, 1024]⟩
abbrev S4x1024 : Shape := ⟨2, ![4, 1024]⟩
abbrev S4x2x1024 : Shape := ⟨3, ![4, 2, 1024]⟩
abbrev S4x2x1024x1408 : Shape := ⟨4, ![4, 2, 1024, 1408]⟩
abbrev S4x2x1408x1024 : Shape := ⟨4, ![4, 2, 1408, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1x1024 : Shape := ⟨3, ![1, 1, 1024]⟩
abbrev S1x1x1024x1408 : Shape := ⟨4, ![1, 1, 1024, 1408]⟩
abbrev S1024x1408 : Shape := ⟨2, ![1024, 1408]⟩
abbrev S1x1x1408x1024 : Shape := ⟨4, ![1, 1, 1408, 1024]⟩
abbrev S1408x1024 : Shape := ⟨2, ![1408, 1024]⟩
abbrev S32768x1408 : Shape := ⟨2, ![32768, 1408]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S2x1024x1024, .f32⟩
  | .hbm, ⟨4, _⟩ => ⟨S4x1024, .f32⟩
  | .hbm, ⟨5, _⟩ => ⟨S4x2x1024, .f32⟩
  | .hbm, ⟨6, _⟩ => ⟨S4x2x1024, .f32⟩
  | .hbm, ⟨7, _⟩ => ⟨S4x2x1024x1408, .f32⟩
  | .hbm, ⟨8, _⟩ => ⟨S4x2x1024x1408, .f32⟩
  | .hbm, ⟨9, _⟩ => ⟨S4x2x1408x1024, .f32⟩
  | .hbm, ⟨10, _⟩ => ⟨S32768x512, .f32⟩
  | .hbm, ⟨11, _⟩ => ⟨S32768x512, .f32⟩
  | .hbm, ⟨12, _⟩ => ⟨S32768x1024, .f32⟩
  | .hbm, ⟨13, _⟩ => ⟨S1x1024x1024, .f32⟩
  | .hbm, ⟨14, _⟩ => ⟨S1024x1024, .f32⟩
  | .hbm, ⟨15, _⟩ => ⟨S32768x1024, .f32⟩
  | .hbm, ⟨16, _⟩ => ⟨S1x1024, .f32⟩
  | .hbm, ⟨17, _⟩ => ⟨S1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S1x1x1024, .f32⟩
  | .hbm, ⟨36, _⟩ => ⟨S1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S1x1x1024x1408, .f32⟩
  | .hbm, ⟨54, _⟩ => ⟨S1024x1408, .f32⟩
  | .hbm, ⟨55, _⟩ => ⟨S1x1x1024x1408, .f32⟩
  | .hbm, ⟨56, _⟩ => ⟨S1024x1408, .f32⟩
  | .hbm, ⟨57, _⟩ => ⟨S1x1x1408x1024, .f32⟩
  | .hbm, ⟨58, _⟩ => ⟨S1408x1024, .f32⟩
  | .hbm, ⟨59, _⟩ => ⟨S32768x1408, .f32⟩
  | .hbm, ⟨60, _⟩ => ⟨S32768x1408, .f32⟩
  | .hbm, ⟨61, _⟩ => ⟨S32768x1408, .f32⟩
  | .hbm, ⟨62, _⟩ => ⟨S_, .f32⟩
  | .hbm, ⟨63, _⟩ => ⟨S32768x1408, .f32⟩
  | .hbm, ⟨64, _⟩ => ⟨S32768x1408, .f32⟩
  | .hbm, ⟨65, _⟩ => ⟨S_, .f32⟩
  | .hbm, ⟨66, _⟩ => ⟨S32768x1408, .f32⟩
  | .hbm, ⟨67, _⟩ => ⟨S32768x1408, .f32⟩
  | .hbm, ⟨68, _⟩ => ⟨S32768x1408, .f32⟩
  | .hbm, ⟨69, _⟩ => ⟨S32768x1408, .f32⟩
  | .hbm, ⟨70, _⟩ => ⟨S32768x1408, .f32⟩
  | .hbm, ⟨71, _⟩ => ⟨S32768x1024, .f32⟩
  | .hbm, ⟨72, _⟩ => ⟨S1x1x1024, .f32⟩
  | .hbm, ⟨73, _⟩ => ⟨S1024, .f32⟩
  | .hbm, ⟨74, _⟩ => ⟨S32768x1024, .f32⟩
  | .hbm, ⟨75, _⟩ => ⟨S_, .f32⟩
  | .hbm, ⟨76, _⟩ => ⟨S32768, .f32⟩
  | .hbm, ⟨77, _⟩ => ⟨S32768x1, .f32⟩
  | .hbm, ⟨78, _⟩ => ⟨S_, .f32⟩
  | .hbm, ⟨79, _⟩ => ⟨S32768x1, .f32⟩
  | .hbm, ⟨80, _⟩ => ⟨S32768x1, .f32⟩
  | .hbm, ⟨81, _⟩ => ⟨S_, .f32⟩
  | .hbm, ⟨82, _⟩ => ⟨S32768x1, .f32⟩
  | .hbm, ⟨83, _⟩ => ⟨S32768x1, .f32⟩
  | .hbm, ⟨84, _⟩ => ⟨S32768x1, .f32⟩
  | .hbm, ⟨85, _⟩ => ⟨S32768x1024, .f32⟩
  | .hbm, ⟨86, _⟩ => ⟨S32768x1024, .f32⟩
  | .hbm, ⟨87, _⟩ => ⟨S1x1024, .f32⟩
  | .hbm, ⟨88, _⟩ => ⟨S32768x1024, .f32⟩
  | .hbm, ⟨89, _⟩ => ⟨S32768x1024, .f32⟩
  | .hbm, ⟨90, _⟩ => ⟨S_, .f32⟩
  | .hbm, ⟨91, _⟩ => ⟨S32768x1024, .f32⟩
  | .hbm, ⟨92, _⟩ => ⟨S32768x1024, .f32⟩
  | .hbm, ⟨93, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]
-- ==== Kernel5.lean ====
abbrev S32768x1024 : Shape := ⟨2, ![32768, 1024]⟩
abbrev S4x1024 : Shape := ⟨2, ![4, 1024]⟩
abbrev S2x1024x3072 : Shape := ⟨3, ![2, 1024, 3072]⟩
abbrev S4x1x1024 : Shape := ⟨3, ![4, 1, 1024]⟩
abbrev S1x1024x3072 : Shape := ⟨3, ![1, 1024, 3072]⟩
abbrev S1024x3072 : Shape := ⟨2, ![1024, 3072]⟩
abbrev S1024x2048 : Shape := ⟨2, ![1024, 2048]⟩
abbrev S1024x1024 : Shape := ⟨2, ![1024, 1024]⟩
abbrev S128x1024x256 : Shape := ⟨3, ![128, 1024, 256]⟩
abbrev S1x1x1024 : Shape := ⟨3, ![1, 1, 1024]⟩
abbrev S4x1024x256 : Shape := ⟨3, ![4, 1024, 256]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x256 : Shape := ⟨2, ![1024, 256]⟩
abbrev S1x1024x256 : Shape := ⟨3, ![1, 1024, 256]⟩

abbrev nBuf : Space → Nat
  | .hbm => 14
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S2x1024x3072, .f32⟩
  | .hbm, ⟨3, _⟩ => ⟨S4x1x1024, .f32⟩
  | .hbm, ⟨4, _⟩ => ⟨S1x1024x3072, .f32⟩
  | .hbm, ⟨5, _⟩ => ⟨S1024x3072, .f32⟩
  | .hbm, ⟨6, _⟩ => ⟨S1024x2048, .f32⟩
  | .hbm, ⟨7, _⟩ => ⟨S1024x2048, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S32768x1024, .bf16⟩
  | .hbm, ⟨12, _⟩ => ⟨S32768x1024, .bf16⟩
  | .hbm, ⟨13, _⟩ => ⟨S128x1024x256, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S4x1024x256, .bf16⟩
  | .local _ .vmem, ⟨10, _⟩ => ⟨S4x1024x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel5Ideal.lean ====
variable {F : FTy → Type} [FloatOps F] [Named F]
def κ : String → Option EReal := fun
  | "query_scale" => some ((((Real.sqrt 128) * (Real.log 2))⁻¹ : ℝ) : EReal)
  | _ => none
-- ==== Reference5Ideal.lean ====
abbrev S32768x1024 : Shape := ⟨2, ![32768, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x3072 : Shape := ⟨3, ![1, 1024, 3072]⟩
abbrev S1024x3072 : Shape := ⟨2, ![1024, 3072]⟩
abbrev S32768x3072 : Shape := ⟨2, ![32768, 3072]⟩
abbrev S128x256x1024 : Shape := ⟨3, ![128, 256, 1024]⟩
abbrev S128x1024x256 : Shape := ⟨3, ![128, 1024, 256]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S2x1024x3072, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x3072, .f32⟩
  | .hbm, ⟨22, _⟩ => ⟨S1024x3072, .f32⟩
  | .hbm, ⟨23, _⟩ => ⟨S32768x3072, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S128x256x1024, .f32⟩
  | .hbm, ⟨35, _⟩ => ⟨S128x1024x256, .f32⟩
  | .hbm, ⟨36, _⟩ => ⟨S32768x1024, .bf16⟩
  | .hbm, ⟨37, _⟩ => ⟨S32768x1024, .bf16⟩
  | .hbm, ⟨38, _⟩ => ⟨S128x1024x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel6.lean ====
abbrev S32768x1024 : Shape := ⟨2, ![32768, 1024]⟩
abbrev S4x1024 : Shape := ⟨2, ![4, 1024]⟩
abbrev S2x1024x3088 : Shape := ⟨3, ![2, 1024, 3088]⟩
abbrev S2x16x256 : Shape := ⟨3, ![2, 16, 256]⟩
abbrev S2x256 : Shape := ⟨2, ![2, 256]⟩
abbrev S4x1x1024 : Shape := ⟨3, ![4, 1, 1024]⟩
abbrev S1x1024x3088 : Shape := ⟨3, ![1, 1024, 3088]⟩
abbrev S1024x3088 : Shape := ⟨2, ![1024, 3088]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1024x512 : Shape := ⟨2, ![1024, 512]⟩
abbrev S1024x256 : Shape := ⟨2, ![1024, 256]⟩
abbrev S512x1024 : Shape := ⟨2, ![512, 1024]⟩
abbrev S4x128x1024 : Shape := ⟨3, ![4, 128, 1024]⟩
abbrev S_ : Shape := ⟨0, ![]⟩
abbrev S4x144x1024 : Shape := ⟨3, ![4, 144, 1024]⟩
abbrev S576x1024 : Shape := ⟨2, ![576, 1024]⟩
abbrev S4x128x1 : Shape := ⟨3, ![4, 128, 1]⟩
abbrev S4x144x1 : Shape := ⟨3, ![4, 144, 1]⟩
abbrev S576x1 : Shape := ⟨2, ![576, 1]⟩
abbrev S1024x2560 : Shape := ⟨2, ![1024, 2560]⟩
abbrev S1024x16 : Shape := ⟨2, ![1024, 16]⟩
abbrev S1024x128 : Shape := ⟨2, ![1024, 128]⟩
abbrev S128x256 : Shape := ⟨2, ![128, 256]⟩
abbrev S32768x512 : Shape := ⟨2, ![32768, 512]⟩
abbrev S128x576x256 : Shape := ⟨3, ![128, 576, 256]⟩
abbrev S32768x256 : Shape := ⟨2, ![32768, 256]⟩
abbrev S1024x1024 : Shape := ⟨2, ![1024, 1024]⟩
abbrev S1x1x1024 : Shape := ⟨3, ![1, 1, 1024]⟩
abbrev S4x576x256 : Shape := ⟨3, ![4, 576, 256]⟩
abbrev S256x1024 : Shape := ⟨2, ![256, 1024]⟩
abbrev S1x1024 : Shape := ⟨2, ![1, 1024]⟩
abbrev S256x1 : Shape := ⟨2, ![256, 1]⟩
abbrev S256x512 : Shape := ⟨2, ![256, 512]⟩
abbrev S576x256 : Shape := ⟨2, ![576, 256]⟩
abbrev S1x576x256 : Shape := ⟨3, ![1, 576, 256]⟩
abbrev S256x256 : Shape := ⟨2, ![256, 256]⟩
abbrev S256x128 : Shape := ⟨2, ![256, 128]⟩

abbrev nBuf : Space → Nat
  | .hbm => 51
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S2x1024x3088, .f32⟩
  | .hbm, ⟨3, _⟩ => ⟨S2x16x256, .f32⟩
  | .hbm, ⟨4, _⟩ => ⟨S2x256, .f32⟩
  | .hbm, ⟨5, _⟩ => ⟨S4x1x1024, .f32⟩
  | .hbm, ⟨6, _⟩ => ⟨S1x1024x3088, .f32⟩
  | .hbm, ⟨7, _⟩ => ⟨S1024x3088, .f32⟩
  | .hbm, ⟨8, _⟩ => ⟨S1x16x256, .f32⟩
  | .hbm, ⟨9, _⟩ => ⟨S16x256, .f32⟩
  | .hbm, ⟨10, _⟩ => ⟨S1x256, .f32⟩
  | .hbm, ⟨11, _⟩ => ⟨S256, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x256, .f32⟩
  | .hbm, ⟨16, _⟩ => ⟨S1024x256, .f32⟩
  | .hbm, ⟨17, _⟩ => ⟨S1024x512, .f32⟩
  | .hbm, ⟨18, _⟩ => ⟨S1024x512, .f32⟩
  | .hbm, ⟨19, _⟩ => ⟨S512x1024, .f32⟩
  | .hbm, ⟨20, _⟩ => ⟨S4x128x1024, .f32⟩
  | .hbm, ⟨21, _⟩ => ⟨S_, .i32⟩
  | .hbm, ⟨22, _⟩ => ⟨S_, .f32⟩
  | .hbm, ⟨23, _⟩ => ⟨S4x144x1024, .f32⟩
  | .hbm, ⟨24, _⟩ => ⟨S576x1024, .f32⟩
  | .hbm, ⟨25, _⟩ => ⟨S576x1024, .bf16⟩
  | .hbm, ⟨26, _⟩ => ⟨S_, .f32⟩
  | .hbm, ⟨27, _⟩ => ⟨S4x128x1, .f32⟩
  | .hbm, ⟨28, _⟩ => ⟨S_, .f32⟩
  | .hbm, ⟨29, _⟩ => ⟨S_, .f32⟩
  | .hbm, ⟨30, _⟩ => ⟨S4x144x1, .f32⟩
  | .hbm, ⟨31, _⟩ => ⟨S576x1, .f32⟩
  | .hbm, ⟨32, _⟩ => ⟨S1024x2560, .f32⟩
  | .hbm, ⟨33, _⟩ => ⟨S1024x2560, .bf16⟩
  | .hbm, ⟨34, _⟩ => ⟨S1024x16, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x128, .bf16⟩
  | .hbm, ⟨39, _⟩ => ⟨S_, .i32⟩
  | .hbm, ⟨40, _⟩ => ⟨S_, .f32⟩
  | .hbm, ⟨41, _⟩ => ⟨S128x256, .f32⟩
  | .hbm, ⟨42, _⟩ => ⟨S1x256, .f32⟩
  | .hbm, ⟨43, _⟩ => ⟨S32768x512, .bf16⟩
  | .hbm, ⟨44, _⟩ => ⟨S32768x512, .bf16⟩
  | .hbm, ⟨45, _⟩ => ⟨S128x576x256, .bf16⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S32768x512, .bf16⟩
  | .hbm, ⟨50, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x2560, .bf16⟩
  | .local _ .vmem, ⟨4, _⟩ => ⟨S576x1024, .bf16⟩
  | .local _ .vmem, ⟨5, _⟩ => ⟨S576x1, .f32⟩
  | .local _ .vmem, ⟨6, _⟩ => ⟨S1024x128, .bf16⟩
  | .local _ .vmem, ⟨7, _⟩ => ⟨S128x256, .f32⟩
  | .local _ .vmem, ⟨8, _⟩ => ⟨S1x256, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S4x576x256, .bf16⟩
  | .local _ .vmem, ⟨14, _⟩ => ⟨S4x576x256, .bf16⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x512, .bf16⟩
  | .local _ .vmem, ⟨22, _⟩ => ⟨S1024x512, .bf16⟩
  | .local _ .vmem, ⟨23, _⟩ => ⟨S1024x512, .f32⟩
  | .local _ .vmem, ⟨24, _⟩ => ⟨S1024x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_cst_0 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_call2_v0 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_call3_v0 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_v29_3 : Ref sig .tc := ⟨.hbm, 46, rfl⟩
abbrev main_v29_4 : Ref sig .tc := ⟨.hbm, 47, rfl⟩
abbrev main_v29_5 : Ref sig .tc := ⟨.hbm, 48, rfl⟩
abbrev main_v29_6 : Ref sig .tc := ⟨.hbm, 49, rfl⟩
abbrev main_v29_7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S576x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x576x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel6Ideal.lean ====
variable {F : FTy → Type} [FloatOps F] [Named F]
def κ : String → Option EReal := fun
  | "diff_scale" => some (((8 * (Real.log 2))⁻¹ : ℝ) : EReal)
  | _ => none
-- ==== Reference6Ideal.lean ====
abbrev S32768x1024 : Shape := ⟨2, ![32768, 1024]⟩
abbrev S4x1024 : Shape := ⟨2, ![4, 1024]⟩
abbrev S2x1024x3088 : Shape := ⟨3, ![2, 1024, 3088]⟩
abbrev S2x16x256 : Shape := ⟨3, ![2, 16, 256]⟩
abbrev S2x256 : Shape := ⟨2, ![2, 256]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x3088 : Shape := ⟨3, ![1, 1024, 3088]⟩
abbrev S1024x3088 : Shape := ⟨2, ![1024, 3088]⟩
abbrev S32768x3088 : Shape := ⟨2, ![32768, 3088]⟩
abbrev S32768x512 : Shape := ⟨2, ![32768, 512]⟩
abbrev S32768x256 : Shape := ⟨2, ![32768, 256]⟩
abbrev S32768x16 : Shape := ⟨2, ![32768, 16]⟩
abbrev S128x256x4x128 : Shape := ⟨4, ![128, 256, 4, 128]⟩
abbrev S128x4x128x256 : Shape := ⟨4, ![128, 4, 128, 256]⟩
abbrev S128x4x16x256 : Shape := ⟨4, ![128, 4, 16, 256]⟩
abbrev S128x4x144x256 : Shape := ⟨4, ![128, 4, 144, 256]⟩
abbrev S128x576x256 : Shape := ⟨3, ![128, 576, 256]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S2x1024x3088, .f32⟩
  | .hbm, ⟨3, _⟩ => ⟨S2x16x256, .f32⟩
  | .hbm, ⟨4, _⟩ => ⟨S2x256, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1024x3088, .f32⟩
  | .hbm, ⟨24, _⟩ => ⟨S1024x3088, .f32⟩
  | .hbm, ⟨25, _⟩ => ⟨S32768x3088, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x256, .f32⟩
  | .hbm, ⟨30, _⟩ => ⟨S32768x256, .f32⟩
  | .hbm, ⟨31, _⟩ => ⟨S32768x512, .f32⟩
  | .hbm, ⟨32, _⟩ => ⟨S32768x512, .f32⟩
  | .hbm, ⟨33, _⟩ => ⟨S32768x16, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S128x256x4x128, .f32⟩
  | .hbm, ⟨42, _⟩ => ⟨S128x4x128x256, .f32⟩
  | .hbm, ⟨43, _⟩ => ⟨S_, .f32⟩
  | .hbm, ⟨44, _⟩ => ⟨S128x4x16x256, .f32⟩
  | .hbm, ⟨45, _⟩ => ⟨S128x4x144x256, .f32⟩
  | .hbm, ⟨46, _⟩ => ⟨S128x576x256, .f32⟩
  | .hbm, ⟨47, _⟩ => ⟨S1x16x256, .f32⟩
  | .hbm, ⟨48, _⟩ => ⟨S16x256, .f32⟩
  | .hbm, ⟨49, _⟩ => ⟨S32768x256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S32768x256, .f32⟩
  | .hbm, ⟨54, _⟩ => ⟨S32768x256, .f32⟩
  | .hbm, ⟨55, _⟩ => ⟨S32768x256, .f32⟩
  | .hbm, ⟨56, _⟩ => ⟨S_, .f32⟩
  | .hbm, ⟨57, _⟩ => ⟨S32768x256, .f32⟩
  | .hbm, ⟨58, _⟩ => ⟨S32768x256, .f32⟩
  | .hbm, ⟨59, _⟩ => ⟨S32768x256, .f32⟩
  | .hbm, ⟨60, _⟩ => ⟨S32768x256, .f32⟩
  | .hbm, ⟨61, _⟩ => ⟨S32768x256, .i1⟩
  | .hbm, ⟨62, _⟩ => ⟨S32768x256, .f32⟩
  | .hbm, ⟨63, _⟩ => ⟨S32768x256, .f32⟩
  | .hbm, ⟨64, _⟩ => ⟨S32768x256, .f32⟩
  | .hbm, ⟨65, _⟩ => ⟨S32768x256, .f32⟩
  | .hbm, ⟨66, _⟩ => ⟨S32768x256, .f32⟩
  | .hbm, ⟨67, _⟩ => ⟨S32768x256, .f32⟩
  | .hbm, ⟨68, _⟩ => ⟨S32768x256, .f32⟩
  | .hbm, ⟨69, _⟩ => ⟨S32768x256, .f32⟩
  | .hbm, ⟨70, _⟩ => ⟨S32768x256, .f32⟩
  | .hbm, ⟨71, _⟩ => ⟨S_, .f32⟩
  | .hbm, ⟨72, _⟩ => ⟨S32768x256, .f32⟩
  | .hbm, ⟨73, _⟩ => ⟨S32768x256, .f32⟩
  | .hbm, ⟨74, _⟩ => ⟨S32768x512, .bf16⟩
  | .hbm, ⟨75, _⟩ => ⟨S32768x512, .bf16⟩
  | .hbm, ⟨76, _⟩ => ⟨S128x576x256, .bf16⟩
  | .hbm, ⟨77, _⟩ => ⟨S_, .f32⟩
  | .hbm, ⟨78, _⟩ => ⟨S32768x256, .f32⟩
  | .hbm, ⟨79, _⟩ => ⟨S32768x256, .f32⟩
  | .hbm, ⟨80, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Proof.KF.Trip.lean ====
/-
  The bit-level kernel runs: one trip of the loop over the key blocks, whatever it computes.
-/
module

public import proofs.«01_k».proof.Proof.Gen.Kernel.Skeleton
public import proofs.«01_k».proof.Proof.Gen.Kernel.Launch
public import Idealize.ShloMosaic.Lib.Tactic
public import Idealize.ShloMosaic.Lib.Pipeline.Sound

@[expose] public section

set_option maxRecDepth 65536

noncomputable section

namespace Cert.Proof.KF

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

/-! ## The ghost algebra: the rounds library's over the machine's cells -/

/-- The ghost algebra of the staging pipeline's cells, duties named by `Unit`. -/
abbrev UR (nD : Nat) (τ : Topo) : Type := URounds (GSem nD τ sig) Unit

local notation "𝕄" => MT nD τ sig Unit (Elt F) ℕ (UR nD τ) ℕ

/-- Its embedding into the algebra of the machine. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The label of the key loop counts its trips down. -/
abbrev 𝒱₀ : Variants := Variants.nat

variable (c : Dev nD)

/-- A memref's buffer held at contents `f`. -/
abbrev buf {sp : Space} {s : Shape} {e : EltTy} (M : Memref sig .tc sp s e) (f : Buf (Elt F) (M.view.loc (c : Thread nD τ))) : sProp 𝕄 :=
  iprop(M.view.loc (c : Thread nD τ) ↦[M.view.set]{fullShare} f)

section Trip

variable (i : grid0.Coords) (arg4 : Memref sig .tc .vmem S16384x128 .bf16) (harg4 : arg4.IsWhole) (arg5 : Memref sig .tc .vmem S64x128x256 .bf16) (harg5 : arg5.IsWhole)
  (arg3 : Memref sig .tc .vmem S4096x128 .bf16) (harg3 : arg3.IsWhole) (v9 : FVec F S264x256 .bf16) (arg7 : Memref sig .tc .vmem S16x128x256 .f32) (harg7 : arg7.IsWhole)

/-- The four buffers a trip of the key loop touches: the queries, the keys and the values as they are, the accumulator at anything. -/
def held (fk : Buf (Elt F) (arg4.view.loc (c : Thread nD τ))) (fv : Buf (Elt F) (arg5.view.loc (c : Thread nD τ))) (fq : Buf (Elt F) (arg3.view.loc (c : Thread nD τ))) : sProp 𝕄 :=
  iprop(buf c arg4 fk ∗ buf c arg5 fv ∗ buf c arg3 fq ∗ ∃ fa, buf c arg7 fa)

/-- One trip of the key loop runs, whatever it computes; its counter goes up by one. -/
theorem trip_runs (fk : Buf (Elt F) (arg4.view.loc (c : Thread nD τ))) (fv : Buf (Elt F) (arg5.view.loc (c : Thread nD τ))) (fq : Buf (Elt F) (arg3.view.loc (c : Thread nD τ)))
    (arg8 arg9 v0 : BitVec 32) (arg10 arg11 arg12 arg13 arg14 arg15 arg16 arg17 arg18 arg19 arg20 arg21 arg22 arg23 arg24 arg25 : FVec F S1x256 .f32)
    (hw : k0_chk1 i arg8) (bd : Option ℕ) (K : _ → sProp 𝕄) :
    iprop(held c arg4 arg5 arg3 arg7 fk fv fq ∗ (∀ r, ⌜r.snd.snd.snd.snd.snd.snd.snd.snd.snd.snd.snd.snd.snd.snd.snd.snd.fst = Scalar.addi arg8 1#32⌝ -∗ held c arg4 arg5 arg3 arg7 fk fv fq -∗ K r))
      ⊢ wp frame (wpE (defs₀ (F := F)) 𝒱₀ (c : Thread nD τ) bd) Set.univ
          (k0_part57 (F := F) i arg4 harg4 arg5 harg5 arg3 harg3 v9 arg7 harg7 arg8 arg9 arg10 arg11 arg12 arg13 arg14 arg15 arg16 arg17 arg18 arg19 arg20 arg21 arg22 arg23 arg24 arg25 v0) K := by
  unfold held buf
  iintro ⟨⟨Hk, Hv, Hq, ⟨%fa, Ha⟩⟩, HK⟩
  simp only [k0_part57_eq_skeleton]; unfold k0_part57_skel
  sl_exec_parts
  sl_step
  iapply HK
  · ipureintro; rfl
  isplitl [Hk]; · iexact Hk
  isplitl [Hv]; · iexact Hv
  isplitl [Hq]; · iexact Hq
  iexists _; iexact Ha

end Trip

end Cert.Proof.KF

end
-- ==== Proof.SB.Arith.lean ====
/-
  The key loop's words: the index of the key block that a chain reads in a trip, as a natural, its offset in rows, the
  loop's test and its counter.
-/
module

public import Idealize.ShloMosaic.Lib.Tactic

@[expose] public section

namespace Cert.Proof.SB

open Idealize.ShloMosaic

/-- The index of the key block that chain `r` of query tile `b` reads in the trip after `s` trips, as the kernel computes it. -/
def blkWord (b s : BitVec 32) (r : BitVec 32) : BitVec 32 :=
  Scalar.maxsi (Scalar.subi (Scalar.addi (Scalar.muli b 16#32) r) (Scalar.addi s 2#32)) 0#32

/-- As a natural: the query tile's first sub-tile plus the chain, less two and the trips run, cut off at zero. -/
theorem blkWord_toNat : ∀ b : Fin 4, ∀ s : Fin 64, ∀ r : Fin 16,
    (blkWord (BitVec.ofNat 32 b.val) (BitVec.ofNat 32 s.val) (BitVec.ofNat 32 r.val)).toNat = 16 * b.val + r.val - (s.val + 2) := by
  decide +kernel

/-- Its offset in rows. -/
theorem blkWord_mul_toNat : ∀ b : Fin 4, ∀ s : Fin 64, ∀ r : Fin 16,
    (Scalar.muli (blkWord (BitVec.ofNat 32 b.val) (BitVec.ofNat 32 s.val) (BitVec.ofNat 32 r.val)) 256#32).toNat
      = 256 * (16 * b.val + r.val - (s.val + 2)) := by
  decide +kernel

/-- A multiple of 256 as a 32-bit word is one as a natural. -/
theorem dvd_muli (x : BitVec 32) : 256 ∣ (Scalar.muli x 256#32).toNat := by
  have h : (Scalar.muli x 256#32).toNat = (x.toNat * 256) % 2 ^ 32 := by
    simp only [Scalar.muli, IntOp.muli, BitVec.toNat_mul]; rfl
  rw [h]; omega

/-- The loop's test passes only when trips are left: -/
theorem test_lt : ∀ b : Fin 4, ∀ s : Fin 64, ∀ g : Fin 2,
    Scalar.andi (Scalar.cmpi .slt (BitVec.ofNat 32 s.val)
      (Scalar.subi (Scalar.addi (Scalar.muli (BitVec.ofNat 32 b.val) 16#32) 16#32) 2#32)) (BitVec.ofNat 1 g.val) = 1#1
      ↔ s.val < 16 * b.val + 14 ∧ g.val = 1 := by
  decide +kernel

/-- and the counter goes up by one. -/
theorem addi_one (s : ℕ) : Scalar.addi (BitVec.ofNat 32 s) 1#32 = BitVec.ofNat 32 (s + 1) := by
  simp only [Scalar.addi, IntOp.addi]
  apply BitVec.eq_of_toNat_eq
  simp [BitVec.toNat_add, BitVec.toNat_ofNat]

/-- Every one-bit word is the word of its value. -/
theorem bit_eq (g : BitVec 1) : ∃ n : Fin 2, g = BitVec.ofNat 1 n.val :=
  ⟨⟨g.toNat, g.isLt⟩, by simp⟩

/-- The test, at naturals. -/
theorem test_iff (b s : ℕ) (hb : b < 4) (hs : s < 64) (g : BitVec 1) :
    Scalar.andi (Scalar.cmpi .slt (BitVec.ofNat 32 s)
      (Scalar.subi (Scalar.addi (Scalar.muli (BitVec.ofNat 32 b) 16#32) 16#32) 2#32)) g = 1#1
      ↔ s < 16 * b + 14 ∧ g = 1#1 := by
  obtain ⟨n, rfl⟩ := bit_eq g
  rw [test_lt ⟨b, hb⟩ ⟨s, hs⟩ n]
  have : (BitVec.ofNat 1 n.val = 1#1) ↔ n.val = 1 := by revert n; decide
  simp only [this]

end Cert.Proof.SB
-- ==== Proof.KF.Loop.lean ====
/-
  The bit-level kernel runs: the loop over the key blocks ends, whatever it computes.
-/
module

public import proofs.«01_k».proof.Proof.KF.Trip
public import proofs.«01_k».proof.Proof.SB.Arith

@[expose] public section

set_option maxRecDepth 65536

noncomputable section

namespace Cert.Proof.KF

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR nD τ) ℕ

/-- The check a trip makes of its counter holds as long as trips are left. -/
theorem chk_of_lt (i : grid0.Coords) (s : ℕ) (hs : s < 64) : k0_chk1 i (BitVec.ofNat 32 s) := by
  have hb : (i 2).val < 4 := (i 2).isLt
  have h5 : ∀ r : Fin 16, ∀ a, (k0_off5 i (BitVec.ofNat 32 s) (BitVec.ofNat 32 r.val)) a + S256x128.size a ≤ S16384x128.size a := by
    intro r a
    have hw := SB.blkWord_mul_toNat ⟨(i 2).val, hb⟩ ⟨s, hs⟩ r
    have hr := r.isLt
    fin_cases a
    · show (Scalar.muli (SB.blkWord (BitVec.ofNat 32 (i 2).val) (BitVec.ofNat 32 s) (BitVec.ofNat 32 r.val)) 256#32).toNat + 256 ≤ 16384
      rw [hw]; dsimp only; omega
    · exact (by decide : 0 + 128 ≤ 128)
  have h6 : ∀ r : Fin 16, ∀ a, (k0_off6 i (BitVec.ofNat 32 s) (BitVec.ofNat 32 r.val)) a + S1x128x256.size a ≤ S64x128x256.size a := by
    intro r a
    have hw := SB.blkWord_toNat ⟨(i 2).val, hb⟩ ⟨s, hs⟩ r
    have hr := r.isLt
    fin_cases a
    · show (SB.blkWord (BitVec.ofNat 32 (i 2).val) (BitVec.ofNat 32 s) (BitVec.ofNat 32 r.val)).toNat + 1 ≤ 64
      rw [hw]; dsimp only; omega
    · exact (by decide : 0 + 128 ≤ 128)
    · exact (by decide : 0 + 256 ≤ 256)
  exact ⟨SB.dvd_muli _, h5, h6, SB.dvd_muli _, SB.dvd_muli _, SB.dvd_muli _, SB.dvd_muli _, SB.dvd_muli _, SB.dvd_muli _,
    SB.dvd_muli _, SB.dvd_muli _, SB.dvd_muli _, SB.dvd_muli _, SB.dvd_muli _, SB.dvd_muli _, SB.dvd_muli _, SB.dvd_muli _, SB.dvd_muli _⟩

section Loop

variable (c : Dev nD) (i : grid0.Coords) (arg4 : Memref sig .tc .vmem S16384x128 .bf16) (harg4 : arg4.IsWhole) (arg5 : Memref sig .tc .vmem S64x128x256 .bf16) (harg5 : arg5.IsWhole)
  (arg3 : Memref sig .tc .vmem S4096x128 .bf16) (harg3 : arg3.IsWhole) (v9 : FVec F S264x256 .bf16) (arg7 : Memref sig .tc .vmem S16x128x256 .f32) (harg7 : arg7.IsWhole)
  (fk : Buf (Elt F) (arg4.view.loc (c : Thread nD τ))) (fv : Buf (Elt F) (arg5.view.loc (c : Thread nD τ))) (fq : Buf (Elt F) (arg3.view.loc (c : Thread nD τ)))

/-- The loop's label: from the four buffers it returns some values and leaves the buffers, the accumulator at anything. -/
def spec : sWPT 𝕄 ((Λ₀ F).Result 1) := do
  sWPT.consume (held c arg4 arg5 arg3 arg7 fk fv fq)
  let r ← sWPT.arbitrary
  sWPT.produce (held c arg4 arg5 arg3 arg7 fk fv fq)
  pure r

theorem spec_apply (K : (Λ₀ F).Result 1 → sProp 𝕄) :
    spec c arg4 arg5 arg3 arg7 fk fv fq K = iprop(held c arg4 arg5 arg3 arg7 fk fv fq ∗ ∀ r, held c arg4 arg5 arg3 arg7 fk fv fq -∗ K r) := rfl

/-- The label's body meets it at the variant of the trips that may still run. -/
theorem spec_le : ∀ k s, s + k = 16 * (i 2).val + 14 → ∀ (arg9 : BitVec 32) (arg10 arg11 arg12 arg13 arg14 arg15 arg16 arg17 arg18 arg19 arg20 arg21 arg22 arg23 arg24 arg25 : FVec F S1x256 .f32) K,
    spec c arg4 arg5 arg3 arg7 fk fv fq K
      ⊢ wp frame (wpE (defs₀ (F := F)) 𝒱₀ (c : Thread nD τ) (some k)) Set.univ
          (defs₀ (F := F) .tc 1 ⟨i, arg4, harg4, arg5, harg5, arg3, harg3, v9, arg7, harg7, BitVec.ofNat 32 s, arg9, arg10, arg11, arg12, arg13, arg14, arg15, arg16, arg17, arg18, arg19, arg20, arg21, arg22, arg23, arg24, arg25⟩) K := by
  have hb : (i 2).val < 4 := (i 2).isLt
  intro k
  induction k with
  | zero =>
    intro s hs arg9 arg10 arg11 arg12 arg13 arg14 arg15 arg16 arg17 arg18 arg19 arg20 arg21 arg22 arg23 arg24 arg25 K
    rw [spec_apply]
    show _ ⊢ wp frame (wpE (defs₀ (F := F)) 𝒱₀ (c : Thread nD τ) (some 0)) Set.univ
      (cc0_while1 i arg4 harg4 arg5 harg5 arg3 harg3 v9 arg7 harg7 (BitVec.ofNat 32 s) arg9 arg10 arg11 arg12 arg13 arg14 arg15 arg16 arg17 arg18 arg19 arg20 arg21 arg22 arg23 arg24 arg25) K
    simp only [cc0_while1_eq_skeleton]; unfold cc0_while1_skel
    have ht : ∀ g, ¬ Scalar.andi (Scalar.cmpi .slt (BitVec.ofNat 32 s)
        (Scalar.subi (Scalar.addi (Scalar.muli (BitVec.ofNat 32 (i 2).val) 16#32) 16#32) 2#32)) g = 1#1 := fun g h => by
      have := ((SB.test_iff (i 2).val s hb (by omega) g).1 h).1; omega
    simp only [ht, ↓reduceIte, Prog.pure_eq_ret]
    iintro ⟨H, Hk⟩
    rw [wp_ret]; imodintro
    iapply Hk; iexact H
  | succ k ih =>
    intro s hs arg9 arg10 arg11 arg12 arg13 arg14 arg15 arg16 arg17 arg18 arg19 arg20 arg21 arg22 arg23 arg24 arg25 K
    rw [spec_apply]
    show _ ⊢ wp frame (wpE (defs₀ (F := F)) 𝒱₀ (c : Thread nD τ) (some (k + 1))) Set.univ
      (cc0_while1 i arg4 harg4 arg5 harg5 arg3 harg3 v9 arg7 harg7 (BitVec.ofNat 32 s) arg9 arg10 arg11 arg12 arg13 arg14 arg15 arg16 arg17 arg18 arg19 arg20 arg21 arg22 arg23 arg24 arg25) K
    simp only [cc0_while1_eq_skeleton]; unfold cc0_while1_skel
    dsimp only
    split
    · rw [wp_bind]
      simp only [Prog.lift]
      iintro ⟨H, Hk⟩
      iapply (trip_runs c i arg4 harg4 arg5 harg5 arg3 harg3 v9 arg7 harg7 fk fv fq (BitVec.ofNat 32 s) arg9
        (Scalar.muli (BitVec.ofNat 32 (i 2).val) 16#32) arg10 arg11 arg12 arg13 arg14 arg15 arg16 arg17 arg18 arg19 arg20 arg21 arg22 arg23 arg24 arg25 (chk_of_lt i s (by omega)) (some (k + 1)))
      isplitl [H]; · iexact H
      iintro %r %hr H
      obtain ⟨r0, r1, r2, r3, r4, r5, r6, r7, r8, r9, r10, r11, r12, r13, r14, r15, r16, r17⟩ := r
      dsimp only at hr ⊢
      rw [hr, SB.addi_one]
      iapply (wp_call_spec 𝒱₀ (c : Thread nD τ) (some (k + 1)) Set.univ (spec c arg4 arg5 arg3 arg7 fk fv fq) k
        (fun u hu => by cases hu; exact Nat.lt_succ_self k) (ih (s + 1) (by omega) _ _ _ _ _ _ _ _ _ _ _ _ _ _ _ _ _))
      rw [spec_apply]
      isplitl [H]; · iexact H
      iintro %r' H
      rw [wp_ret]; imodintro
      iapply Hk; iexact H
    · simp only [Prog.pure_eq_ret]
      iintro ⟨H, Hk⟩
      rw [wp_ret]; imodintro
      iapply Hk; iexact H

end Loop

end Cert.Proof.KF

end
-- ==== Proof.KF.Body.lean ====
/-
  The bit-level kernel runs: its body at a grid point ends, whatever it computes.
-/
module

public import proofs.«01_k».proof.Proof.KF.Loop

@[expose] public section

set_option maxRecDepth 65536

noncomputable section

namespace Cert.Proof.KF

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR nD τ) ℕ

section Body

variable (c : Dev nD) (i : grid0.Coords) (arg3 : Memref sig .tc .vmem S4096x128 .bf16) (harg3 : arg3.IsWhole) (arg4 : Memref sig .tc .vmem S16384x128 .bf16) (harg4 : arg4.IsWhole)
  (arg5 : Memref sig .tc .vmem S64x128x256 .bf16) (harg5 : arg5.IsWhole) (arg6 : Memref sig .tc .vmem S4096x128 .bf16) (harg6 : arg6.IsWhole)
  (arg7 : Memref sig .tc .vmem S16x128x256 .f32) (harg7 : arg7.IsWhole)
  (fk : Buf (Elt F) (arg4.view.loc (c : Thread nD τ))) (fv : Buf (Elt F) (arg5.view.loc (c : Thread nD τ))) (fq : Buf (Elt F) (arg3.view.loc (c : Thread nD τ)))

/-- The part of the body that calls the loop: it leaves the buffers, the accumulator at anything. -/
theorem call_runs (fa : Buf (Elt F) (arg7.view.loc (c : Thread nD τ))) (v9 : FVec F S264x256 .bf16)
    (v1031 v1042 v1053 v1064 v1075 v1086 v1097 v1108 v1119 v1130 v1141 v1152 v1163 v1174 : FVec F S1x256 .f32) (v1183 : FVec F S128x256 .f32) (v1185 : FVec F S1x256 .f32) (v1194 : FVec F S128x256 .f32) (v1196 : FVec F S1x256 .f32) :
    (iprop(buf c arg4 fk ∗ buf c arg5 fv ∗ buf c arg3 fq ∗ buf c arg7 fa) : sProp 𝕄)
      ⊢ wp frame (wpE (defs₀ (F := F)) 𝒱₀ (c : Thread nD τ) none) Set.univ
          (k0_part35 (F := F) i arg3 harg3 arg4 harg4 arg5 harg5 arg6 harg6 arg7 harg7 v9 v1031 v1042 v1053 v1064 v1075 v1086 v1097 v1108 v1119 v1130 v1141 v1152 v1163 v1174 v1183 v1185 v1194 v1196)
          (fun _ => iprop(buf c arg4 fk ∗ buf c arg5 fv ∗ buf c arg3 fq ∗ ∃ fa', buf c arg7 fa')) := by
  unfold buf
  iintro ⟨Hk, Hv, Hq, Ha⟩
  simp only [k0_part35_eq_skeleton]; unfold k0_part35_skel
  sl_exec
  iapply (wp_call_spec 𝒱₀ (c : Thread nD τ) none Set.univ (spec c arg4 arg5 arg3 arg7 fk fv fq) (16 * (i 2).val + 14) (fun u hu => nomatch hu)
    (spec_le c i arg4 harg4 arg5 harg5 arg3 harg3 v9 arg7 harg7 fk fv fq (16 * (i 2).val + 14) 0 (Nat.zero_add _) _ v1031 v1042 v1053 v1064 v1075 v1086 v1097 v1108 v1119 v1130 v1141 v1152 v1163 v1174 v1185 v1196))
  rw [spec_apply]; unfold held buf
  isplitl [Hk Hv Hq Ha]
  · isplitl [Hk]; · iexact Hk
    isplitl [Hv]; · iexact Hv
    isplitl [Hq]; · iexact Hq
    iexists _; iexact Ha
  iintro %r ⟨Hk, Hv, Hq, ⟨%fa', Ha⟩⟩
  sl_exec
  sl_step
  isplitl [Hk]; · iexact Hk
  isplitl [Hv]; · iexact Hv
  isplitl [Hq]; · iexact Hq
  iexists _; iexact Ha

/-- The whole body runs: it leaves the queries, keys and values, the result and the accumulator at anything. -/
theorem body_runs (fo : Buf (Elt F) (arg6.view.loc (c : Thread nD τ))) (fa : Buf (Elt F) (arg7.view.loc (c : Thread nD τ))) (K : PUnit → sProp 𝕄) :
    iprop((buf c arg3 fq ∗ buf c arg4 fk ∗ buf c arg5 fv ∗ buf c arg6 fo ∗ buf c arg7 fa)
        ∗ ((buf c arg3 fq ∗ buf c arg4 fk ∗ buf c arg5 fv ∗ (∃ f, buf c arg6 f) ∗ (∃ f, buf c arg7 f)) -∗ K ⟨⟩))
      ⊢ wp frame (wpE (defs₀ (F := F)) 𝒱₀ (c : Thread nD τ) none) Set.univ
          (cc0_stick_breaking (F := F) i arg3 harg3 arg4 harg4 arg5 harg5 arg6 harg6 arg7 harg7) K := by
  have hcall := call_runs c i arg3 harg3 arg4 harg4 arg5 harg5 arg6 harg6 arg7 harg7 fk fv fq
  unfold buf at hcall ⊢
  iintro ⟨⟨Hq, Hk, Hv, Ho, Ha⟩, HK⟩
  simp only [cc0_stick_breaking_eq_skeleton]; unfold cc0_stick_breaking_skel
  sl_exec_parts
  sl_step
  iapply HK
  sl_close

end Body

end Cert.Proof.KF

end
-- ==== Proof.KI.Trip.lean ====
/-
  The idealized kernel: one trip of the loop over the key blocks, and what it computes. Each of the sixteen
  chains (256 queries each) takes one key block: its logits, their stick-breaking weights, the block's
  contribution to the chain's result, and the chain's running sum.
-/
module

public import proofs.«01_k».proof.Proof.Gen.KernelIdeal.Skeleton
public import proofs.«01_k».proof.Proof.Gen.KernelIdeal.Launch
public import Idealize.ShloMosaic.Lib.Tactic
public import Idealize.ShloMosaic.Lib.Pipeline.Sound

@[expose] public section

set_option maxRecDepth 65536

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

/-! ## The ghost algebra: the rounds library's over the machine's cells -/

/-- The ghost algebra of the staging pipeline's cells, duties named by `Unit`. -/
abbrev UR (nD : Nat) (τ : Topo) : Type := URounds (GSem nD τ sig) Unit

local notation "𝕄" => MT nD τ sig Unit (Elt F) ℕ (UR nD τ) ℕ

/-- The label of the key loop counts its trips down. -/
abbrev 𝒱₀ : Variants := Variants.nat

variable (c : Dev nD)

/-- A memref's buffer held at contents `f`. -/
abbrev buf {sp : Space} {s : Shape} {e : EltTy} (M : Memref sig .tc sp s e) (f : Buf (Elt F) (M.view.loc (c : Thread nD τ))) : sProp 𝕄 :=
  iprop(M.view.loc (c : Thread nD τ) ↦[M.view.set]{fullShare} f)

/-! ## The boxes -/

theorem accRect_inb (a : Fin 16) : ∀ x, (![a.val, 0, 0] : Fin 3 → Nat) x + S1x128x256.size x ≤ S16x128x256.size x := by
  intro x; have := a.isLt
  fin_cases x
  · show a.val + 1 ≤ 16; omega
  · exact (by decide : 0 + 128 ≤ 128)
  · exact (by decide : 0 + 256 ≤ 256)

/-- Chain `a`'s block of the accumulator. -/
abbrev accRect (a : Fin 16) : Rect S16x128x256 := Rect.unit ![a.val, 0, 0] S1x128x256.size (accRect_inb a)

theorem qRect_inb (a : Fin 16) : ∀ x, (![256 * a.val, 0] : Fin 2 → Nat) x + S256x128.size x ≤ S4096x128.size x := by
  intro x; have := a.isLt
  fin_cases x
  · show 256 * a.val + 256 ≤ 4096; omega
  · exact (by decide : 0 + 128 ≤ 128)

/-- Chain `a`'s block of the queries. -/
abbrev qRect (a : Fin 16) : Rect S4096x128 := Rect.unit ![256 * a.val, 0] S256x128.size (qRect_inb a)

/-- The sixteen blocks of the accumulator, written one after the other. -/
def accPieces (g : Fin 16 → Vec F S1x128x256 .f32) : List (View.Piece (Elt F) S16x128x256 .f32) :=
  [⟨accRect 15, g 15⟩, ⟨accRect 14, g 14⟩, ⟨accRect 13, g 13⟩, ⟨accRect 12, g 12⟩, ⟨accRect 11, g 11⟩, ⟨accRect 10, g 10⟩, ⟨accRect 9, g 9⟩, ⟨accRect 8, g 8⟩, ⟨accRect 7, g 7⟩, ⟨accRect 6, g 6⟩, ⟨accRect 5, g 5⟩, ⟨accRect 4, g 4⟩, ⟨accRect 3, g 3⟩, ⟨accRect 2, g 2⟩, ⟨accRect 1, g 1⟩, ⟨accRect 0, g 0⟩]

/-! ## One tile -/

/-- The logits of a key block against a chain's queries. -/
def logits (kb qb : Vec F S256x128 .bf16) : FVec F S256x256 .f32 := k0_pay314 kb qb

/-- The sums over the keys after each key, and over all of them, of the log of the kept share. -/
def sums (v9 : FVec F S264x256 .bf16) (z : FVec F S256x256 .f32) : FVec F S264x256 .f32 := k0_pay317 v9 z

/-- A tile's contribution to its chain's result. -/
def contrib (l : FVec F S1x256 .f32) (vt : Vec F S1x128x256 .bf16) (ok : BitVec 1) (v9 : FVec F S264x256 .bf16) (z : FVec F S256x256 .f32) : FVec F S128x256 .f32 :=
  k0_pay354 l (shapeCast S128x256 vt shapeCasts_S1x128x256_S128x256) ok (k0_pay316 z) (sums v9 z)

/-- The chain's running sum after the tile. -/
def nextLater (l : FVec F S1x256 .f32) (ok : BitVec 1) (v9 : FVec F S264x256 .bf16) (z : FVec F S256x256 .f32) : FVec F S1x256 .f32 :=
  k0_pay355 l ok (sums v9 z)

section Trip

variable (i : grid0.Coords) (arg4 : Memref sig .tc .vmem S16384x128 .bf16) (harg4 : arg4.IsWhole) (arg5 : Memref sig .tc .vmem S64x128x256 .bf16) (harg5 : arg5.IsWhole)
  (arg3 : Memref sig .tc .vmem S4096x128 .bf16) (harg3 : arg3.IsWhole) (v9 : FVec F S264x256 .bf16) (arg7 : Memref sig .tc .vmem S16x128x256 .f32) (harg7 : arg7.IsWhole)
  (fk : Buf (Elt F) (arg4.view.loc (c : Thread nD τ))) (fv : Buf (Elt F) (arg5.view.loc (c : Thread nD τ))) (fq : Buf (Elt F) (arg3.view.loc (c : Thread nD τ)))

/-- Chain `a`'s block of the accumulator's contents `f`. -/
def accBlk (f : Buf (Elt F) (arg7.view.loc (c : Thread nD τ))) (a : Fin 16) : Vec F S1x128x256 .f32 :=
  arg7.view.readAt (Elt F) (accRect a).toLoadRect f

/-- Chain `a`'s queries. -/
def qBlk (a : Fin 16) : Vec F S256x128 .bf16 := arg3.view.readAt (Elt F) (qRect a).toLoadRect fq

/-- The key block chain `a` takes in a trip. -/
def kBlk (arg8 : BitVec 32) (hw : k0_chk1 i arg8) (a : Fin 16) : Vec F S256x128 .bf16 :=
  arg4.view.readAt (Elt F) (Rect.unit (s := S16384x128) (k0_off5 i arg8 (BitVec.ofNat 32 a.val)) S256x128.size (k0_off5_inb i arg8 hw a)).toLoadRect fk

/-- The value block chain `a` takes in a trip. -/
def vBlk (arg8 : BitVec 32) (hw : k0_chk1 i arg8) (a : Fin 16) : Vec F S1x128x256 .bf16 :=
  arg5.view.readAt (Elt F) (Rect.unit (s := S64x128x256) (k0_off6 i arg8 (BitVec.ofNat 32 a.val)) S1x128x256.size (k0_off6_inb i arg8 hw a)).toLoadRect fv

/-- Whether chain `a`'s key block of a trip exists. -/
def okBit (arg8 : BitVec 32) (a : Fin 16) : BitVec 1 :=
  Scalar.cmpi .sge (Scalar.subi (Scalar.addi (Scalar.muli (BitVec.ofNat 32 (i 2).val) 16#32) (BitVec.ofNat 32 a.val)) (Scalar.addi arg8 2#32)) 0#32

/-- Chain `a`'s logits in a trip. -/
def tripZ (arg8 : BitVec 32) (hw : k0_chk1 i arg8) (a : Fin 16) : FVec F S256x256 .f32 :=
  logits (kBlk c i arg4 fk arg8 hw a) (qBlk c arg3 fq a)

/-- Chain `a`'s running sum after a trip. -/
def newLater (arg8 : BitVec 32) (hw : k0_chk1 i arg8) (L : Fin 16 → FVec F S1x256 .f32) (a : Fin 16) : FVec F S1x256 .f32 :=
  nextLater (L a) (okBit i arg8 a) v9 (tripZ c i arg4 arg3 fk fq arg8 hw a)

/-- Chain `a`'s block of the accumulator after a trip. -/
def newBlk (arg8 : BitVec 32) (hw : k0_chk1 i arg8) (L : Fin 16 → FVec F S1x256 .f32) (fa : Buf (Elt F) (arg7.view.loc (c : Thread nD τ))) (a : Fin 16) : Vec F S1x128x256 .f32 :=
  k0_pay404 (contrib (L a) (vBlk c i arg5 fv arg8 hw a) (okBit i arg8 a) v9 (tripZ c i arg4 arg3 fk fq arg8 hw a)) (accBlk c arg7 fa a)

/-- One trip of the key loop: it returns the chains' new running sums and leaves the new blocks of the accumulator. -/
theorem trip_runs (fa : Buf (Elt F) (arg7.view.loc (c : Thread nD τ)))
    (arg8 arg9 : BitVec 32) (L : Fin 16 → FVec F S1x256 .f32)
    (hw : k0_chk1 i arg8) (bd : Option ℕ) (K : _ → sProp 𝕄) :
    iprop((buf c arg4 fk ∗ buf c arg5 fv ∗ buf c arg3 fq ∗ buf c arg7 fa)
        ∗ (∀ r fa', ⌜r = ⟨newLater c i arg4 arg3 v9 fk fq arg8 hw L 0, newLater c i arg4 arg3 v9 fk fq arg8 hw L 1, newLater c i arg4 arg3 v9 fk fq arg8 hw L 2, newLater c i arg4 arg3 v9 fk fq arg8 hw L 3, newLater c i arg4 arg3 v9 fk fq arg8 hw L 4, newLater c i arg4 arg3 v9 fk fq arg8 hw L 5, newLater c i arg4 arg3 v9 fk fq arg8 hw L 6, newLater c i arg4 arg3 v9 fk fq arg8 hw L 7, newLater c i arg4 arg3 v9 fk fq arg8 hw L 8, newLater c i arg4 arg3 v9 fk fq arg8 hw L 9, newLater c i arg4 arg3 v9 fk fq arg8 hw L 10, newLater c i arg4 arg3 v9 fk fq arg8 hw L 11, newLater c i arg4 arg3 v9 fk fq arg8 hw L 12, newLater c i arg4 arg3 v9 fk fq arg8 hw L 13, newLater c i arg4 arg3 v9 fk fq arg8 hw L 14, newLater c i arg4 arg3 v9 fk fq arg8 hw L 15, Scalar.addi arg8 1#32, k0_pay421 (newLater c i arg4 arg3 v9 fk fq arg8 hw L 0) (newLater c i arg4 arg3 v9 fk fq arg8 hw L 1) (newLater c i arg4 arg3 v9 fk fq arg8 hw L 2) (newLater c i arg4 arg3 v9 fk fq arg8 hw L 3) (newLater c i arg4 arg3 v9 fk fq arg8 hw L 4) (newLater c i arg4 arg3 v9 fk fq arg8 hw L 5) (newLater c i arg4 arg3 v9 fk fq arg8 hw L 6) (newLater c i arg4 arg3 v9 fk fq arg8 hw L 7) (newLater c i arg4 arg3 v9 fk fq arg8 hw L 8) (newLater c i arg4 arg3 v9 fk fq arg8 hw L 9) (newLater c i arg4 arg3 v9 fk fq arg8 hw L 10) (newLater c i arg4 arg3 v9 fk fq arg8 hw L 11) (newLater c i arg4 arg3 v9 fk fq arg8 hw L 12) (newLater c i arg4 arg3 v9 fk fq arg8 hw L 13)⟩⌝
            -∗ ⌜fa' = arg7.view.writes (Elt F) fa (accPieces (newBlk c i arg4 arg5 arg3 v9 arg7 fk fv fq arg8 hw L fa))⌝
            -∗ (buf c arg4 fk ∗ buf c arg5 fv ∗ buf c arg3 fq ∗ buf c arg7 fa') -∗ K r))
      ⊢ wp frame (wpE (defs₀ (F := F)) 𝒱₀ (c : Thread nD τ) bd) Set.univ
          (k0_part57 (F := F) i arg4 harg4 arg5 harg5 arg3 harg3 v9 arg7 harg7 arg8 arg9 (L 0) (L 1) (L 2) (L 3) (L 4) (L 5) (L 6) (L 7) (L 8) (L 9) (L 10) (L 11) (L 12) (L 13) (L 14) (L 15) (Scalar.muli (BitVec.ofNat 32 (i 2).val) 16#32)) K := by
  unfold buf
  iintro ⟨⟨Hk, Hv, Hq, Ha⟩, HK⟩
  simp only [k0_part57_eq_skeleton]; unfold k0_part57_skel
  sl_exec_parts
  sl_step
  iapply HK
  · ipureintro; rfl
  · ipureintro; rfl
  isplitl [Hk]; · iexact Hk
  isplitl [Hv]; · iexact Hv
  isplitl [Hq]; · iexact Hq
  iexact Ha

end Trip

end Cert.Proof.KI

end
-- ==== Proof.KI.Loop.lean ====
/-
  The idealized kernel: its loop over the key blocks keeps an invariant of the running sums and the accumulator.
-/
module

public import proofs.«01_k».proof.Proof.SB.Arith
public import proofs.«01_k».proof.Proof.KI.Trip

@[expose] public section

set_option maxRecDepth 65536

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR nD τ) ℕ

/-- The check a trip makes of its counter holds as long as trips are left. -/
theorem chk_of_lt (i : grid0.Coords) (s : ℕ) (hs : s < 64) : k0_chk1 i (BitVec.ofNat 32 s) := by
  have hb : (i 2).val < 4 := (i 2).isLt
  have h5 : ∀ r : Fin 16, ∀ a, (k0_off5 i (BitVec.ofNat 32 s) (BitVec.ofNat 32 r.val)) a + S256x128.size a ≤ S16384x128.size a := by
    intro r a
    have hw := SB.blkWord_mul_toNat ⟨(i 2).val, hb⟩ ⟨s, hs⟩ r
    have hr := r.isLt
    fin_cases a
    · show (Scalar.muli (SB.blkWord (BitVec.ofNat 32 (i 2).val) (BitVec.ofNat 32 s) (BitVec.ofNat 32 r.val)) 256#32).toNat + 256 ≤ 16384
      rw [hw]; dsimp only; omega
    · exact (by decide : 0 + 128 ≤ 128)
  have h6 : ∀ r : Fin 16, ∀ a, (k0_off6 i (BitVec.ofNat 32 s) (BitVec.ofNat 32 r.val)) a + S1x128x256.size a ≤ S64x128x256.size a := by
    intro r a
    have hw := SB.blkWord_toNat ⟨(i 2).val, hb⟩ ⟨s, hs⟩ r
    have hr := r.isLt
    fin_cases a
    · show (SB.blkWord (BitVec.ofNat 32 (i 2).val) (BitVec.ofNat 32 s) (BitVec.ofNat 32 r.val)).toNat + 1 ≤ 64
      rw [hw]; dsimp only; omega
    · exact (by decide : 0 + 128 ≤ 128)
    · exact (by decide : 0 + 256 ≤ 256)
  exact ⟨SB.dvd_muli _, h5, h6, SB.dvd_muli _, SB.dvd_muli _, SB.dvd_muli _, SB.dvd_muli _, SB.dvd_muli _, SB.dvd_muli _,
    SB.dvd_muli _, SB.dvd_muli _, SB.dvd_muli _, SB.dvd_muli _, SB.dvd_muli _, SB.dvd_muli _, SB.dvd_muli _, SB.dvd_muli _, SB.dvd_muli _⟩

/-- The word that says whether some chain is still alive. -/
def liveWord (L : Fin 16 → FVec F S1x256 .f32) : BitVec 32 :=
  Scalar.extui (Scalar.cmpf .ogt (k0_pay3 (L 14) (L 15) (k0_pay421 (L 0) (L 1) (L 2) (L 3) (L 4) (L 5) (L 6) (L 7) (L 8) (L 9) (L 10) (L 11) (L 12) (L 13))) (Named.named κ "flush" 0xC3160000#32 : F .f32))

section Loop

variable (c : Dev nD) (i : grid0.Coords) (arg4 : Memref sig .tc .vmem S16384x128 .bf16) (harg4 : arg4.IsWhole) (arg5 : Memref sig .tc .vmem S64x128x256 .bf16) (harg5 : arg5.IsWhole)
  (arg3 : Memref sig .tc .vmem S4096x128 .bf16) (harg3 : arg3.IsWhole) (v9 : FVec F S264x256 .bf16) (arg7 : Memref sig .tc .vmem S16x128x256 .f32) (harg7 : arg7.IsWhole)
  (fk : Buf (Elt F) (arg4.view.loc (c : Thread nD τ))) (fv : Buf (Elt F) (arg5.view.loc (c : Thread nD τ))) (fq : Buf (Elt F) (arg3.view.loc (c : Thread nD τ)))
  (Inv : ℕ → (Fin 16 → FVec F S1x256 .f32) → Buf (Elt F) (arg7.view.loc (c : Thread nD τ)) → Prop)

/-- A trip keeps the invariant. -/
def Keeps : Prop := ∀ s (hs : s < 16 * (i 2).val + 14) (hw : k0_chk1 i (BitVec.ofNat 32 s)) L fa, Inv s L fa →
  Inv (s + 1) (newLater c i arg4 arg3 v9 fk fq (BitVec.ofNat 32 s) hw L)
    (arg7.view.writes (Elt F) fa (accPieces (newBlk c i arg4 arg5 arg3 v9 arg7 fk fv fq (BitVec.ofNat 32 s) hw L fa)))

/-- While trips are left some chain is alive. -/
def Alive : Prop := ∀ s, s < 16 * (i 2).val + 14 → ∀ L fa, Inv s L fa → Scalar.cmpi .sgt (liveWord L) 0#32 = 1#1

/-- The buffers before the loop. -/
def held (fa : Buf (Elt F) (arg7.view.loc (c : Thread nD τ))) : sProp 𝕄 :=
  iprop(buf c arg4 fk ∗ buf c arg5 fv ∗ buf c arg3 fq ∗ buf c arg7 fa)

/-- The buffers after the loop: the accumulator at contents of which the invariant holds at the last trip, if it held at the first. -/
def left (s : ℕ) (L : Fin 16 → FVec F S1x256 .f32) (fa : Buf (Elt F) (arg7.view.loc (c : Thread nD τ))) : sProp 𝕄 :=
  iprop(buf c arg4 fk ∗ buf c arg5 fv ∗ buf c arg3 fq ∗ ∃ fa', ⌜Inv s L fa → ∃ L', Inv (16 * (i 2).val + 14) L' fa'⌝ ∗ buf c arg7 fa')

/-- The loop's label: what it takes and what it leaves. -/
def spec (s : ℕ) (L : Fin 16 → FVec F S1x256 .f32) (fa : Buf (Elt F) (arg7.view.loc (c : Thread nD τ))) : sWPT 𝕄 ((Λ₀ F).Result 1) := do
  sWPT.consume (held c arg4 arg5 arg3 arg7 fk fv fq fa)
  let r ← sWPT.arbitrary
  sWPT.produce (left c i arg4 arg5 arg3 arg7 fk fv fq Inv s L fa)
  pure r

theorem spec_apply (s : ℕ) (L : Fin 16 → FVec F S1x256 .f32) (fa : Buf (Elt F) (arg7.view.loc (c : Thread nD τ))) (K : (Λ₀ F).Result 1 → sProp 𝕄) :
    spec c i arg4 arg5 arg3 arg7 fk fv fq Inv s L fa K
      = iprop(held c arg4 arg5 arg3 arg7 fk fv fq fa ∗ ∀ r, left c i arg4 arg5 arg3 arg7 fk fv fq Inv s L fa -∗ K r) := rfl

/-- The label's body meets it at the variant of the trips that may still run. -/
theorem spec_le (hkeep : Keeps c i arg4 arg5 arg3 v9 arg7 fk fv fq Inv) (hlive : Alive c i arg7 Inv) :
    ∀ k s, s + k = 16 * (i 2).val + 14 → ∀ (L : Fin 16 → FVec F S1x256 .f32) fa K,
    spec c i arg4 arg5 arg3 arg7 fk fv fq Inv s L fa K
      ⊢ wp frame (wpE (defs₀ (F := F)) 𝒱₀ (c : Thread nD τ) (some k)) Set.univ
          (defs₀ (F := F) .tc 1 ⟨i, arg4, harg4, arg5, harg5, arg3, harg3, v9, arg7, harg7, BitVec.ofNat 32 s, liveWord L, (L 0), (L 1), (L 2), (L 3), (L 4), (L 5), (L 6), (L 7), (L 8), (L 9), (L 10), (L 11), (L 12), (L 13), (L 14), (L 15)⟩) K := by
  have hb : (i 2).val < 4 := (i 2).isLt
  intro k
  induction k with
  | zero =>
    intro s hs L fa K
    rw [spec_apply]
    show _ ⊢ wp frame (wpE (defs₀ (F := F)) 𝒱₀ (c : Thread nD τ) (some 0)) Set.univ
      (cc0_while1 i arg4 harg4 arg5 harg5 arg3 harg3 v9 arg7 harg7 (BitVec.ofNat 32 s) (liveWord L) (L 0) (L 1) (L 2) (L 3) (L 4) (L 5) (L 6) (L 7) (L 8) (L 9) (L 10) (L 11) (L 12) (L 13) (L 14) (L 15)) K
    simp only [cc0_while1_eq_skeleton]; unfold cc0_while1_skel
    have ht : ∀ g, ¬ Scalar.andi (Scalar.cmpi .slt (BitVec.ofNat 32 s)
        (Scalar.subi (Scalar.addi (Scalar.muli (BitVec.ofNat 32 (i 2).val) 16#32) 16#32) 2#32)) g = 1#1 := fun g h => by
      have := ((SB.test_iff (i 2).val s hb (by omega) g).1 h).1; omega
    simp only [ht, ↓reduceIte, Prog.pure_eq_ret]
    unfold held left
    iintro ⟨⟨Hk, Hv, Hq, Ha⟩, HK⟩
    rw [wp_ret]; imodintro
    iapply HK
    isplitl [Hk]; · iexact Hk
    isplitl [Hv]; · iexact Hv
    isplitl [Hq]; · iexact Hq
    iexists fa
    isplitr
    · ipureintro
      intro h
      have e : s = 16 * (i 2).val + 14 := by omega
      exact ⟨L, e ▸ h⟩
    iexact Ha
  | succ k ih =>
    intro s hs L fa K
    rw [spec_apply]
    show _ ⊢ wp frame (wpE (defs₀ (F := F)) 𝒱₀ (c : Thread nD τ) (some (k + 1))) Set.univ
      (cc0_while1 i arg4 harg4 arg5 harg5 arg3 harg3 v9 arg7 harg7 (BitVec.ofNat 32 s) (liveWord L) (L 0) (L 1) (L 2) (L 3) (L 4) (L 5) (L 6) (L 7) (L 8) (L 9) (L 10) (L 11) (L 12) (L 13) (L 14) (L 15)) K
    simp only [cc0_while1_eq_skeleton]; unfold cc0_while1_skel
    dsimp only
    split
    · rw [wp_bind]
      simp only [Prog.lift]
      have hw := chk_of_lt i s (by omega)
      unfold held
      iintro ⟨H, HK⟩
      iapply (trip_runs c i arg4 harg4 arg5 harg5 arg3 harg3 v9 arg7 harg7 fk fv fq fa (BitVec.ofNat 32 s) (liveWord L) L hw (some (k + 1)))
      isplitl [H]; · iexact H
      iintro %r %fa' %hr %hf H
      subst hr
      dsimp only
      rw [SB.addi_one]
      iapply (wp_call_spec 𝒱₀ (c : Thread nD τ) (some (k + 1)) Set.univ
        (spec c i arg4 arg5 arg3 arg7 fk fv fq Inv (s + 1) (newLater c i arg4 arg3 v9 fk fq (BitVec.ofNat 32 s) hw L) fa') k
        (fun u hu => by cases hu; exact Nat.lt_succ_self k) (ih (s + 1) (by omega) (newLater c i arg4 arg3 v9 fk fq (BitVec.ofNat 32 s) hw L) fa'))
      rw [spec_apply]; unfold held left
      isplitl [H]; · iexact H
      iintro %r' ⟨Hk, Hv, Hq, ⟨%fa'', %h'', Ha⟩⟩
      rw [wp_ret]; imodintro
      iapply HK
      isplitl [Hk]; · iexact Hk
      isplitl [Hv]; · iexact Hv
      isplitl [Hq]; · iexact Hq
      iexists fa''
      isplitr
      · ipureintro
        intro h
        exact h'' (hf ▸ hkeep s (by omega) hw L fa h)
      iexact Ha
    · rename_i hn
      unfold held left
      iintro ⟨⟨Hk, Hv, Hq, Ha⟩, HK⟩
      rw [Prog.pure_eq_ret, wp_ret]; imodintro
      iapply HK
      isplitl [Hk]; · iexact Hk
      isplitl [Hv]; · iexact Hv
      isplitl [Hq]; · iexact Hq
      iexists fa
      isplitr
      · ipureintro
        intro h
        exact absurd ((SB.test_iff (i 2).val s hb (by omega) _).2 ⟨by omega, hlive s (by omega) L fa h⟩) hn
      iexact Ha

end Loop

end Cert.Proof.KI

end
-- ==== Proof.KI.Body.lean ====
/-
  The idealized kernel: its body at a grid point. The first pass takes each chain's diagonal key block and
  the one before it; the loop takes the others; the accumulator's blocks, transposed, are the result.
-/
module

public import proofs.«01_k».proof.Proof.KI.Loop
public import Idealize.ShloMosaic.Lib.WritesUnit

@[expose] public section

set_option maxRecDepth 65536

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR nD τ) ℕ

/-- Sixteen running sums as one family. -/
def fam (x0 x1 x2 x3 x4 x5 x6 x7 x8 x9 x10 x11 x12 x13 x14 x15 : FVec F S1x256 .f32) : Fin 16 → FVec F S1x256 .f32 :=
  ![x0, x1, x2, x3, x4, x5, x6, x7, x8, x9, x10, x11, x12, x13, x14, x15]

/-- The rows of the result chain `a` writes. -/
def outBlk (b : Vec F S1x128x256 .f32) : Vec F S256x128 .bf16 := k0_pay270 b

/-- The sixteen row blocks of the result, written one after the other. -/
def outPieces (g : Fin 16 → Vec F S256x128 .bf16) : List (View.Piece (Elt F) S4096x128 .bf16) :=
  [⟨qRect 15, g 15⟩, ⟨qRect 14, g 14⟩, ⟨qRect 13, g 13⟩, ⟨qRect 12, g 12⟩, ⟨qRect 11, g 11⟩, ⟨qRect 10, g 10⟩, ⟨qRect 9, g 9⟩, ⟨qRect 8, g 8⟩, ⟨qRect 7, g 7⟩, ⟨qRect 6, g 6⟩, ⟨qRect 5, g 5⟩, ⟨qRect 4, g 4⟩, ⟨qRect 3, g 3⟩, ⟨qRect 2, g 2⟩, ⟨qRect 1, g 1⟩, ⟨qRect 0, g 0⟩]

/-- The diagonal tile's sums: only the keys before the query count. -/
def diagSums (z : FVec F S256x256 .f32) : FVec F S264x256 .f32 := k0_pay71 (k0_pay4 (F := F)) (k0_pay5) z

/-- The diagonal tile's contribution. -/
def diagContrib (vt : Vec F S1x128x256 .bf16) (z : FVec F S256x256 .f32) : FVec F S128x256 .f32 :=
  k0_pay156 (k0_pay5) (shapeCast S128x256 vt shapeCasts_S1x128x256_S128x256) (k0_pay70 z) (diagSums z)

/-- The running sum after the diagonal tile. -/
def diagLater (z : FVec F S256x256 .f32) : FVec F S1x256 .f32 := k0_pay157 (diagSums z)

section Body

variable (c : Dev nD) (i : grid0.Coords) (arg3 : Memref sig .tc .vmem S4096x128 .bf16) (harg3 : arg3.IsWhole) (arg4 : Memref sig .tc .vmem S16384x128 .bf16) (harg4 : arg4.IsWhole)
  (arg5 : Memref sig .tc .vmem S64x128x256 .bf16) (harg5 : arg5.IsWhole) (arg6 : Memref sig .tc .vmem S4096x128 .bf16) (harg6 : arg6.IsWhole)
  (arg7 : Memref sig .tc .vmem S16x128x256 .f32) (harg7 : arg7.IsWhole)
  (fk : Buf (Elt F) (arg4.view.loc (c : Thread nD τ))) (fv : Buf (Elt F) (arg5.view.loc (c : Thread nD τ))) (fq : Buf (Elt F) (arg3.view.loc (c : Thread nD τ)))

/-- Chain `a`'s diagonal key block, -/
def diagK (a : Fin 16) : Vec F S256x128 .bf16 :=
  arg4.view.readAt (Elt F) (Rect.unit (s := S16384x128) (k0_off1 i (BitVec.ofNat 32 a.val)) S256x128.size (k0_off1_inb i a)).toLoadRect fk

/-- its value block, -/
def diagV (a : Fin 16) : Vec F S1x128x256 .bf16 :=
  arg5.view.readAt (Elt F) (Rect.unit (s := S64x128x256) (k0_off2 i (BitVec.ofNat 32 a.val)) S1x128x256.size (k0_off2_inb i a)).toLoadRect fv

/-- the key block before it, -/
def prevK (a : Fin 16) : Vec F S256x128 .bf16 :=
  arg4.view.readAt (Elt F) (Rect.unit (s := S16384x128) (k0_off3 i (BitVec.ofNat 32 a.val)) S256x128.size (k0_off3_inb i a)).toLoadRect fk

/-- and its value block. -/
def prevV (a : Fin 16) : Vec F S1x128x256 .bf16 :=
  arg5.view.readAt (Elt F) (Rect.unit (s := S64x128x256) (k0_off4 i (BitVec.ofNat 32 a.val)) S1x128x256.size (k0_off4_inb i a)).toLoadRect fv

/-- Whether there is a key block before chain `a`'s diagonal one. -/
def prevBit (a : Fin 16) : BitVec 1 :=
  Scalar.cmpi .sge (Scalar.subi (Scalar.addi (Scalar.muli (BitVec.ofNat 32 (i 2).val) 16#32) (BitVec.ofNat 32 a.val)) 1#32) 0#32

/-- The logits of the diagonal tile, -/
def diagZ (a : Fin 16) : FVec F S256x256 .f32 := logits (diagK c i arg4 fk a) (qBlk c arg3 fq a)

/-- and of the one before it. -/
def prevZ (a : Fin 16) : FVec F S256x256 .f32 := logits (prevK c i arg4 fk a) (qBlk c arg3 fq a)

/-- The running sums the first pass leaves. -/
def startLater (a : Fin 16) : FVec F S1x256 .f32 :=
  nextLater (diagLater (diagZ c i arg3 arg4 fk fq a)) (prevBit i a) k0_pay4 (prevZ c i arg3 arg4 fk fq a)

/-- The accumulator's block after the diagonal tile, -/
def diagBlk (a : Fin 16) : Vec F S1x128x256 .f32 :=
  k0_pay235 (diagContrib (diagV c i arg5 fv a) (diagZ c i arg3 arg4 fk fq a))

/-- and after the first pass. -/
def startBlk (x : Fin 16 → Vec F S1x128x256 .f32) (a : Fin 16) : Vec F S1x128x256 .f32 :=
  k0_pay404 (contrib (diagLater (diagZ c i arg3 arg4 fk fq a)) (prevV c i arg5 fv a) (prevBit i a) k0_pay4 (prevZ c i arg3 arg4 fk fq a)) (x a)

variable (Inv : FVec F S264x256 .bf16 → ℕ → (Fin 16 → FVec F S1x256 .f32) → Buf (Elt F) (arg7.view.loc (c : Thread nD τ)) → Prop)

/-- The part of the body that calls the loop. -/
theorem call_runs (hkeep : ∀ v9, Keeps c i arg4 arg5 arg3 v9 arg7 fk fv fq (Inv v9)) (hlive : ∀ v9, Alive c i arg7 (Inv v9))
    (fa : Buf (Elt F) (arg7.view.loc (c : Thread nD τ))) (v9 : FVec F S264x256 .bf16)
    (v1031 v1042 v1053 v1064 v1075 v1086 v1097 v1108 v1119 v1130 v1141 v1152 v1163 v1174 : FVec F S1x256 .f32) (v1183 : FVec F S128x256 .f32) (v1185 : FVec F S1x256 .f32) (v1194 : FVec F S128x256 .f32) (v1196 : FVec F S1x256 .f32) :
    (iprop(buf c arg4 fk ∗ buf c arg5 fv ∗ buf c arg3 fq ∗ buf c arg7 fa) : sProp 𝕄)
      ⊢ wp frame (wpE (defs₀ (F := F)) 𝒱₀ (c : Thread nD τ) none) Set.univ
          (k0_part35 (F := F) i arg3 harg3 arg4 harg4 arg5 harg5 arg6 harg6 arg7 harg7 v9 v1031 v1042 v1053 v1064 v1075 v1086 v1097 v1108 v1119 v1130 v1141 v1152 v1163 v1174 v1183 v1185 v1194 v1196)
          (fun r => iprop(∃ fa', ⌜Inv v9 0 (fam v1031 v1042 v1053 v1064 v1075 v1086 v1097 v1108 v1119 v1130 v1141 v1152 v1163 v1174 v1185 v1196)
                (arg7.view.writes (Elt F) fa [⟨accRect 15, k0_pay404 v1194 (accBlk c arg7 fa 15)⟩, ⟨accRect 14, k0_pay404 v1183 (accBlk c arg7 fa 14)⟩])
                  → ∃ L', Inv v9 (16 * (i 2).val + 14) L' fa'⌝
              ∗ ⌜r = outBlk (accBlk c arg7 fa' 0)⌝ ∗ buf c arg4 fk ∗ buf c arg5 fv ∗ buf c arg3 fq ∗ buf c arg7 fa')) := by
  unfold buf
  iintro ⟨Hk, Hv, Hq, Ha⟩
  simp only [k0_part35_eq_skeleton]; unfold k0_part35_skel
  sl_exec
  iapply (wp_call_spec 𝒱₀ (c : Thread nD τ) none Set.univ (spec c i arg4 arg5 arg3 arg7 fk fv fq (Inv v9) 0 (fam v1031 v1042 v1053 v1064 v1075 v1086 v1097 v1108 v1119 v1130 v1141 v1152 v1163 v1174 v1185 v1196) (arg7.view.writes (Elt F) fa [⟨accRect 15, k0_pay404 v1194 (accBlk c arg7 fa 15)⟩, ⟨accRect 14, k0_pay404 v1183 (accBlk c arg7 fa 14)⟩])) (16 * (i 2).val + 14) (fun u hu => nomatch hu)
    (spec_le c i arg4 harg4 arg5 harg5 arg3 harg3 v9 arg7 harg7 fk fv fq (Inv v9) (hkeep v9) (hlive v9) (16 * (i 2).val + 14) 0 (Nat.zero_add _) (fam v1031 v1042 v1053 v1064 v1075 v1086 v1097 v1108 v1119 v1130 v1141 v1152 v1163 v1174 v1185 v1196) _))
  rw [spec_apply]; unfold held left buf
  isplitl [Hk Hv Hq Ha]
  · isplitl [Hk]; · iexact Hk
    isplitl [Hv]; · iexact Hv
    isplitl [Hq]; · iexact Hq
    iexact Ha
  iintro %r ⟨Hk, Hv, Hq, ⟨%fa', %h, Ha⟩⟩
  sl_exec
  sl_step
  iexists fa'
  isplitr; · ipureintro; exact h
  isplitr; · ipureintro; rfl
  isplitl [Hk]; · iexact Hk
  isplitl [Hv]; · iexact Hv
  isplitl [Hq]; · iexact Hq
  iexact Ha

/-- The accumulator as the first pass leaves it. -/
def startAcc (fa : Buf (Elt F) (arg7.view.loc (c : Thread nD τ))) : Buf (Elt F) (arg7.view.loc (c : Thread nD τ)) :=
  arg7.view.writes (Elt F) fa (accPieces (startBlk c i arg3 arg4 arg5 fk fv fq (diagBlk c i arg3 arg4 arg5 fk fv fq)) ++ accPieces (diagBlk c i arg3 arg4 arg5 fk fv fq))

/-- A chain's block of the accumulator, read where the newest piece is the chain's own. -/
theorem accBlk_hit (fa : Buf (Elt F) (arg7.view.loc (c : Thread nD τ))) (a : Fin 16) (g : Vec F S1x128x256 .f32) (L : List (View.Piece (Elt F) S16x128x256 .f32)) :
    accBlk c arg7 (arg7.view.writes (Elt F) fa (⟨accRect a, g⟩ :: L)) a = g := by
  funext x
  exact View.read_writes_cons_unit_of_mem arg7.view fa (accRect_inb a) g L _ x rfl
    (fun y => by show (![a.val, 0, 0] : Fin 3 → ℕ) y + 1 * (x y).val = _; rw [Nat.one_mul])

/-- And where the newest piece is another chain's. -/
theorem accBlk_miss (fa : Buf (Elt F) (arg7.view.loc (c : Thread nD τ))) (a b : Fin 16) (hab : a ≠ b) (g : Vec F S1x128x256 .f32) (L : List (View.Piece (Elt F) S16x128x256 .f32)) :
    accBlk c arg7 (arg7.view.writes (Elt F) fa (⟨accRect b, g⟩ :: L)) a = accBlk c arg7 (arg7.view.writes (Elt F) fa L) a := by
  funext x
  refine View.read_writes_cons_unit_of_not_mem arg7.view fa (accRect_inb b) g L _ rfl 0 ?_
  have hv : a.val ≠ b.val := fun h => hab (Fin.ext h)
  have hx : (x 0).val < 1 := (x 0).isLt
  show a.val + 1 * (x 0).val < b.val ∨ b.val + 1 ≤ a.val + 1 * (x 0).val
  omega

/-- Chain `a`'s block after all the blocks of a list of chains that has it were written. -/
theorem accBlk_map (fa : Buf (Elt F) (arg7.view.loc (c : Thread nD τ))) (g : Fin 16 → Vec F S1x128x256 .f32) (L : List (View.Piece (Elt F) S16x128x256 .f32)) (a : Fin 16) :
    ∀ l : List (Fin 16), a ∈ l → accBlk c arg7 (arg7.view.writes (Elt F) fa (l.map (fun b => ⟨accRect b, g b⟩) ++ L)) a = g a
  | [], h => by simp at h
  | b :: l, h => by
    by_cases hab : a = b
    · subst hab; exact accBlk_hit c arg7 fa a (g a) _
    · exact (accBlk_miss c arg7 fa a b hab (g b) _).trans (accBlk_map fa g L a l ((List.mem_cons.1 h).resolve_left hab))

/-- Chain `a`'s block after all sixteen were written. -/
theorem accBlk_pieces (fa : Buf (Elt F) (arg7.view.loc (c : Thread nD τ))) (g : Fin 16 → Vec F S1x128x256 .f32) (L : List (View.Piece (Elt F) S16x128x256 .f32)) (a : Fin 16) :
    accBlk c arg7 (arg7.view.writes (Elt F) fa (accPieces g ++ L)) a = g a :=
  accBlk_map c arg7 fa g L a [15, 14, 13, 12, 11, 10, 9, 8, 7, 6, 5, 4, 3, 2, 1, 0] (by fin_cases a <;> decide)

/-- The pieces of the chains 13 to 0. -/
def firstPieces (g : Fin 16 → Vec F S1x128x256 .f32) : List (View.Piece (Elt F) S16x128x256 .f32) :=
  ([13, 12, 11, 10, 9, 8, 7, 6, 5, 4, 3, 2, 1, 0] : List (Fin 16)).map fun b => ⟨accRect b, g b⟩

/-- A block the chains 13 to 0 leave alone. -/
theorem accBlk_firstPieces (fa : Buf (Elt F) (arg7.view.loc (c : Thread nD τ))) (g : Fin 16 → Vec F S1x128x256 .f32) (L : List (View.Piece (Elt F) S16x128x256 .f32)) (a : Fin 16) :
    ∀ l : List (Fin 16), a ∉ l → accBlk c arg7 (arg7.view.writes (Elt F) fa (l.map (fun b => ⟨accRect b, g b⟩) ++ L)) a = accBlk c arg7 (arg7.view.writes (Elt F) fa L) a
  | [], _ => rfl
  | b :: l, h => (accBlk_miss c arg7 fa a b (fun e => h (e ▸ List.mem_cons_self)) (g b) _).trans
      (accBlk_firstPieces fa g L a l fun e => h (List.mem_cons_of_mem _ e))

/-- One more block of the first pass: it adds to what the diagonal tile left. -/
theorem first_step (l : List (Fin 16)) (a : Fin 16) (ha : a ∉ l) (L : List (View.Piece (Elt F) S16x128x256 .f32)) (Y : Vec F S1x128x256 .f32)
    (hL : L = l.map (fun b => ⟨accRect b, startBlk c i arg3 arg4 arg5 fk fv fq (diagBlk c i arg3 arg4 arg5 fk fv fq) b⟩) ++ accPieces (diagBlk c i arg3 arg4 arg5 fk fv fq))
    (hY : Y = startBlk c i arg3 arg4 arg5 fk fv fq (fun _ => arg7.view.readCov L (accRect a).toLoadRect) a) :
    ((⟨accRect a, Y⟩ : View.Piece (Elt F) S16x128x256 .f32) :: L) = (a :: l).map (fun b => ⟨accRect b, startBlk c i arg3 arg4 arg5 fk fv fq (diagBlk c i arg3 arg4 arg5 fk fv fq) b⟩) ++ accPieces (diagBlk c i arg3 arg4 arg5 fk fv fq) := by
  subst hL
  have e : arg7.view.readCov (l.map (fun b => ⟨accRect b, startBlk c i arg3 arg4 arg5 fk fv fq (diagBlk c i arg3 arg4 arg5 fk fv fq) b⟩) ++ accPieces (diagBlk c i arg3 arg4 arg5 fk fv fq)) (accRect a).toLoadRect = diagBlk c i arg3 arg4 arg5 fk fv fq a := by
    refine (accBlk_firstPieces c arg7 _ _ _ a l ha).trans ?_
    have := accBlk_pieces c arg7 (arg7.view.junk (Val := Elt F)) (diagBlk c i arg3 arg4 arg5 fk fv fq) [] a
    rwa [List.append_nil] at this
  have hY' : Y = startBlk c i arg3 arg4 arg5 fk fv fq (diagBlk c i arg3 arg4 arg5 fk fv fq) a := by
    rw [hY]; exact congrArg (fun x => startBlk c i arg3 arg4 arg5 fk fv fq (fun _ => x) a) e
  rw [hY']; rfl

/-- The first pass ends with the accumulator's last two blocks. -/
theorem start_of_first (fa : Buf (Elt F) (arg7.view.loc (c : Thread nD τ))) (L : Fin 16 → FVec F S1x256 .f32) (X : List (View.Piece (Elt F) S16x128x256 .f32)) (Q : Prop)
    (hL : L = startLater c i arg3 arg4 fk fq)
    (hX : X = firstPieces (startBlk c i arg3 arg4 arg5 fk fv fq (diagBlk c i arg3 arg4 arg5 fk fv fq)) ++ accPieces (diagBlk c i arg3 arg4 arg5 fk fv fq))
    (h : Inv k0_pay4 0 L (arg7.view.writes (Elt F) (arg7.view.writes (Elt F) fa X)
        [⟨accRect 15, startBlk c i arg3 arg4 arg5 fk fv fq (accBlk c arg7 (arg7.view.writes (Elt F) fa X)) 15⟩, ⟨accRect 14, startBlk c i arg3 arg4 arg5 fk fv fq (accBlk c arg7 (arg7.view.writes (Elt F) fa X)) 14⟩]) → Q)
    (h0 : Inv k0_pay4 0 (startLater c i arg3 arg4 fk fq) (startAcc c i arg3 arg4 arg5 arg7 fk fv fq fa)) : Q := by
  subst hL hX
  refine h ?_
  have e : ∀ a : Fin 16, a ∉ ([13, 12, 11, 10, 9, 8, 7, 6, 5, 4, 3, 2, 1, 0] : List (Fin 16)) →
      startBlk c i arg3 arg4 arg5 fk fv fq (accBlk c arg7 (arg7.view.writes (Elt F) fa (firstPieces (startBlk c i arg3 arg4 arg5 fk fv fq (diagBlk c i arg3 arg4 arg5 fk fv fq)) ++ accPieces (diagBlk c i arg3 arg4 arg5 fk fv fq)))) a
        = startBlk c i arg3 arg4 arg5 fk fv fq (diagBlk c i arg3 arg4 arg5 fk fv fq) a := by
    intro a ha
    unfold startBlk
    congr 1
    refine (accBlk_firstPieces c arg7 fa _ _ a _ ha).trans ?_
    have := accBlk_pieces c arg7 fa (diagBlk c i arg3 arg4 arg5 fk fv fq) [] a
    rwa [List.append_nil] at this
  rw [e 15 (by decide), e 14 (by decide), ← View.writes_append]
  exact h0

set_option maxHeartbeats 1000000 in
/-- The whole body runs: it leaves the result's rows as the accumulator's blocks after the loop. -/
theorem body_runs (hkeep : ∀ v9, Keeps c i arg4 arg5 arg3 v9 arg7 fk fv fq (Inv v9)) (hlive : ∀ v9, Alive c i arg7 (Inv v9))
    (fo : Buf (Elt F) (arg6.view.loc (c : Thread nD τ))) (fa : Buf (Elt F) (arg7.view.loc (c : Thread nD τ))) (K : PUnit → sProp 𝕄) :
    iprop((buf c arg3 fq ∗ buf c arg4 fk ∗ buf c arg5 fv ∗ buf c arg6 fo ∗ buf c arg7 fa)
        ∗ (∀ fo' fa', ⌜(Inv k0_pay4 0 (startLater c i arg3 arg4 fk fq) (startAcc c i arg3 arg4 arg5 arg7 fk fv fq fa) → ∃ L', Inv k0_pay4 (16 * (i 2).val + 14) L' fa')
            ∧ fo' = arg6.view.writes (Elt F) fo (outPieces (fun a => outBlk (accBlk c arg7 fa' a)))⌝
            -∗ (buf c arg3 fq ∗ buf c arg4 fk ∗ buf c arg5 fv ∗ buf c arg6 fo' ∗ buf c arg7 fa') -∗ K ⟨⟩))
      ⊢ wp frame (wpE (defs₀ (F := F)) 𝒱₀ (c : Thread nD τ) none) Set.univ
          (cc0_stick_breaking (F := F) i arg3 harg3 arg4 harg4 arg5 harg5 arg6 harg6 arg7 harg7) K := by
  have hcall := call_runs c i arg3 harg3 arg4 harg4 arg5 harg5 arg6 harg6 arg7 harg7 fk fv fq Inv hkeep hlive
  unfold buf at hcall ⊢
  iintro ⟨⟨Hq, Hk, Hv, Ho, Ha⟩, HK⟩
  simp only [cc0_stick_breaking_eq_skeleton]; unfold cc0_stick_breaking_skel
  sl_exec_parts
  sl_step
  iapply HK
  rotate_left
  · isplitl [Hk0_part35_4]; · iexact Hk0_part35_4
    isplitl [Hk0_part35_2]; · iexact Hk0_part35_2
    isplitl [Hk0_part35_3]; · iexact Hk0_part35_3
    isplitl [Ho]; · iexact Ho
    iexact Hk0_part35_5
  · ipureintro
    refine ⟨start_of_first c i arg3 arg4 arg5 arg7 fk fv fq Inv fa _ _ _ ?_ ?_ hk0_part35_0, ?_⟩
    · funext a; fin_cases a <;> rfl
    · clear hcall hk0_part35_0
      refine first_step c i arg3 arg4 arg5 arg7 fk fv fq [12, 11, 10, 9, 8, 7, 6, 5, 4, 3, 2, 1, 0] 13 (by decide) _ _ ?_ rfl
      refine first_step c i arg3 arg4 arg5 arg7 fk fv fq [11, 10, 9, 8, 7, 6, 5, 4, 3, 2, 1, 0] 12 (by decide) _ _ ?_ rfl
      refine first_step c i arg3 arg4 arg5 arg7 fk fv fq [10, 9, 8, 7, 6, 5, 4, 3, 2, 1, 0] 11 (by decide) _ _ ?_ rfl
      refine first_step c i arg3 arg4 arg5 arg7 fk fv fq [9, 8, 7, 6, 5, 4, 3, 2, 1, 0] 10 (by decide) _ _ ?_ rfl
      refine first_step c i arg3 arg4 arg5 arg7 fk fv fq [8, 7, 6, 5, 4, 3, 2, 1, 0] 9 (by decide) _ _ ?_ rfl
      refine first_step c i arg3 arg4 arg5 arg7 fk fv fq [7, 6, 5, 4, 3, 2, 1, 0] 8 (by decide) _ _ ?_ rfl
      refine first_step c i arg3 arg4 arg5 arg7 fk fv fq [6, 5, 4, 3, 2, 1, 0] 7 (by decide) _ _ ?_ rfl
      refine first_step c i arg3 arg4 arg5 arg7 fk fv fq [5, 4, 3, 2, 1, 0] 6 (by decide) _ _ ?_ rfl
      refine first_step c i arg3 arg4 arg5 arg7 fk fv fq [4, 3, 2, 1, 0] 5 (by decide) _ _ ?_ rfl
      refine first_step c i arg3 arg4 arg5 arg7 fk fv fq [3, 2, 1, 0] 4 (by decide) _ _ ?_ rfl
      refine first_step c i arg3 arg4 arg5 arg7 fk fv fq [2, 1, 0] 3 (by decide) _ _ ?_ rfl
      refine first_step c i arg3 arg4 arg5 arg7 fk fv fq [1, 0] 2 (by decide) _ _ ?_ rfl
      refine first_step c i arg3 arg4 arg5 arg7 fk fv fq [0] 1 (by decide) _ _ ?_ rfl
      refine first_step c i arg3 arg4 arg5 arg7 fk fv fq [] 0 (by decide) _ _ ?_ rfl
      rfl
    · subst hk0_part35_1; rfl

end Body

end Cert.Proof.KI

end
-- ==== Proof.KI.Frame.lean ====
/-
  The idealized kernel's run: the launch over the 64 grid points, the result's contents not named.
-/
module

public import proofs.«01_k».proof.Proof.KI.Body
public import proofs.«01_k».proof.Proof.Gen.KernelIdeal.Points
public import Idealize.ShloMosaic.Lib.Pipeline.Frame
public import Idealize.ShloMosaic.PureOps.Ideal
public import proofs.«01_k».proof.Defs

@[expose] public section

set_option maxRecDepth 65536

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F] [∀ e, Nonempty (Elt F e)]

local notation "𝕄" => MT nD τ sig Unit (Elt F) ℕ (UR nD τ) ℕ

variable (m : (ℓ : Loc nD τ sig) → Buf (Elt F) ℓ) (ρ : Dev nD → PrngReg)

/-- The proof data: the arrays as the launch finds them, what the body leaves not named, the accumulator at anything between points. -/
def dats (p : Fin 1) (c : Dev nD) : Dat τ (Elt F) Unit ℕ (UR nD τ) ℕ (cfgs (F := F) p) c :=
  match p with
  | 0 =>
    { A := fun w => m (((cfg0 (F := F)).win w).arr.view.loc (c : Thread nD τ))
      after := Pipeline.Dat.unnamed
      Φ := fun _ => Pipeline.ΦA spec0 c
      q := fun _ => fullShare
      owed := fun _ => 0 }

/-- The accumulator's buffer, whole, as the launch holds it. -/
theorem whole_held (c : Dev nD) (f : Buf (Elt F) ((c : Thread nD τ).loc cc0_scratch0)) :
    (buf c (Memref.whole cc0_scratch0) f : sProp 𝕄) = iprop((c : Thread nD τ).loc cc0_scratch0 ↦{fullShare} f) := by
  have h : (View.whole cc0_scratch0).set = Finset.univ := View.set_whole _
  unfold buf
  simp only [Memref.view_whole, h]

theorem whole_intro (c : Dev nD) (f : Buf (Elt F) ((c : Thread nD τ).loc cc0_scratch0)) :
    (iprop((c : Thread nD τ).loc cc0_scratch0 ↦{fullShare} f) : sProp 𝕄) ⊢ buf c (Memref.whole cc0_scratch0) f := by rw [whole_held]

theorem whole_elim (c : Dev nD) (f : Buf (Elt F) ((c : Thread nD τ).loc cc0_scratch0)) :
    (buf c (Memref.whole cc0_scratch0) f : sProp 𝕄) ⊢ iprop((c : Thread nD τ).loc cc0_scratch0 ↦{fullShare} f) := by rw [whole_held]

/-- A buffer held is a buffer owned at what it reads. -/
theorem owns_intro (c : Dev nD) {s : Shape} {e : EltTy} (M : Memref sig .tc .vmem s e) (f : Buf (Elt F) (M.view.loc (c : Thread nD τ))) :
    (buf c M f : sProp 𝕄) ⊢ iprop(∃ X, owns (c : Thread nD τ) M fullShare X) := by
  simp only [owns]
  iintro H
  iexists (M.view.read (Elt F) f); iexists f
  isplitr; · ipureintro; rfl
  iexact H

/-- The body at a grid point, every window's contents forgotten. -/
theorem body_obligation (c : Dev nD) : BodyObligationLoose (dats m 0 c) (defs₀ (F := F)) 𝒱₀ () Set.univ (fun _ => true) := by
  intro t
  rw [bigSep_W0]
  show iprop(Pipeline.ΦA spec0 c ∗ (dats m 0 c).owesAt () t.castSucc ∗ (∃ X, owns c (st0_0 t) fullShare X) ∗ (∃ X, owns c (st0_1 t) fullShare X) ∗ (∃ X, owns c (st0_2 t) fullShare X) ∗ (∃ X, owns c (st0_3 t) fullShare X))
    ⊢ wp frame (wpE (defs₀ (F := F)) 𝒱₀ (c : Thread nD τ) none) Set.univ (bodyAt0 t)
      (fun _ => iprop(Pipeline.ΦA spec0 c ∗ (dats m 0 c).owesAt () t.castSucc ∗ (∃ X, owns c (st0_0 t) fullShare X) ∗ (∃ X, owns c (st0_1 t) fullShare X) ∗ (∃ X, owns c (st0_2 t) fullShare X) ∗ (∃ X, owns c (st0_3 t) fullShare X)))
  unfold Pipeline.ΦA; rw [scopedRest0_eq]
  iintro ⟨⟨⟨%fa, Ha⟩, Hr⟩, Hd, ⟨%X0, H0⟩, ⟨%X1, H1⟩, ⟨%X2, H2⟩, ⟨%X3, H3⟩⟩
  unfold owns
  icases H0 with ⟨%f0, -, H0⟩
  icases H1 with ⟨%f1, -, H1⟩
  icases H2 with ⟨%f2, -, H2⟩
  icases H3 with ⟨%f3, -, H3⟩
  iapply (body_runs c (grid0.coords t) (st0_0 t) (hstage0_0 (((cfg0 (F := F)).slots t 0).cast nbuf0_0)) (st0_1 t) (hstage0_1 (((cfg0 (F := F)).slots t 1).cast nbuf0_1))
    (st0_2 t) (hstage0_2 (((cfg0 (F := F)).slots t 2).cast nbuf0_2)) (st0_3 t) (hstage0_3 (((cfg0 (F := F)).slots t 3).cast nbuf0_3)) (Memref.whole cc0_scratch0) (Memref.isWhole_whole _) f1 f2 f0
    (fun _ _ _ _ => False) (fun _ _ _ _ _ _ h => h) (fun _ _ _ _ _ h => h.elim) f3 fa)
  isplitl [H0 H1 H2 H3 Ha]
  · isplitl [H0]; · iexact H0
    isplitl [H1]; · iexact H1
    isplitl [H2]; · iexact H2
    isplitl [H3]; · iexact H3
    iapply (whole_intro c fa); iexact Ha
  iintro %f3' %fa' - ⟨H0, H1, H2, H3, Ha⟩
  isplitl [Ha Hr]
  · isplitl [Ha]
    · iexists fa'; iapply (whole_elim c fa'); iexact Ha
    iexact Hr
  isplitl [Hd]; · iexact Hd
  isplitl [H0]; · iapply (owns_intro c (st0_0 t) f0); iexact H0
  isplitl [H1]; · iapply (owns_intro c (st0_1 t) f1); iexact H1
  isplitl [H2]; · iapply (owns_intro c (st0_2 t) f2); iexact H2
  iapply (owns_intro c (st0_3 t) f3'); iexact H3

/-- The run: the argument arrays end as they began and every counter reads zero. -/
theorem run_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget (cfgs (F := F)) (dats m) 0 launch0 defs₀ 𝒱₀ (fun _ => true) m ρ main
    (hbody := body_obligation m)
    (hshare := fun c w => by unfold Dat.share; split <;> rfl) (howed := fun _ _ => rfl)
    (V := fun c b => m ((c : Thread nD τ).loc b))
    (hmain := Pipeline.hmain_region _ _ _ _ m main (fun c => rfl))
    (hA := fun _ _ => rfl) (hΦ := fun _ _ => rfl)
    (Q' := _) (hQ' := fun r h => ⟨fun c => ⟨Pipeline.RDat.FramePost.arr_in h.1 c (0 : Fin 4) rfl, Pipeline.RDat.FramePost.arr_in h.1 c (1 : Fin 4) rfl,
      Pipeline.RDat.FramePost.arr_in h.1 c (2 : Fin 4) rfl⟩, h.2⟩)

/-- The frame of the idealized kernel. -/
theorem frame_ideal : Cert.quiescent_KernelIdeal (hKernelIdeal := Cert.KernelIdeal.Gen.facts) := fun m g _ => run_main (F := Ideal) m g

end Cert.Proof.KI

end
-- ==== Proof.RI.Frame.lean ====
module

public import proofs.«01_k».proof.Defs
public import proofs.«01_k».proof.Proof.Gen.ReferenceIdeal
public import proofs.«01_k».proof.Proof.Gen.ReferenceIdeal.Run
public import Idealize.ShloMosaic.PureOps.Ideal
public import Idealize.ShloMosaic.Lib.Quiescent
public import Idealize.ShloMosaic.Lib.Claim

/-!
# The reference: it runs, its arguments stay, every counter ends at zero

The reference has no semaphore at all, so its counters are zero at every state.
-/

@[expose] public section

noncomputable section

namespace Cert.Proof.RI

open Cert.ReferenceIdeal Idealize.ShloMosaic Idealize.ShloMosaic.TcCoe Idealize.SL.Sem

theorem runs (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (Cert.ReferenceIdeal.Value.run m g) fun r h =>
    ⟨fun c => (h c).2, sem_eq_zero_of_no_sems (by decide) r.2⟩

theorem frame_reference : Cert.quiescent_ReferenceIdeal (hReferenceIdeal := Cert.ReferenceIdeal.Gen.facts) :=
  fun m g _ => runs m g

/-- The side conditions of the precondition's function. -/
theorem pre_facts : Cert.Pre_finite.Facts where
  bitsLt_bf16_f32 := by decide
  bcast_S_S32768x1024 := by decide

theorem frame_reference_finite :
    Cert.quiescent_ReferenceIdeal_pre_finite (hReferenceIdeal := Cert.ReferenceIdeal.Gen.facts)
      (hPre_finite := pre_facts) :=
  fun m g _ => runs m g

theorem names_kept : Cert.preserves_Kernel_KernelIdeal :=
  ⟨IdealRules.named_const.statement Cert.KernelIdeal.κ "inv_ln2" .f32 0x3FB8AA3B#32
      (((Real.log 2)⁻¹ : ℝ) : EReal) rfl,
    IdealRules.named_const.statement Cert.KernelIdeal.κ "flush" .f32 0xC3160000#32 ⊥ rfl⟩

end Cert.Proof.RI

end
-- ==== Proof.SB.Math.lean ====
/-
  Stick-breaking attention over the reals: the logarithms to base 2 of a key's share and of what it leaves,
  their sums over the later keys, the weights, and the sums that blocks of 256 keys make of them.
-/
module

public import Idealize.ShloMosaic.PureOps.Ideal

@[expose] public section

noncomputable section

namespace Cert.Proof.SB

open Finset

/-- The logarithm of the share a key takes of what is left, at logit `z`. -/
def logBeta (z : ℝ) : ℝ := min z 0 - Real.log (1 + Real.rpow 2 (0 - |z|)) * (Real.log 2)⁻¹

/-- The logarithm of the share it leaves. -/
def logKeep (z : ℝ) : ℝ := logBeta z - z

theorem log_two_pos : 0 < Real.log 2 := Real.log_pos (by norm_num)

/-- A power of two, as an exponential. -/
theorem exp_log_two (x : ℝ) : Real.exp (Real.log 2 * x) = Real.rpow 2 x :=
  (Real.rpow_def_of_pos (by norm_num) x).symm

theorem min_sub_self (z : ℝ) : min z 0 - z = -(max z 0) := by
  have := min_add_max z 0; linarith

/-- What a key leaves, to base e: minus the softplus of its logit. -/
theorem logKeep_nat (z : ℝ) :
    Real.log 2 * logKeep z = -(max (Real.log 2 * z) 0 + Real.log (1 + Real.exp (-|Real.log 2 * z|))) := by
  have h2 := log_two_pos
  have e1 : -|Real.log 2 * z| = Real.log 2 * (0 - |z|) := by rw [abs_mul, abs_of_pos h2]; ring
  have e2 : max (Real.log 2 * z) 0 = Real.log 2 * max z 0 := by
    rw [mul_max_of_nonneg _ _ h2.le, mul_zero]
  rw [e1, exp_log_two, e2]
  have e3 : logKeep z = -(max z 0) - Real.log (1 + Real.rpow 2 (0 - |z|)) * (Real.log 2)⁻¹ := by
    unfold logKeep logBeta; rw [← min_sub_self]; ring
  rw [e3]
  field_simp
  ring

/-- What it takes is what it leaves and its logit. -/
theorem logBeta_nat (z : ℝ) : Real.log 2 * z + Real.log 2 * logKeep z = Real.log 2 * logBeta z := by
  unfold logKeep; ring

variable (K Q : ℕ → Fin 128 → ℝ) (V : ℕ → Fin 128 → EReal)

/-- The logit of query `g` at key `u`. -/
def logit (u g : ℕ) : ℝ := ∑ d, K u d * Q g d

/-- The sum of what the keys from `lo` up to the query leave. -/
def keepSum (lo g : ℕ) : ℝ := ∑ w ∈ Ico lo g, logKeep (logit K Q w g)

/-- The weight of key `u` for query `g`. -/
def weight (u g : ℕ) : ℝ := Real.rpow 2 (logBeta (logit K Q u g) + keepSum K Q (u + 1) g)

/-- The attention's result from the keys from `lo` on. -/
def part (lo g : ℕ) (d : Fin 128) : EReal := ∑ u ∈ Ico lo g, V u d * (weight K Q u g : EReal)

theorem keepSum_split {lo mid g : ℕ} (h1 : lo ≤ mid) (h2 : mid ≤ g) :
    keepSum K Q lo g = (∑ w ∈ Ico lo mid, logKeep (logit K Q w g)) + keepSum K Q mid g :=
  (sum_Ico_consecutive _ h1 h2).symm

theorem part_split {lo mid g : ℕ} (h1 : lo ≤ mid) (h2 : mid ≤ g) (d : Fin 128) :
    part K Q V lo g d = (∑ u ∈ Ico lo mid, V u d * (weight K Q u g : EReal)) + part K Q V mid g d :=
  (sum_Ico_consecutive _ h1 h2).symm

/-- A sum over a block's keys between `p` and `l`, as a sum over the keys. -/
theorem sum_block {M : Type} [AddCommMonoid M] (f : ℕ → M) (lo p l : ℕ) (hl : l ≤ 256) :
    ∑ w : Fin 256, (if p ≤ w.val ∧ w.val < l then f (lo + w.val) else 0) = ∑ x ∈ Ico (lo + p) (lo + l), f x := by
  rw [Fin.sum_univ_eq_sum_range (fun w => if p ≤ w ∧ w < l then f (lo + w) else 0) 256, ← sum_filter]
  have e : (range 256).filter (fun w => p ≤ w ∧ w < l) = Ico p l := by
    ext w; simp only [mem_filter, mem_range, mem_Ico]; omega
  rw [e, add_comm lo p, add_comm lo l, ← sum_Ico_add' f p l lo]
  exact sum_congr rfl fun w _ => by rw [add_comm]

theorem coe_min (a b : ℝ) : ((min a b : ℝ) : EReal) = min (a : EReal) b := EReal.coe_strictMono.monotone.map_min

theorem coe_max (a b : ℝ) : ((max a b : ℝ) : EReal) = max (a : EReal) b := EReal.coe_strictMono.monotone.map_max

/-- The extended reals' sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

end Cert.Proof.SB

end
-- ==== Proof.KI.Read.lean ====
/-
  The idealized kernel's vector computations, read at an element.
-/
module

public import proofs.«01_k».proof.Proof.KI.Body
public import proofs.«01_k».proof.Proof.SB.Math
public import Idealize.ShloMosaic.PureOps.Ideal
public import Idealize.ShloMosaic.PureOps.IdealRules
public import Idealize.ShloMosaic.Lib.Pointwise
public import Idealize.ShloMosaic.Lib.WordCmp

@[expose] public section

noncomputable section

namespace Cert.Proof.KI

open Cert.KernelIdeal Cert.KernelIdeal.Gen Idealize.ShloMosaic Finset
open Cert.Proof.SB (logBeta logKeep logit keepSum weight part)

/-! ## Scalars -/

theorem absf_real {φ : FTy} (r : ℝ) : FloatOps.absf (F := Ideal) (φ := φ) ((r : ℝ) : EReal) = ((|r| : ℝ) : EReal) := by
  show max ((r : ℝ) : EReal) (-(r : EReal)) = _
  rw [← EReal.coe_neg, ← SB.coe_max]; rfl

theorem exp2_real {φ : FTy} (r : ℝ) : FloatOps.exp2 (F := Ideal) (φ := φ) ((r : ℝ) : EReal) = ((Real.rpow 2 r : ℝ) : EReal) := rfl

theorem exp2_none {φ : FTy} : FloatOps.exp2 (F := Ideal) (φ := φ) (⊥ : EReal) = (0 : EReal) := rfl

theorem minusInf : Ideal.ofBits .f32 4286578688#32 = ⊥ := by simp [Ideal.ofBits, Ideal.ieee]

theorem inv_ln2 : Named.named (F := Ideal) (φ := .f32) κ "inv_ln2" 1069066811#32 = (((Real.log 2)⁻¹ : ℝ) : EReal) :=
  IdealRules.named_const.ideal_named_scalar _ _ _ _ rfl

theorem flush : Named.named (F := Ideal) (φ := .f32) κ "flush" 3272998912#32 = (⊥ : EReal) :=
  IdealRules.named_const.ideal_named_scalar _ _ _ _ rfl

/-! ## A tile's parts -/

theorem logits_at (kb qb : FVec Ideal S256x128 .bf16) (u l : Fin 256) :
    logits (F := Ideal) kb qb (ix2 u l) = ∑ d : Fin 128, (kb (ix2 u d) : EReal) * qb (ix2 l d) := by
  pointwise [logits, k0_pay314]

theorem beta_at (z : FVec Ideal S256x256 .f32) (u l : Fin 256) (r : ℝ) (hz : z (ix2 u l) = (r : EReal)) :
    k0_pay316 (F := Ideal) z (ix2 u l) = ((logBeta r : ℝ) : EReal) := by
  pointwise [k0_pay316]
  have hp : (0 : ℝ) < 1 + Real.rpow 2 (0 - |r|) := add_pos one_pos (Real.rpow_pos_of_pos two_pos _)
  rw [hz, absf_real, inv_ln2, ← EReal.coe_zero, ← EReal.coe_sub, exp2_real, ← EReal.coe_one, ← EReal.coe_add,
    Ideal.log_coe, if_neg (not_le.2 hp), ← EReal.coe_mul, ← SB.coe_min, ← EReal.coe_sub]
  rfl

theorem tri_at (r : Fin 264) (u : Fin 256) :
    k0_pay4 (F := Ideal) (ix2 r u) = if r.val < u.val ∨ 256 ≤ r.val then (1 : EReal) else 0 := by
  pointwise [k0_pay4]
  have hr := r.isLt
  have hu := u.isLt
  have h1 : IntOp.cmpi .sgt (BitVec.ofNat 32 u.val) (BitVec.ofNat 32 r.val) = BitVec.ofBool (decide (r.val < u.val)) :=
    WordCmp.cmpi_sgt_ofNat (by omega) (by omega)
  have h2 : IntOp.cmpi .sge (BitVec.ofNat 32 r.val) 256#32 = BitVec.ofBool (decide (256 ≤ r.val)) :=
    WordCmp.cmpi_sge_ofNat (w := 32) (a := r.val) (b := 256) (by omega) (by omega)
  rw [h1, h2]
  show ((((BitVec.setWidth 32 (IntOp.ori (BitVec.ofBool (decide (r.val < u.val))) (BitVec.ofBool (decide (256 ≤ r.val))))).toInt : ℝ)) : EReal) = _
  by_cases h1 : r.val < u.val <;> by_cases h2 : 256 ≤ r.val <;> simp [h1, h2, IntOp.ori]

theorem strict_at (u l : Fin 256) : k0_pay5 (ix2 u l) = BitVec.ofBool (decide (u.val < l.val)) := by
  pointwise [k0_pay5]
  have hu := u.isLt
  have hl := l.isLt
  exact WordCmp.cmpi_slt_ofNat (by omega) (by omega)

theorem sums_raw (v9 : FVec Ideal S264x256 .bf16) (z : FVec Ideal S256x256 .f32) (r : Fin 264) (l : Fin 256) :
    sums (F := Ideal) v9 z (ix2 r l) = ∑ x, v9 (ix2 r x) * (k0_pay316 z (ix2 x l) - z (ix2 x l)) := by
  pointwise [sums, k0_pay317]

theorem contrib_raw (L : FVec Ideal S1x256 .f32) (vt : FVec Ideal S1x128x256 .bf16) (ok : BitVec 1) (v9 : FVec Ideal S264x256 .bf16) (z : FVec Ideal S256x256 .f32) (d : Fin 128) (l : Fin 256) :
    contrib (F := Ideal) L vt ok v9 z (ix2 d l) = ∑ x : Fin 256, vt (ix3 0 d x) * FloatOps.exp2 (F := Ideal) (φ := .f32)
      (k0_pay316 z (ix2 x l) + sums v9 z (ix2 ⟨x.val, by omega⟩ l) + Scalar.select ok (L (ix2 0 l)) (⊥ : EReal)) := by
  pointwise [contrib, k0_pay354, k0_pay353]
  rw [minusInf]

theorem nextLater_raw (L : FVec Ideal S1x256 .f32) (ok : BitVec 1) (v9 : FVec Ideal S264x256 .bf16) (z : FVec Ideal S256x256 .f32) (l : Fin 256) :
    nextLater (F := Ideal) L ok v9 z (ix2 0 l) = Scalar.select ok (L (ix2 0 l)) (⊥ : EReal) + sums v9 z (ix2 256 l) := by
  pointwise [nextLater, k0_pay355, k0_pay353]
  rw [minusInf]

theorem diagSums_raw (z : FVec Ideal S256x256 .f32) (r : Fin 264) (l : Fin 256) :
    diagSums (F := Ideal) z (ix2 r l) = ∑ x, Scalar.select (k0_pay5 (ix2 x l)) (k0_pay4 (F := Ideal) (ix2 r x) * (k0_pay316 z (ix2 x l) - z (ix2 x l))) (0 : EReal) := by
  pointwise [diagSums, k0_pay71]
  rfl

theorem diagContrib_raw (vt : FVec Ideal S1x128x256 .bf16) (z : FVec Ideal S256x256 .f32) (d : Fin 128) (l : Fin 256) :
    diagContrib (F := Ideal) vt z (ix2 d l) = ∑ x : Fin 256, Scalar.select (k0_pay5 (ix2 x l))
      (vt (ix3 0 d x) * FloatOps.exp2 (F := Ideal) (φ := .f32) (k0_pay316 z (ix2 x l) + diagSums z (ix2 ⟨x.val, by omega⟩ l))) (0 : EReal) := by
  pointwise [diagContrib, k0_pay156]
  rfl

theorem diagLater_raw (z : FVec Ideal S256x256 .f32) (l : Fin 256) :
    diagLater (F := Ideal) z (ix2 0 l) = diagSums z (ix2 256 l) := by
  pointwise [diagLater, k0_pay157]

theorem acc_at (x : FVec Ideal S128x256 .f32) (y : FVec Ideal S1x128x256 .f32) (d : Fin 128) (l : Fin 256) :
    k0_pay404 (F := Ideal) x y (ix3 0 d l) = y (ix3 0 d l) + x (ix2 d l) := by
  pointwise [k0_pay404]

theorem first_at (x : FVec Ideal S128x256 .f32) (d : Fin 128) (l : Fin 256) :
    k0_pay235 (F := Ideal) x (ix3 0 d l) = x (ix2 d l) := by
  pointwise [k0_pay235]

theorem out_at (x : FVec Ideal S1x128x256 .f32) (d : Fin 128) (l : Fin 256) :
    outBlk (F := Ideal) x (ix2 l d) = x (ix3 0 d l) := by
  pointwise [outBlk, k0_pay270]

/-- Some chain is alive if the last one's running sum is a real somewhere. -/
theorem alive_of (L : Fin 16 → FVec Ideal S1x256 .f32) (l : Fin 256) (r : ℝ) (h : L 15 (ix2 0 l) = (r : EReal)) :
    Scalar.cmpi .sgt (liveWord (F := Ideal) L) 0#32 = 1#1 := by
  have e : liveWord (F := Ideal) L = 1#32 := by
    pointwise [liveWord, k0_pay3, k0_pay421]
    rw [flush, minusInf]
    rw [decide_eq_true]
    · rfl
    · rw [Finset.lt_fold_max]
      refine Or.inr ⟨((0 : Fin 1), l), Finset.mem_univ _, lt_max_of_lt_right ?_⟩
      show (⊥ : EReal) < L 15 (ix2 0 l)
      rw [h]; exact EReal.bot_lt_coe r
  rw [e]; rfl

/-! ## A tile, in terms of the keys -/

section Tile

variable (K Q : ℕ → Fin 128 → ℝ) (V : ℕ → Fin 128 → EReal) (z : FVec Ideal S256x256 .f32) (lo g : ℕ) (l : Fin 256)
  (hz : ∀ u : Fin 256, z (ix2 u l) = ((logit K Q (lo + u.val) g : ℝ) : EReal))

include hz

theorem keep_at (u : Fin 256) : (k0_pay316 (F := Ideal) z (ix2 u l) : EReal) - z (ix2 u l) = ((logKeep (logit K Q (lo + u.val) g) : ℝ) : EReal) := by
  rw [beta_at z u l _ (hz u), hz u, ← EReal.coe_sub]; rfl

theorem sums_at (r : Fin 264) (p : ℕ) (hp : ∀ w : Fin 256, (r.val < w.val ∨ 256 ≤ r.val) ↔ (p ≤ w.val ∧ w.val < 256)) :
    sums (F := Ideal) k0_pay4 z (ix2 r l) = ((∑ w ∈ Ico (lo + p) (lo + 256), logKeep (logit K Q w g) : ℝ) : EReal) := by
  rw [sums_raw, ← SB.sum_block (fun w => logKeep (logit K Q w g)) lo p 256 le_rfl, SB.coe_sum]
  refine sum_congr rfl fun w _ => ?_
  rw [keep_at K Q z lo g l hz w, tri_at]
  by_cases h : p ≤ w.val ∧ w.val < 256
  · rw [if_pos h, if_pos ((hp w).2 h), one_mul]
  · rw [if_neg h, if_neg (fun h' => h ((hp w).1 h')), zero_mul, EReal.coe_zero]

theorem sums_after (u : Fin 256) : sums (F := Ideal) k0_pay4 z (ix2 ⟨u.val, by omega⟩ l)
    = ((∑ w ∈ Ico (lo + (u.val + 1)) (lo + 256), logKeep (logit K Q w g) : ℝ) : EReal) :=
  sums_at K Q z lo g l hz _ _ (fun w => by have := u.isLt; have := w.isLt; show u.val < w.val ∨ 256 ≤ u.val ↔ _; omega)

theorem sums_all : sums (F := Ideal) k0_pay4 z (ix2 256 l) = ((∑ w ∈ Ico lo (lo + 256), logKeep (logit K Q w g) : ℝ) : EReal) :=
  sums_at K Q z lo g l hz 256 0 (fun w => by have := w.isLt; show 256 < w.val ∨ 256 ≤ 256 ↔ _; omega)

/-- A tile whose key block exists: its contribution. -/
theorem contrib_at (L : FVec Ideal S1x256 .f32) (vt : FVec Ideal S1x128x256 .bf16) (d : Fin 128) (hg : lo + 256 ≤ g)
    (hL : L (ix2 0 l) = ((keepSum K Q (lo + 256) g : ℝ) : EReal)) (hv : ∀ u : Fin 256, vt (ix3 0 d u) = V (lo + u.val) d) :
    contrib (F := Ideal) L vt 1#1 k0_pay4 z (ix2 d l) = ∑ u ∈ Ico lo (lo + 256), V u d * ((weight K Q u g : ℝ) : EReal) := by
  rw [contrib_raw]
  refine Eq.trans ?_ (SB.sum_block (fun u => V u d * ((weight K Q u g : ℝ) : EReal)) lo 0 256 le_rfl)
  refine sum_congr rfl fun u _ => ?_
  have hu := u.isLt
  rw [if_pos ⟨Nat.zero_le _, hu⟩, hv u, beta_at z u l _ (hz u), sums_after K Q z lo g l hz u]
  show V (lo + u.val) d * FloatOps.exp2 (F := Ideal) (φ := .f32) (_ + _ + L (ix2 0 l) : EReal) = _
  rw [hL, ← EReal.coe_add, ← EReal.coe_add, exp2_real, add_assoc, ← SB.keepSum_split K Q (by omega) hg]
  rfl

/-- A tile whose key block does not exist contributes nothing. -/
theorem contrib_none (L : FVec Ideal S1x256 .f32) (vt : FVec Ideal S1x128x256 .bf16) (d : Fin 128) :
    contrib (F := Ideal) L vt 0#1 k0_pay4 z (ix2 d l) = (0 : EReal) := by
  rw [contrib_raw]
  refine sum_eq_zero fun u _ => ?_
  show _ * FloatOps.exp2 (F := Ideal) (φ := .f32) (_ + ⊥ : EReal) = (0 : EReal)
  rw [EReal.add_bot, exp2_none, mul_zero]

theorem nextLater_at (L : FVec Ideal S1x256 .f32) (hg : lo + 256 ≤ g)
    (hL : L (ix2 0 l) = ((keepSum K Q (lo + 256) g : ℝ) : EReal)) :
    nextLater (F := Ideal) L 1#1 k0_pay4 z (ix2 0 l) = ((keepSum K Q lo g : ℝ) : EReal) := by
  rw [nextLater_raw, sums_all K Q z lo g l hz]
  show (L (ix2 0 l) + _ : EReal) = _
  rw [hL, ← EReal.coe_add, SB.keepSum_split K Q (Nat.le_add_right lo 256) hg, add_comm]

omit hz in
theorem nextLater_none (L : FVec Ideal S1x256 .f32) :
    nextLater (F := Ideal) L 0#1 k0_pay4 z (ix2 0 l) = (⊥ : EReal) := by
  rw [nextLater_raw]
  show (⊥ + _ : EReal) = _
  rw [EReal.bot_add]

end Tile

/-! ## The diagonal tile -/

section Diag

variable (K Q : ℕ → Fin 128 → ℝ) (V : ℕ → Fin 128 → EReal) (z : FVec Ideal S256x256 .f32) (lo : ℕ) (l : Fin 256)
  (hz : ∀ u : Fin 256, z (ix2 u l) = ((logit K Q (lo + u.val) (lo + l.val) : ℝ) : EReal))

include hz

theorem diagSums_at (r : Fin 264) (p : ℕ) (hp : ∀ w : Fin 256, (r.val < w.val ∨ 256 ≤ r.val) ↔ p ≤ w.val) :
    diagSums (F := Ideal) z (ix2 r l) = ((keepSum K Q (lo + p) (lo + l.val) : ℝ) : EReal) := by
  have hl := l.isLt
  rw [diagSums_raw, keepSum, ← SB.sum_block (fun w => logKeep (logit K Q w (lo + l.val))) lo p l.val hl.le, SB.coe_sum]
  refine sum_congr rfl fun w _ => ?_
  rw [keep_at K Q z lo _ l hz w, tri_at, strict_at]
  by_cases h : w.val < l.val
  · rw [decide_eq_true h]
    show (if r.val < w.val ∨ 256 ≤ r.val then (1 : EReal) else 0) * _ = _
    by_cases h' : p ≤ w.val
    · rw [if_pos (⟨h', h⟩ : p ≤ w.val ∧ w.val < l.val), if_pos ((hp w).2 h'), one_mul]
    · rw [if_neg (fun x : p ≤ w.val ∧ w.val < l.val => h' x.1), if_neg (fun x => h' ((hp w).1 x)), zero_mul, EReal.coe_zero]
  · rw [decide_eq_false h]
    show (0 : EReal) = _
    rw [if_neg (fun x : p ≤ w.val ∧ w.val < l.val => h x.2), EReal.coe_zero]

theorem diagLater_at : diagLater (F := Ideal) z (ix2 0 l) = ((keepSum K Q lo (lo + l.val) : ℝ) : EReal) := by
  rw [diagLater_raw]
  exact diagSums_at K Q z lo l hz 256 0 (fun w => by have := w.isLt; show 256 < w.val ∨ 256 ≤ 256 ↔ _; omega)

theorem diagContrib_at (vt : FVec Ideal S1x128x256 .bf16) (d : Fin 128) (hv : ∀ u : Fin 256, vt (ix3 0 d u) = V (lo + u.val) d) :
    diagContrib (F := Ideal) vt z (ix2 d l) = part K Q V lo (lo + l.val) d := by
  have hl := l.isLt
  rw [diagContrib_raw]
  refine Eq.trans ?_ (SB.sum_block (fun u => V u d * ((weight K Q u (lo + l.val) : ℝ) : EReal)) lo 0 l.val hl.le)
  refine sum_congr rfl fun u _ => ?_
  have hu := u.isLt
  rw [strict_at]
  by_cases h : u.val < l.val
  · rw [if_pos ⟨Nat.zero_le _, h⟩, decide_eq_true h]
    show vt (ix3 0 d u) * FloatOps.exp2 (F := Ideal) (φ := .f32) (_ + _ : EReal) = _
    rw [hv u, beta_at z u l _ (hz u),
      diagSums_at K Q z lo l hz ⟨u.val, by omega⟩ (u.val + 1) (fun w => by have := w.isLt; show u.val < w.val ∨ 256 ≤ u.val ↔ _; omega),
      ← EReal.coe_add, exp2_real]
    rfl
  · rw [if_neg (fun x => h x.2), decide_eq_false h]
    rfl

end Diag

end Cert.Proof.KI

end
-- ==== Proof.KI.Chain.lean ====
/-
  The idealized kernel's chains: what the running sums and the accumulator hold after each key block, and that the loop
  over the key blocks keeps it, for windows whose keys and queries are reals.
-/
module

public import proofs.«01_k».proof.Proof.KI.Read

@[expose] public section

noncomputable section

namespace Cert.Proof.KI

open Cert.KernelIdeal Cert.KernelIdeal.Gen Idealize.ShloMosaic Idealize.ShloMosaic.TcCoe Finset
open Cert.Proof.SB (logBeta logKeep logit keepSum weight part)

/-! ## The words -/

/-- The key block `n` places before the diagonal one, as a word. -/
def backWord (b r n : BitVec 32) : BitVec 32 :=
  Scalar.maxsi (Scalar.subi (Scalar.addi (Scalar.muli b 16#32) r) n) 0#32

theorem backWord_toNat : ∀ b : Fin 4, ∀ r : Fin 16,
    (backWord (BitVec.ofNat 32 b.val) (BitVec.ofNat 32 r.val) 1#32).toNat = 16 * b.val + r.val - 1
    ∧ (Scalar.muli (backWord (BitVec.ofNat 32 b.val) (BitVec.ofNat 32 r.val) 1#32) 256#32).toNat = 256 * (16 * b.val + r.val - 1)
    ∧ (Scalar.addi (Scalar.muli (BitVec.ofNat 32 b.val) 16#32) (BitVec.ofNat 32 r.val)).toNat = 16 * b.val + r.val
    ∧ (Scalar.muli (Scalar.addi (Scalar.muli (BitVec.ofNat 32 b.val) 16#32) (BitVec.ofNat 32 r.val)) 256#32).toNat = 256 * (16 * b.val + r.val)
    ∧ Scalar.cmpi .sge (Scalar.subi (Scalar.addi (Scalar.muli (BitVec.ofNat 32 b.val) 16#32) (BitVec.ofNat 32 r.val)) 1#32) 0#32
        = if 1 ≤ 16 * b.val + r.val then 1#1 else 0#1 := by
  decide +kernel

theorem okWord : ∀ b : Fin 4, ∀ s : Fin 64, ∀ r : Fin 16,
    Scalar.cmpi .sge (Scalar.subi (Scalar.addi (Scalar.muli (BitVec.ofNat 32 b.val) 16#32) (BitVec.ofNat 32 r.val)) (Scalar.addi (BitVec.ofNat 32 s.val) 2#32)) 0#32
      = if s.val + 2 ≤ 16 * b.val + r.val then 1#1 else 0#1 := by
  decide +kernel

/-! ## Loads -/

/-- A load of 256 rows of a two-dimensional window. -/
theorem rows_at {n : ℕ} {c : Dev nD} (M : Memref sig .tc .vmem ⟨2, ![n, 128]⟩ .bf16) (f : Buf (Elt Ideal) (M.view.loc (c : Thread nD τ))) (off : Fin 2 → ℕ) (o : ℕ) (h0 : off 0 = o) (h1 : off 1 = 0)
    (inb : ∀ a, off a + S256x128.size a ≤ (⟨2, ![n, 128]⟩ : Shape).size a) (u : Fin 256) (d : Fin 128) (hn : o + u.val < n) :
    M.view.readAt (Elt Ideal) (Rect.unit (s := ⟨2, ![n, 128]⟩) off S256x128.size inb).toLoadRect f (ix2 u d) = M.view.read (Elt Ideal) f (ix2 ⟨o + u.val, hn⟩ d) := by
  rw [View.readAt_rect]
  refine congrArg (M.view.read (Elt Ideal) f) (funext fun a => Fin.ext ?_)
  fin_cases a
  · show off 0 + 1 * u.val = o + u.val; omega
  · show off 1 + 1 * d.val = d.val; omega

/-- A load of one block of a three-dimensional window. -/
theorem block_at {n : ℕ} {c : Dev nD} (M : Memref sig .tc .vmem ⟨3, ![n, 128, 256]⟩ .bf16) (f : Buf (Elt Ideal) (M.view.loc (c : Thread nD τ))) (off : Fin 3 → ℕ) (o : ℕ) (h0 : off 0 = o) (h1 : off 1 = 0) (h2 : off 2 = 0)
    (inb : ∀ a, off a + S1x128x256.size a ≤ (⟨3, ![n, 128, 256]⟩ : Shape).size a) (d : Fin 128) (u : Fin 256) (hn : o < n) :
    M.view.readAt (Elt Ideal) (Rect.unit (s := ⟨3, ![n, 128, 256]⟩) off S1x128x256.size inb).toLoadRect f (ix3 0 d u) = M.view.read (Elt Ideal) f (ix3 ⟨o, hn⟩ d u) := by
  rw [View.readAt_rect]
  refine congrArg (M.view.read (Elt Ideal) f) (funext fun a => Fin.ext ?_)
  fin_cases a
  · show off 0 + 1 * 0 = o; omega
  · show off 1 + 1 * d.val = d.val; omega
  · show off 2 + 1 * u.val = u.val; omega

/-! ## One step of a chain -/

/-- What chain with diagonal block `j` holds `o` blocks on: the running sum at each of its queries, -/
def Sums (K Q : ℕ → Fin 128 → ℝ) (j o : ℕ) (L : FVec Ideal S1x256 .f32) : Prop :=
  ∀ l : Fin 256, (L (ix2 0 l) : EReal) = if o ≤ j then ((keepSum K Q (256 * (j - o)) (256 * j + l.val) : ℝ) : EReal) else ⊥

/-- and the result of the keys it has taken. -/
def Held (K Q : ℕ → Fin 128 → ℝ) (V : ℕ → Fin 128 → EReal) (j o : ℕ) (B : FVec Ideal S1x128x256 .f32) : Prop :=
  ∀ (d : Fin 128) (l : Fin 256), (B (ix3 0 d l) : EReal) = part K Q V (256 * (j - o)) (256 * j + l.val) d

section Step

variable (K Q : ℕ → Fin 128 → ℝ) (V : ℕ → Fin 128 → EReal) (j o : ℕ) (z : FVec Ideal S256x256 .f32) (ok : BitVec 1)
  (hok : ok = if o + 1 ≤ j then 1#1 else 0#1)
  (hz : ∀ u l : Fin 256, z (ix2 u l) = ((logit K Q (256 * (j - (o + 1)) + u.val) (256 * j + l.val) : ℝ) : EReal))
  (L : FVec Ideal S1x256 .f32) (hL : Sums K Q j o L)

include hok hz hL

theorem sums_step : Sums K Q j (o + 1) (nextLater (F := Ideal) L ok k0_pay4 z) := by
  intro l
  by_cases h : o + 1 ≤ j
  · rw [if_pos h] at hok ⊢
    subst hok
    have e : 256 * (j - (o + 1)) + 256 = 256 * (j - o) := by omega
    refine nextLater_at K Q z _ _ l (fun u => hz u l) L (by omega) ?_
    rw [hL l, if_pos (by omega), e]
  · rw [if_neg h] at hok ⊢
    subst hok
    exact nextLater_none z l L

theorem held_step (vt : FVec Ideal S1x128x256 .bf16) (hv : ∀ (d : Fin 128) (u : Fin 256), vt (ix3 0 d u) = V (256 * (j - (o + 1)) + u.val) d)
    (B : FVec Ideal S1x128x256 .f32) (hB : Held K Q V j o B) :
    Held K Q V j (o + 1) (k0_pay404 (F := Ideal) (contrib (F := Ideal) L vt ok k0_pay4 z) B) := by
  intro d l
  rw [acc_at, hB d l]
  by_cases h : o + 1 ≤ j
  · rw [if_pos h] at hok
    subst hok
    have e : 256 * (j - (o + 1)) + 256 = 256 * (j - o) := by omega
    rw [contrib_at K Q V z _ _ l (fun u => hz u l) L vt d (by omega) (by rw [hL l, if_pos (by omega), e]) (hv d), e,
      SB.part_split K Q V (lo := 256 * (j - (o + 1))) (mid := 256 * (j - o)) (by omega) (by omega) d, add_comm]
  · rw [if_neg h] at hok
    subst hok
    have e : 256 * (j - (o + 1)) = 256 * (j - o) := by omega
    rw [contrib_none K Q z _ _ l (fun u => hz u l) L vt d, e, add_zero]

end Step

/-! ## The chains of a grid point -/

section Point

variable (c : Dev nD) (i : grid0.Coords) (arg3 : Memref sig .tc .vmem S4096x128 .bf16) (arg4 : Memref sig .tc .vmem S16384x128 .bf16)
  (arg5 : Memref sig .tc .vmem S64x128x256 .bf16) (arg7 : Memref sig .tc .vmem S16x128x256 .f32)
  (fk : Buf (Elt Ideal) (arg4.view.loc (c : Thread nD τ))) (fv : Buf (Elt Ideal) (arg5.view.loc (c : Thread nD τ))) (fq : Buf (Elt Ideal) (arg3.view.loc (c : Thread nD τ)))
  (K Q : ℕ → Fin 128 → ℝ) (V : ℕ → Fin 128 → EReal)

/-- The windows hold the keys, the queries of the grid point's rows, and the values. -/
structure Windows : Prop where
  keys : ∀ (u : Fin 16384) (d : Fin 128), arg4.view.read (Elt Ideal) fk (ix2 u d) = ((K u.val d : ℝ) : EReal)
  queries : ∀ (r : Fin 4096) (d : Fin 128), arg3.view.read (Elt Ideal) fq (ix2 r d) = ((Q (4096 * (i 2).val + r.val) d : ℝ) : EReal)
  values : ∀ (j : Fin 64) (d : Fin 128) (u : Fin 256), arg5.view.read (Elt Ideal) fv (ix3 j d u) = V (256 * j.val + u.val) d

variable (W : Windows c i arg3 arg4 arg5 fk fv fq K Q V)

/-- The loop's invariant: after `s` trips every chain is `s + 1` blocks on. -/
def Inv (v9 : FVec Ideal S264x256 .bf16) (s : ℕ) (L : Fin 16 → FVec Ideal S1x256 .f32) (fa : Buf (Elt Ideal) (arg7.view.loc (c : Thread nD τ))) : Prop :=
  v9 = k0_pay4 ∧ ∀ a : Fin 16, Sums K Q (16 * (i 2).val + a.val) (s + 1) (L a) ∧ Held K Q V (16 * (i 2).val + a.val) (s + 1) (accBlk c arg7 fa a)

include W

/-- The logits of a key block against a chain's queries. -/
theorem logits_of (a : Fin 16) (kb : FVec Ideal S256x128 .bf16) (lo : ℕ) (hlo : lo + 256 ≤ 16384)
    (hk : ∀ (u : Fin 256) (d : Fin 128), kb (ix2 u d) = ((K (lo + u.val) d : ℝ) : EReal)) (u l : Fin 256) :
    logits (F := Ideal) kb (qBlk c arg3 fq a) (ix2 u l) = ((logit K Q (lo + u.val) (256 * (16 * (i 2).val + a.val) + l.val) : ℝ) : EReal) := by
  have ha := a.isLt; have hl := l.isLt
  rw [logits_at, logit, SB.coe_sum]
  refine sum_congr rfl fun d _ => ?_
  have hq : qBlk c arg3 fq a (ix2 l d) = ((Q (256 * (16 * (i 2).val + a.val) + l.val) d : ℝ) : EReal) := by
    refine (rows_at arg3 fq _ (256 * a.val) rfl rfl (qRect_inb a) l d (by omega)).trans ?_
    rw [W.queries]
    congr 2; dsimp only; omega
  rw [hk, hq, EReal.coe_mul]

theorem keys_of (off : Fin 2 → ℕ) (inb : ∀ a, off a + S256x128.size a ≤ S16384x128.size a) (lo : ℕ) (h0 : off 0 = lo) (h1 : off 1 = 0) (hlo : lo + 256 ≤ 16384)
    (u : Fin 256) (d : Fin 128) :
    arg4.view.readAt (Elt Ideal) (Rect.unit (s := S16384x128) off S256x128.size inb).toLoadRect fk (ix2 u d) = ((K (lo + u.val) d : ℝ) : EReal) := by
  have hu := u.isLt
  exact (rows_at arg4 fk off lo h0 h1 inb u d (by omega)).trans (W.keys _ _)

theorem values_of (off : Fin 3 → ℕ) (inb : ∀ a, off a + S1x128x256.size a ≤ S64x128x256.size a) (j : ℕ) (h0 : off 0 = j) (h1 : off 1 = 0) (h2 : off 2 = 0) (hj : j < 64)
    (d : Fin 128) (u : Fin 256) :
    arg5.view.readAt (Elt Ideal) (Rect.unit (s := S64x128x256) off S1x128x256.size inb).toLoadRect fv (ix3 0 d u) = V (256 * j + u.val) d :=
  (block_at arg5 fv off j h0 h1 h2 inb d u hj).trans (W.values _ _ _)

/-- A trip keeps the invariant. -/
theorem keeps (v9 : FVec Ideal S264x256 .bf16) : Keeps (F := Ideal) c i arg4 arg5 arg3 v9 arg7 fk fv fq (Inv c i arg7 K Q V v9) := by
  intro s hs hw L fa ⟨h9, h⟩
  subst h9
  have hb : (i 2).val < 4 := (i 2).isLt
  refine ⟨rfl, fun a => ?_⟩
  have ha := a.isLt
  have hok : okBit i (BitVec.ofNat 32 s) a = if s + 1 + 1 ≤ 16 * (i 2).val + a.val then 1#1 else 0#1 := okWord ⟨(i 2).val, hb⟩ ⟨s, by omega⟩ a
  have h5 : (k0_off5 i (BitVec.ofNat 32 s) (BitVec.ofNat 32 a.val)) 0 = 256 * (16 * (i 2).val + a.val - (s + 1 + 1)) :=
    SB.blkWord_mul_toNat ⟨(i 2).val, hb⟩ ⟨s, by omega⟩ a
  have h6 : (k0_off6 i (BitVec.ofNat 32 s) (BitVec.ofNat 32 a.val)) 0 = 16 * (i 2).val + a.val - (s + 1 + 1) :=
    SB.blkWord_toNat ⟨(i 2).val, hb⟩ ⟨s, by omega⟩ a
  have hz := logits_of c i arg3 arg4 arg5 fk fv fq K Q V W a (kBlk c i arg4 fk (BitVec.ofNat 32 s) hw a) (256 * (16 * (i 2).val + a.val - (s + 1 + 1))) (by omega)
    (keys_of c i arg3 arg4 arg5 fk fv fq K Q V W _ _ _ h5 rfl (by omega))
  refine ⟨sums_step K Q _ _ _ _ hok hz _ (h a).1, ?_⟩
  have e : accBlk c arg7 (arg7.view.writes (Elt Ideal) fa (accPieces (newBlk c i arg4 arg5 arg3 k0_pay4 arg7 fk fv fq (BitVec.ofNat 32 s) hw L fa))) a
      = newBlk c i arg4 arg5 arg3 k0_pay4 arg7 fk fv fq (BitVec.ofNat 32 s) hw L fa a := by
    have := accBlk_pieces c arg7 fa (newBlk c i arg4 arg5 arg3 k0_pay4 arg7 fk fv fq (BitVec.ofNat 32 s) hw L fa) [] a
    rwa [List.append_nil] at this
  rw [e]
  exact held_step K Q V _ _ _ _ hok hz _ (h a).1 _ (values_of c i arg3 arg4 arg5 fk fv fq K Q V W _ _ _ h6 rfl rfl (by omega)) _ (h a).2

/-- While trips are left the last chain is alive. -/
theorem alive (v9 : FVec Ideal S264x256 .bf16) : Alive (F := Ideal) c i arg7 (Inv c i arg7 K Q V v9) := by
  intro s hs L fa ⟨_, h⟩
  have := (h 15).1 0
  rw [if_pos (by show s + 1 ≤ 16 * (i 2).val + 15; omega)] at this
  exact alive_of L 0 _ this

/-- The first pass starts the invariant. -/
theorem start (fa : Buf (Elt Ideal) (arg7.view.loc (c : Thread nD τ))) :
    Inv c i arg7 K Q V k0_pay4 0 (startLater c i arg3 arg4 fk fq) (startAcc c i arg3 arg4 arg5 arg7 fk fv fq fa) := by
  have hb : (i 2).val < 4 := (i 2).isLt
  refine ⟨rfl, fun a => ?_⟩
  have ha := a.isLt
  obtain ⟨h4, h3, h2, h1, hbit⟩ := backWord_toNat ⟨(i 2).val, hb⟩ a
  have hz0 := logits_of c i arg3 arg4 arg5 fk fv fq K Q V W a (diagK c i arg4 fk a) (256 * (16 * (i 2).val + a.val)) (by omega)
    (keys_of c i arg3 arg4 arg5 fk fv fq K Q V W _ _ _ h1 rfl (by omega))
  have hz1 := logits_of c i arg3 arg4 arg5 fk fv fq K Q V W a (prevK c i arg4 fk a) (256 * (16 * (i 2).val + a.val - (0 + 1))) (by omega)
    (keys_of c i arg3 arg4 arg5 fk fv fq K Q V W _ _ _ h3 rfl (by omega))
  have hS : Sums K Q (16 * (i 2).val + a.val) 0 (diagLater (diagZ c i arg3 arg4 fk fq a)) := fun l => by
    rw [if_pos (Nat.zero_le _)]
    exact diagLater_at K Q _ _ l (fun u => hz0 u l)
  have hH : Held K Q V (16 * (i 2).val + a.val) 0 (diagBlk c i arg3 arg4 arg5 fk fv fq a) := fun d l => by
    refine (first_at _ d l).trans ?_
    exact diagContrib_at K Q V _ _ l (fun u => hz0 u l) _ d (values_of c i arg3 arg4 arg5 fk fv fq K Q V W _ _ _ h2 rfl rfl (by omega) d)
  refine ⟨sums_step K Q _ 0 _ _ hbit hz1 _ hS, ?_⟩
  rw [startAcc, accBlk_pieces]
  exact held_step K Q V _ 0 _ _ hbit hz1 _ hS _ (values_of c i arg3 arg4 arg5 fk fv fq K Q V W _ _ _ h4 rfl rfl (by omega)) _ hH

end Point

end Cert.Proof.KI

end
-- ==== Proof.SB.Spec.lean ====
/-
  The stick-breaking attention of the whole arrays: what one batch and head read, and the result.
-/
module

public import proofs.«01_k».proof.Proof.SB.Math
public import Idealize.ShloMosaic.Lib.Pointwise

@[expose] public section

noncomputable section

namespace Cert.Proof.SB

open Idealize.ShloMosaic Finset

/-- Row `u` of batch `b` in the columns of head `h`, zero beyond the rows. -/
def cols (X : (⟨2, ![32768, 1024]⟩ : Shape).Idx → EReal) (b : Fin 2) (h : Fin 8) (u : ℕ) (d : Fin 128) : EReal :=
  if hu : u < 16384 then X (ix2 ⟨16384 * b.val + u, by omega⟩ ⟨128 * h.val + d.val, by omega⟩) else 0

/-- The values' row `u` of batch `b` and head `h`: they come transposed, in blocks of 256 rows. -/
def vals (X : (⟨3, ![128, 1024, 256]⟩ : Shape).Idx → EReal) (b : Fin 2) (h : Fin 8) (u : ℕ) (d : Fin 128) : EReal :=
  if hu : u < 16384 then X (ix3 ⟨64 * b.val + u / 256, by omega⟩ ⟨128 * h.val + d.val, by omega⟩ ⟨u % 256, Nat.mod_lt _ (by decide)⟩) else 0

/-- Row `g`, column `d` of the attention of batch `b` and head `h`. -/
def attn (q k : (⟨2, ![32768, 1024]⟩ : Shape).Idx → EReal) (v : (⟨3, ![128, 1024, 256]⟩ : Shape).Idx → EReal) (b : Fin 2) (h : Fin 8) (g : ℕ) (d : Fin 128) : EReal :=
  part (fun u e => (cols k b h u e).toReal) (fun u e => (cols q b h u e).toReal) (vals v b h) 0 g d

/-- The attention of the whole arrays. -/
def attnAll (q k : (⟨2, ![32768, 1024]⟩ : Shape).Idx → EReal) (v : (⟨3, ![128, 1024, 256]⟩ : Shape).Idx → EReal) : (⟨2, ![32768, 1024]⟩ : Shape).Idx → EReal :=
  fun x => attn q k v ⟨(x 0).val / 16384, by have h : (x 0).val < 32768 := (x 0).isLt; omega⟩ ⟨(x 1).val / 128, by have h : (x 1).val < 1024 := (x 1).isLt; omega⟩
    ((x 0).val % 16384) ⟨(x 1).val % 128, Nat.mod_lt _ (by decide)⟩

/-- An array of reals. -/
def Reals {s : Shape} (X : s.Idx → EReal) : Prop := ∀ x, X x = ((X x).toReal : EReal)

/-- What a head reads of an array of reals. -/
theorem cols_real {X : (⟨2, ![32768, 1024]⟩ : Shape).Idx → EReal} (hX : Reals X) (b : Fin 2) (h : Fin 8) (u : ℕ) (d : Fin 128) :
    cols X b h u d = ((cols X b h u d).toReal : EReal) := by
  unfold cols
  split
  · exact hX _
  · rfl

end Cert.Proof.SB

end
-- ==== Proof.KI.Value.lean ====
/-
  The idealized kernel's run with its result named: for queries and keys that are reals, the stick-breaking attention of the
  argument arrays.
-/
module

public import proofs.«01_k».proof.Proof.KI.Chain
public import proofs.«01_k».proof.Proof.KI.Frame
public import proofs.«01_k».proof.Proof.SB.Spec
public import Idealize.ShloMosaic.Lib.Pipeline.ValueKit.Geometry

@[expose] public section

set_option maxRecDepth 65536

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe heldIn)

local notation "𝕄" => MT nD τ sig Unit (Elt Ideal) ℕ (UR nD τ) ℕ

/-! ## The grid -/

/-- The batch of a point, -/
abbrev bOf (t : Fin grid0.N) : Fin 2 := ⟨((grid0.coords t) 0).val, ((grid0.coords t) 0).isLt⟩
/-- its head, -/
abbrev hOf (t : Fin grid0.N) : Fin 8 := ⟨((grid0.coords t) 1).val, ((grid0.coords t) 1).isLt⟩
/-- and its query tile. -/
abbrev iOf (t : Fin grid0.N) : Fin 4 := ⟨((grid0.coords t) 2).val, ((grid0.coords t) 2).isLt⟩

theorem index0 : ∀ t : Fin grid0.N, win0_0.index t (0 : Fin 2) = 4 * (bOf t).val + (iOf t).val ∧ win0_0.index t (1 : Fin 2) = (hOf t).val := by decide +kernel
theorem index1 : ∀ t : Fin grid0.N, win0_1.index t (0 : Fin 2) = (bOf t).val ∧ win0_1.index t (1 : Fin 2) = (hOf t).val := by decide +kernel
theorem index2 : ∀ t : Fin grid0.N, win0_2.index t (0 : Fin 3) = (bOf t).val ∧ win0_2.index t (1 : Fin 3) = (hOf t).val ∧ win0_2.index t (2 : Fin 3) = 0 := by decide +kernel
theorem index3 : ∀ t : Fin grid0.N, win0_3.index t (0 : Fin 2) = 4 * (bOf t).val + (iOf t).val ∧ win0_3.index t (1 : Fin 2) = (hOf t).val := by decide +kernel

/-- Between fetches of the keys and values the batch and the head stay. -/
theorem stay : ∀ n : Fin 63, (n.val + 1) % 4 ≠ 0 → bOf ⟨n.val + 1, by have := n.isLt; show _ < 64; omega⟩ = bOf ⟨n.val, by have := n.isLt; show _ < 64; omega⟩
    ∧ hOf ⟨n.val + 1, by have := n.isLt; show _ < 64; omega⟩ = hOf ⟨n.val, by have := n.isLt; show _ < 64; omega⟩ := by decide +kernel

variable (m : (ℓ : Loc nD τ sig) → Buf (Elt Ideal) ℓ) (ρ : Dev nD → PrngReg)

/-- The queries, the keys and the values the launch finds. -/
abbrev qArr (c : Dev nD) : (⟨2, ![32768, 1024]⟩ : Shape).Idx → EReal := m ((c : Thread nD τ).loc main_arg0)
abbrev kArr (c : Dev nD) : (⟨2, ![32768, 1024]⟩ : Shape).Idx → EReal := m ((c : Thread nD τ).loc main_arg1)
abbrev vArr (c : Dev nD) : (⟨3, ![128, 1024, 256]⟩ : Shape).Idx → EReal := m ((c : Thread nD τ).loc main_arg2)

/-- The arrays. -/
abbrev arrs (c : Dev nD) (w : Fin (cfg0 (F := Ideal)).W) : Buf (Elt Ideal) (((cfg0 (F := Ideal)).win w).arr.view.loc (c : Thread nD τ)) :=
  m (((cfg0 (F := Ideal)).win w).arr.view.loc (c : Thread nD τ))

/-- What a point writes of the result. -/
def outVal (c : Dev nD) (t : Fin grid0.N) : S4096x128.Idx → EReal := fun y =>
  SB.attn (qArr m c) (kArr m c) (vArr m c) (bOf t) (hOf t) (4096 * (iOf t).val + (y 0).val) (y 1)

/-- What the body leaves in a window's buffer: an input's block as it was, the point's rows of the result. -/
def afters (c : Dev nD) (w : Fin (cfg0 (F := Ideal)).W) (t : Fin (cfg0 (F := Ideal)).N) : ((cfg0 (F := Ideal)).win w).block.Idx → Elt Ideal ((cfg0 (F := Ideal)).win w).elt :=
  match w with
  | 0 => heldIn (cfg0 (F := Ideal)) (arrs m c) 0 t.val t.isLt
  | 1 => heldIn (cfg0 (F := Ideal)) (arrs m c) 1 t.val t.isLt
  | 2 => heldIn (cfg0 (F := Ideal)) (arrs m c) 2 t.val t.isLt
  | 3 => outVal m c t
  | ⟨_ + 4, h⟩ => absurd h (Nat.not_lt.2 (Nat.le_add_left _ _))

/-- The proof data with the result named. -/
def vdats (p : Fin 1) (c : Dev nD) : Dat τ (Elt Ideal) Unit ℕ (UR nD τ) ℕ (cfgs (F := Ideal) p) c :=
  match p with
  | 0 =>
    { A := arrs m c
      after := afters m c
      Φ := fun _ => Pipeline.ΦA spec0 c
      q := fun _ => fullShare
      owed := fun _ => 0 }

/-! ## What the input windows hold -/

theorem fill_at (w : Fin (cfg0 (F := Ideal)).W) (i : (cfg0 (F := Ideal)).grid.Coords) (hc : ∀ a, ((cfg0 (F := Ideal)).win w).clip i a = none) {α : Type}
    (d : ((cfg0 (F := Ideal)).win w).block.Idx → α) (g : (((cfg0 (F := Ideal)).win w).xblock i).Idx → α) (j : ((cfg0 (F := Ideal)).win w).block.Idx)
    (x : (((cfg0 (F := Ideal)).win w).xblock i).Idx) (hx : ∀ a, (x a).val = (j a).val) : ((cfg0 (F := Ideal)).win w).fill i d g j = g x := by
  have hm : ((cfg0 (F := Ideal)).win w).moved i j = true :=
    (((cfg0 (F := Ideal)).win w).moved_iff _ j).mpr fun a => by have := (j a).isLt; unfold Window.xsize; rw [hc a]; exact this
  unfold Window.fill; rw [dif_pos hm]
  exact congrArg g (funext fun a => Fin.ext (hx a).symm)

/-- The queries' window holds the point's rows. -/
theorem held0 (c : Dev nD) (t : Fin grid0.N) (r : Fin 4096) (d : Fin 128) :
    heldIn (cfg0 (F := Ideal)) (arrs m c) 0 t.val t.isLt (ix2 r d) = SB.cols (qArr m c) (bOf t) (hOf t) (4096 * (iOf t).val + r.val) d := by
  have hi := (iOf t).isLt; have hr := r.isLt
  rw [Pipeline.heldIn_of_fetch (arrs m c) 0 t (fetch0_0 t), SB.cols, dif_pos (by omega)]
  refine (fill_at 0 _ (fun _ => rfl) _ _ _ (ix2 r d) (fun _ => rfl)).trans ?_
  refine congrArg (qArr m c) (funext fun a => Fin.ext ?_)
  obtain ⟨e0, e1⟩ := index0 t
  fin_cases a
  · show win0_0.index t (0 : Fin 2) * 4096 + 1 * r.val = 16384 * (bOf t).val + (4096 * (iOf t).val + r.val); omega
  · show win0_0.index t (1 : Fin 2) * 128 + 1 * d.val = 128 * (hOf t).val + d.val; omega

/-- The keys' window holds the batch's and head's keys. -/
theorem held1 (c : Dev nD) : ∀ (n : ℕ) (hn : n < grid0.N) (u : Fin 16384) (d : Fin 128),
    heldIn (cfg0 (F := Ideal)) (arrs m c) 1 n hn (ix2 u d) = SB.cols (kArr m c) (bOf ⟨n, hn⟩) (hOf ⟨n, hn⟩) u.val d := by
  have hf : ∀ (t : Fin grid0.N) (u : Fin 16384) (d : Fin 128), t.val % 4 = 0 →
      heldIn (cfg0 (F := Ideal)) (arrs m c) 1 t.val t.isLt (ix2 u d) = SB.cols (kArr m c) (bOf t) (hOf t) u.val d := by
    intro t u d ht
    rw [Pipeline.heldIn_of_fetch (arrs m c) 1 t ((fetch0_1 t).2 ht), SB.cols, dif_pos u.isLt]
    refine (fill_at 1 _ (fun _ => rfl) _ _ _ (ix2 u d) (fun _ => rfl)).trans ?_
    refine congrArg (kArr m c) (funext fun a => Fin.ext ?_)
    obtain ⟨e0, e1⟩ := index1 t
    fin_cases a
    · show win0_1.index t (0 : Fin 2) * 16384 + 1 * u.val = 16384 * (bOf t).val + u.val; omega
    · show win0_1.index t (1 : Fin 2) * 128 + 1 * d.val = 128 * (hOf t).val + d.val; omega
  intro n
  induction n with
  | zero => exact fun hn u d => hf ⟨0, hn⟩ u d rfl
  | succ n ih =>
    intro hn u d
    by_cases h : (n + 1) % 4 = 0
    · exact hf ⟨n + 1, hn⟩ u d h
    · have hn' : n + 1 < 64 := hn
      obtain ⟨e0, e1⟩ := stay ⟨n, by omega⟩ h
      rw [Pipeline.heldIn_of_not_fetch (arrs m c) 1 n hn (Bool.eq_false_iff.2 fun e => h ((fetch0_1 ⟨n + 1, hn⟩).1 e)), ih (Nat.lt_of_succ_lt hn) u d]
      exact congrArg₂ (fun b h => SB.cols (kArr m c) b h u.val d) e0.symm e1.symm

/-- The values' window holds the batch's and head's values. -/
theorem held2 (c : Dev nD) : ∀ (n : ℕ) (hn : n < grid0.N) (j : Fin 64) (d : Fin 128) (u : Fin 256),
    heldIn (cfg0 (F := Ideal)) (arrs m c) 2 n hn (ix3 j d u) = SB.vals (vArr m c) (bOf ⟨n, hn⟩) (hOf ⟨n, hn⟩) (256 * j.val + u.val) d := by
  have hf : ∀ (t : Fin grid0.N) (j : Fin 64) (d : Fin 128) (u : Fin 256), t.val % 4 = 0 →
      heldIn (cfg0 (F := Ideal)) (arrs m c) 2 t.val t.isLt (ix3 j d u) = SB.vals (vArr m c) (bOf t) (hOf t) (256 * j.val + u.val) d := by
    intro t j d u ht
    have hj := j.isLt; have hu := u.isLt
    rw [Pipeline.heldIn_of_fetch (arrs m c) 2 t ((fetch0_2 t).2 ht), SB.vals, dif_pos (by omega)]
    refine (fill_at 2 _ (fun _ => rfl) _ _ _ (ix3 j d u) (fun _ => rfl)).trans ?_
    refine congrArg (vArr m c) (funext fun a => Fin.ext ?_)
    obtain ⟨e0, e1, e2⟩ := index2 t
    fin_cases a
    · show win0_2.index t (0 : Fin 3) * 64 + 1 * j.val = 64 * (bOf t).val + (256 * j.val + u.val) / 256; omega
    · show win0_2.index t (1 : Fin 3) * 128 + 1 * d.val = 128 * (hOf t).val + d.val; omega
    · show win0_2.index t (2 : Fin 3) * 256 + 1 * u.val = (256 * j.val + u.val) % 256; omega
  intro n
  induction n with
  | zero => exact fun hn j d u => hf ⟨0, hn⟩ j d u rfl
  | succ n ih =>
    intro hn j d u
    by_cases h : (n + 1) % 4 = 0
    · exact hf ⟨n + 1, hn⟩ j d u h
    · have hn' : n + 1 < 64 := hn
      obtain ⟨e0, e1⟩ := stay ⟨n, by omega⟩ h
      rw [Pipeline.heldIn_of_not_fetch (arrs m c) 2 n hn (Bool.eq_false_iff.2 fun e => h ((fetch0_2 ⟨n + 1, hn⟩).1 e)), ih (Nat.lt_of_succ_lt hn) j d u]
      exact congrArg₂ (fun b h => SB.vals (vArr m c) b h (256 * j.val + u.val) d) e0.symm e1.symm

/-! ## The body at a point -/

/-- Row `256a + x` of what the sixteen blocks write. -/
theorem out_map (c : Dev nD) (M : Memref sig .tc .vmem S4096x128 .bf16) (fo : Buf (Elt Ideal) (M.view.loc (c : Thread nD τ))) (g : Fin 16 → Vec Ideal S256x128 .bf16) (a : Fin 16) (x : Fin 256) (d : Fin 128)
    (hr : 256 * a.val + x.val < 4096) : ∀ l : List (Fin 16), a ∈ l →
      M.view.read (Elt Ideal) (M.view.writes (Elt Ideal) fo (l.map (fun b => (⟨qRect b, g b⟩ : View.Piece (Elt Ideal) S4096x128 .bf16)))) (ix2 ⟨256 * a.val + x.val, hr⟩ d) = g a (ix2 x d)
  | [], h => by simp at h
  | b :: l, h => by
    by_cases hab : a = b
    · subst hab
      refine View.read_writes_cons_unit_of_mem M.view fo (qRect_inb a) (g a) _ _ (ix2 x d) rfl ?_
      intro y
      fin_cases y
      · rfl
      · show d.val = 0 + d.val; omega
    · refine (View.read_writes_cons_unit_of_not_mem M.view fo (qRect_inb b) (g b) _ _ rfl 0 ?_).trans
        (out_map c M fo g a x d hr l ((List.mem_cons.1 h).resolve_left hab))
      have hv : a.val ≠ b.val := fun e => hab (Fin.ext e)
      have hx := x.isLt
      show 256 * a.val + x.val < 256 * b.val ∨ 256 * b.val + 256 ≤ 256 * a.val + x.val
      omega

/-- What the body leaves of the result, from what the accumulator holds after the loop. -/
theorem out_eq (c : Dev nD) (t : Fin grid0.N) (M : Memref sig .tc .vmem S4096x128 .bf16) (fo : Buf (Elt Ideal) (M.view.loc (c : Thread nD τ))) (B : Fin 16 → FVec Ideal S1x128x256 .f32)
    (hB : ∀ a : Fin 16, Held (fun u e => (SB.cols (kArr m c) (bOf t) (hOf t) u e).toReal) (fun u e => (SB.cols (qArr m c) (bOf t) (hOf t) u e).toReal) (SB.vals (vArr m c) (bOf t) (hOf t))
      (16 * (iOf t).val + a.val) (16 * (iOf t).val + 14 + 1) (B a)) :
    M.view.read (Elt Ideal) (M.view.writes (Elt Ideal) fo (outPieces (fun a => outBlk (B a)))) = outVal m c t := by
  funext y
  obtain ⟨r, d, rfl⟩ : ∃ (r : Fin 4096) (d : Fin 128), y = ix2 r d := ⟨y 0, y 1, eq_ix2 y⟩
  have hr := r.isLt
  have e : r = ⟨256 * (r.val / 256) + r.val % 256, by omega⟩ := Fin.ext (Nat.div_add_mod _ _).symm
  have ha : r.val / 256 < 16 := by omega
  have h := out_map c M fo (fun a => outBlk (B a)) ⟨r.val / 256, ha⟩ ⟨r.val % 256, Nat.mod_lt _ (by decide)⟩ d (by dsimp only; omega) [15, 14, 13, 12, 11, 10, 9, 8, 7, 6, 5, 4, 3, 2, 1, 0]
    (by generalize (⟨r.val / 256, ha⟩ : Fin 16) = a; fin_cases a <;> decide)
  dsimp only at h
  rw [← e] at h
  refine h.trans ((out_at _ d _).trans ((hB ⟨r.val / 256, ha⟩ d _).trans ?_))
  have e0 : 256 * (16 * (iOf t).val + r.val / 256 - (16 * (iOf t).val + 14 + 1)) = 0 := by omega
  have e1 : 256 * (16 * (iOf t).val + r.val / 256) + r.val % 256 = 4096 * (iOf t).val + r.val := by omega
  dsimp only
  rw [e0, e1]
  rfl

/-- The result's rows, from what the run of the body says of them. -/
theorem out_of_run (c : Dev nD) (t : Fin grid0.N) (M3 : Memref sig .tc .vmem S4096x128 .bf16) (M4 : Memref sig .tc .vmem S16384x128 .bf16) (M5 : Memref sig .tc .vmem S64x128x256 .bf16)
    (M6 : Memref sig .tc .vmem S4096x128 .bf16) (M7 : Memref sig .tc .vmem S16x128x256 .f32)
    (fk : Buf (Elt Ideal) (M4.view.loc (c : Thread nD τ))) (fv : Buf (Elt Ideal) (M5.view.loc (c : Thread nD τ))) (fq : Buf (Elt Ideal) (M3.view.loc (c : Thread nD τ)))
    (fo fo' : Buf (Elt Ideal) (M6.view.loc (c : Thread nD τ))) (fa fa' : Buf (Elt Ideal) (M7.view.loc (c : Thread nD τ)))
    (W : Windows c (grid0.coords t) M3 M4 M5 fk fv fq (fun u e => (SB.cols (kArr m c) (bOf t) (hOf t) u e).toReal) (fun u e => (SB.cols (qArr m c) (bOf t) (hOf t) u e).toReal) (SB.vals (vArr m c) (bOf t) (hOf t)))
    (h : (Inv c (grid0.coords t) M7 (fun u e => (SB.cols (kArr m c) (bOf t) (hOf t) u e).toReal) (fun u e => (SB.cols (qArr m c) (bOf t) (hOf t) u e).toReal) (SB.vals (vArr m c) (bOf t) (hOf t)) k0_pay4 0 (startLater c (grid0.coords t) M3 M4 fk fq) (startAcc c (grid0.coords t) M3 M4 M5 M7 fk fv fq fa)
        → ∃ L', Inv c (grid0.coords t) M7 (fun u e => (SB.cols (kArr m c) (bOf t) (hOf t) u e).toReal) (fun u e => (SB.cols (qArr m c) (bOf t) (hOf t) u e).toReal) (SB.vals (vArr m c) (bOf t) (hOf t)) k0_pay4 (16 * ((grid0.coords t) 2).val + 14) L' fa')
      ∧ fo' = M6.view.writes (Elt Ideal) fo (outPieces (fun a => outBlk (accBlk c M7 fa' a)))) :
    M6.view.read (Elt Ideal) fo' = outVal m c t := by
  obtain ⟨hI, e⟩ := h
  obtain ⟨L', -, hI⟩ := hI (start c (grid0.coords t) M3 M4 M5 M7 fk fv fq _ _ _ W fa)
  rw [e]
  exact out_eq m c t M6 fo _ (fun a => (hI a).2)

variable (hq : ∀ c : Dev nD, SB.Reals (qArr m c)) (hk : ∀ c : Dev nD, SB.Reals (kArr m c))

theorem before_in (c : Dev nD) (t : Fin (cfg0 (F := Ideal)).N) :
    (∀ d, (vdats m 0 c).before 0 t d = heldIn (cfg0 (F := Ideal)) (arrs m c) 0 t.val t.isLt)
    ∧ (∀ d, (vdats m 0 c).before 1 t d = heldIn (cfg0 (F := Ideal)) (arrs m c) 1 t.val t.isLt)
    ∧ (∀ d, (vdats m 0 c).before 2 t d = heldIn (cfg0 (F := Ideal)) (arrs m c) 2 t.val t.isLt) :=
  ⟨fun d => (vdats m 0 c).before_eq_heldIn 0 rfl (fun _ => rfl) (fun _ _ => rfl) (fun _ => rfl) t d,
   fun d => (vdats m 0 c).before_eq_heldIn 1 rfl (fun _ => rfl) (fun _ _ => rfl) (fun _ => rfl) t d,
   fun d => (vdats m 0 c).before_eq_heldIn 2 rfl (fun _ => rfl) (fun _ _ => rfl) (fun _ => rfl) t d⟩

include hq hk

set_option maxHeartbeats 400000 in
/-- The body at a grid point, the result's rows named. -/
theorem value_obligation (c : Dev nD) : BodyObligation (vdats m 0 c) (defs₀ (F := Ideal)) 𝒱₀ () Set.univ := by
  intro t
  rw [bigSep_W0]
  obtain ⟨b0, b1, b2⟩ := before_in m c t
  refine BI.Entails.trans (Q := wp frame (wpE (defs₀ (F := Ideal)) 𝒱₀ (c : Thread nD τ) none) Set.univ (bodyAt0 t)
      (fun _ => iprop(Pipeline.ΦA spec0 c ∗ (vdats m 0 c).owesAt () t.castSucc ∗ (owns c (st0_0 t) fullShare ((vdats m 0 c).after 0 t)
        ∗ owns c (st0_1 t) fullShare ((vdats m 0 c).after 1 t) ∗ owns c (st0_2 t) fullShare ((vdats m 0 c).after 2 t)
        ∗ owns c (st0_3 t) fullShare ((vdats m 0 c).after 3 t))))) ?_ (wp_mono _ _ _ fun _ => sep_mono .rfl (sep_mono .rfl (Entails.of_eq (bigSep_W0 (fun w : Fin 4 => owns (c : Thread nD τ) (((cfg0 (F := Ideal)).win w).stage ((cfg0 (F := Ideal)).slots t w)) fullShare ((vdats m 0 c).after w t))).symm)))
  show iprop(Pipeline.ΦA spec0 c ∗ (vdats m 0 c).owesAt () t.castSucc ∗ (∃ d, owns c (st0_0 t) fullShare ((vdats m 0 c).before 0 t d)) ∗ (∃ d, owns c (st0_1 t) fullShare ((vdats m 0 c).before 1 t d))
      ∗ (∃ d, owns c (st0_2 t) fullShare ((vdats m 0 c).before 2 t d)) ∗ (∃ d, owns c (st0_3 t) fullShare ((vdats m 0 c).before 3 t d))) ⊢ _
  simp only [b0, b1, b2]
  unfold Pipeline.ΦA; rw [scopedRest0_eq]
  iintro ⟨⟨⟨%fa, Ha⟩, Hr⟩, Hd, ⟨%d0, H0⟩, ⟨%d1, H1⟩, ⟨%d2, H2⟩, ⟨%d3, H3⟩⟩
  unfold owns
  icases H0 with ⟨%f0, %h0, H0⟩
  icases H1 with ⟨%f1, %h1, H1⟩
  icases H2 with ⟨%f2, %h2, H2⟩
  icases H3 with ⟨%f3, -, H3⟩
  have W : Windows c (grid0.coords t) (st0_0 t) (st0_1 t) (st0_2 t) f1 f2 f0 (fun u e => (SB.cols (kArr m c) (bOf t) (hOf t) u e).toReal) (fun u e => (SB.cols (qArr m c) (bOf t) (hOf t) u e).toReal)
      (SB.vals (vArr m c) (bOf t) (hOf t)) := by
    refine ⟨fun u d => ?_, fun r d => ?_, fun j d u => ?_⟩
    · exact (congrFun h1 _).trans ((held1 m c t.val t.isLt u d).trans (SB.cols_real (hk c) _ _ _ _))
    · exact (congrFun h0 _).trans ((held0 m c t r d).trans (SB.cols_real (hq c) _ _ _ _))
    · exact (congrFun h2 _).trans (held2 m c t.val t.isLt j d u)
  iapply (body_runs c (grid0.coords t) (st0_0 t) (hstage0_0 (((cfg0 (F := Ideal)).slots t 0).cast nbuf0_0)) (st0_1 t) (hstage0_1 (((cfg0 (F := Ideal)).slots t 1).cast nbuf0_1))
    (st0_2 t) (hstage0_2 (((cfg0 (F := Ideal)).slots t 2).cast nbuf0_2)) (st0_3 t) (hstage0_3 (((cfg0 (F := Ideal)).slots t 3).cast nbuf0_3)) (Memref.whole cc0_scratch0) (Memref.isWhole_whole _) f1 f2 f0
    (Inv c (grid0.coords t) (Memref.whole cc0_scratch0) (fun u e => (SB.cols (kArr m c) (bOf t) (hOf t) u e).toReal) (fun u e => (SB.cols (qArr m c) (bOf t) (hOf t) u e).toReal) (SB.vals (vArr m c) (bOf t) (hOf t)))
    (fun v9 => keeps _ _ _ _ _ _ _ _ _ _ _ _ W v9) (fun v9 => alive _ _ _ _ _ _ _ _ _ _ _ _ W v9) f3 fa)
  isplitl [H0 H1 H2 H3 Ha]
  · isplitl [H0]; · iexact H0
    isplitl [H1]; · iexact H1
    isplitl [H2]; · iexact H2
    isplitl [H3]; · iexact H3
    iapply (whole_intro c fa); iexact Ha
  iintro %f3' %fa' %h ⟨H0, H1, H2, H3, Ha⟩
  have hout := out_of_run m c t (st0_0 t) (st0_1 t) (st0_2 t) (st0_3 t) (Memref.whole cc0_scratch0) f1 f2 f0 f3 f3' fa fa' W h
  isplitl [Ha Hr]
  · isplitl [Ha]
    · iexists fa'; iapply (whole_elim c fa'); iexact Ha
    iexact Hr
  isplitl [Hd]; · iexact Hd
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  iexists f3'; isplitr; · ipureintro; exact hout
  iexact H3

omit hq hk in
/-- The result array after the run. -/
theorem final (c : Dev nD) : (vdats m 0 c).arrAt 3 (cfg0 (F := Ideal)).N = SB.attnAll (qArr m c) (kArr m c) (vArr m c) := by
  refine (vdats m 0 c).arrAt_eq_of_covers 3 _ (by decide +kernel) fun t _ y => ?_
  show outVal m c t y = SB.attnAll (qArr m c) (kArr m c) (vArr m c) ((((cfg0 (F := Ideal)).win 3).blk t).view.emb y)
  obtain ⟨e0, e1⟩ := index3 t
  have hy0 : (y (0 : Fin 2)).val < 4096 := (y 0).isLt
  have hy1 : (y (1 : Fin 2)).val < 128 := (y 1).isLt
  have hi := (iOf t).isLt
  have x0 : ((((cfg0 (F := Ideal)).win 3).blk t).view.emb y (0 : Fin 2)).val = 16384 * (bOf t).val + (4096 * (iOf t).val + (y (0 : Fin 2)).val) := by
    show win0_3.index t (0 : Fin 2) * 4096 + 1 * (y (0 : Fin 2)).val = _; omega
  have x1 : ((((cfg0 (F := Ideal)).win 3).blk t).view.emb y (1 : Fin 2)).val = 128 * (hOf t).val + (y (1 : Fin 2)).val := by
    show win0_3.index t (1 : Fin 2) * 128 + 1 * (y (1 : Fin 2)).val = _; omega
  unfold outVal SB.attnAll
  congr 1
  · exact Fin.ext (by show (bOf t).val = _ / 16384; rw [x0]; omega)
  · exact Fin.ext (by show (hOf t).val = _ / 128; rw [x1]; omega)
  · rw [x0]; omega
  · exact Fin.ext (by dsimp only; rw [x1]; omega)

/-- The run: the result is the attention of the arguments, which end as they began. -/
theorem run_value : θ_run (defs (F := Ideal)) (onTc (τ := τ) (main (F := Ideal))) ⟨m, fun _ => 0, ρ⟩ (fun r => ∀ c : Dev nD,
      r.2.mem ((c.tc : Thread nD τ).loc main_v0) = SB.attnAll (qArr m c) (kArr m c) (vArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame (cfgs (F := Ideal)) (vdats m) 0 launch0 defs₀ 𝒱₀ m ρ main
    (hbody := fun c => (value_obligation m hq hk c).loose)
    (hshare := fun c w => by unfold Dat.share; split <;> rfl) (howed := fun _ _ => rfl)
    (V := fun c b => m ((c : Thread nD τ).loc b))
    (hmain := Pipeline.hmain_region _ _ _ _ m main (fun c => rfl))
    (hA := fun _ _ => rfl) (hΦ := fun _ _ => rfl)
    (Q' := _) (hQ' := fun r h c => ⟨((h.1 c).1 (3 : Fin 4)).trans (final m c), ((h.1 c).1 (0 : Fin 4)).trans ((vdats m 0 c).arrAt_in 0 rfl _),
      ((h.1 c).1 (1 : Fin 4)).trans ((vdats m 0 c).arrAt_in 1 rfl _), ((h.1 c).1 (2 : Fin 4)).trans ((vdats m 0 c).arrAt_in 2 rfl _)⟩)

end Cert.Proof.KI

end
-- ==== Proof.RI.Read.lean ====
/-
  The reference's computation in stages, each read at an element.
-/
module

public import proofs.«01_k».proof.Proof.Gen.ReferenceIdeal
public import proofs.«01_k».proof.Proof.Gen.ReferenceIdeal.Run
public import proofs.«01_k».proof.Proof.SB.Spec
public import Idealize.ShloMosaic.PureOps.Ideal
public import Idealize.ShloMosaic.Lib.Pointwise
public import Idealize.ShloMosaic.Lib.WordCmp

@[expose] public section

noncomputable section

namespace Cert.Proof.RI

open Cert.ReferenceIdeal Cert.ReferenceIdeal.Gen Idealize.ShloMosaic Finset

/-! ## Stages -/

/-- One plane of scores for every batch and head. -/
abbrev Scores := FVec Ideal S2x8x16384x16384 .f32

/-- Rows by batch, columns by head. -/
def heads (X : FVec Ideal S32768x1024 .bf16) : FVec Ideal S2x16384x8x128 .f32 :=
  shapeCast _ (extf .f32 X bitsLt_bf16_f32) shapeCasts_S32768x1024_S2x16384x8x128

/-- The values, turned back, by batch and head. -/
def valueHeads (X : FVec Ideal S128x1024x256 .bf16) : FVec Ideal S2x16384x8x128 .f32 :=
  shapeCast _ (extf .f32 (transpose S128x256x1024 [0, 2, 1] X transposes_S128x1024x256_S128x256x1024_0_2_1) bitsLt_bf16_f32) shapeCasts_S128x256x1024_S2x16384x8x128

/-- The scores, in natural units. -/
def scores (q k : FVec Ideal S32768x1024 .bf16) : Scores :=
  Host.dotGeneral dot_S2x16384x8x128_S2x16384x8x128_S2x8x16384x16384_3_3_1_1_02_02 none
    (mulf (heads q) (broadcastInDim S2x16384x8x128 ![] bcast_S_S2x16384x8x128 (Host.log (constant S_ .f32 0x40000000#32)))) (heads k)

def byKey : IVec S16384x16384 32 :=
  broadcastInDim S16384x16384 ![0, 1] bcast_S1x16384_S16384x16384_0_1 (broadcastInDim S1x16384 ![1] bcast_S16384_S1x16384_1 (iotaInDim S16384 32 0))

def byQuery : IVec S16384x16384 32 :=
  broadcastInDim S16384x16384 ![0, 1] bcast_S16384x1_S16384x16384_0_1 (broadcastInDim S16384x1 ![0] bcast_S16384_S16384x1_0 (iotaInDim S16384 32 0))

def zeros : Scores := broadcastInDim S2x8x16384x16384 ![] bcast_S_S2x8x16384x16384 (constant S_ .f32 0x00000000#32)

/-- `x` where the key comes before the query, zero elsewhere. -/
def before (x : Scores) : Scores :=
  select (broadcastInDim S2x8x16384x16384 ![2, 3] bcast_S16384x16384_S2x8x16384x16384_2_3 (cmpi .slt byKey byQuery)) x zeros

def softplus (z : Scores) : Scores :=
  select (cmpf .une (subf z zeros) (subf z zeros)) (addf z zeros) (addf (maximumf z zeros) (Host.log1p (Host.exp (Host.negf (Host.absf (subf z zeros))))))

def kept (z : Scores) : Scores := before (Host.negf (softplus z))

def sums (x : Scores) : Scores :=
  Host.dotGeneral dot_S2x8x16384x16384_S16384x16384_S2x8x16384x16384_3_0_012_1_n_n none x (uitofp .f32 (cmpi .sgt byQuery byKey))

def weights (z : Scores) : Scores := before (Host.exp (addf (addf z (kept z)) (sums (kept z))))

def result (w : Scores) (v : FVec Ideal S2x16384x8x128 .f32) : FVec Ideal S32768x1024 .bf16 :=
  truncf .bf16 (shapeCast _ (transpose S2x16384x8x128 [0, 3, 1, 2] (Host.dotGeneral dot_S2x16384x8x128_S2x8x16384x16384_S2x8x128x16384_1_3_3_2_02_01 none v w)
    transposes_S2x8x128x16384_S2x16384x8x128_0_3_1_2) shapeCasts_S2x16384x8x128_S32768x1024) bitsLt_bf16_f32

theorem stages (m : (ℓ : Loc nD τ sig) → Buf (Elt Ideal) ℓ) (c : Dev nD) :
    Value.res_main_v34 m c
      = result (weights (scores (m ((c.tc : Thread nD τ).loc main_arg0)) (m ((c.tc : Thread nD τ).loc main_arg1)))) (valueHeads (m ((c.tc : Thread nD τ).loc main_arg2))) := rfl

/-! ## Read at an element -/

theorem heads_apply (X : FVec Ideal S32768x1024 .bf16) (b : Fin 2) (u : Fin 16384) (h : Fin 8) (d : Fin 128) :
    heads X (ix4 b u h d) = SB.cols X b h u.val d := by
  unfold SB.cols
  pointwise [heads]
  exact congrArg X (congrArg₂ ix2 (Fin.ext (by show b.val * 16384 + u.val = 16384 * b.val + u.val; omega)) (Fin.ext (by show h.val * 128 + d.val = 128 * h.val + d.val; omega)))

theorem valueHeads_apply (X : FVec Ideal S128x1024x256 .bf16) (b : Fin 2) (u : Fin 16384) (h : Fin 8) (d : Fin 128) :
    valueHeads X (ix4 b u h d) = SB.vals X b h u.val d := by
  unfold SB.vals
  pointwise [valueHeads]
  exact congrArg X (congrArg₂ (fun x y => ix3 x y _) (Fin.ext (by show b.val * 64 + u.val / 256 = 64 * b.val + u.val / 256; omega))
    (Fin.ext (by show h.val * 128 + d.val = 128 * h.val + d.val; omega)))

theorem log_two : Ideal.log (Ideal.ofBits .f32 1073741824#32) = ((Real.log 2 : ℝ) : EReal) := by
  have h : Ideal.ofBits .f32 1073741824#32 = ((2 : ℝ) : EReal) := by
    simp [Ideal.ofBits, Ideal.ieee]
    rw [← EReal.coe_mul]
    exact congrArg _ (by norm_num)
  rw [h, Ideal.log_coe, if_neg (not_le.2 two_pos)]

theorem scores_apply (q k : FVec Ideal S32768x1024 .bf16) (b : Fin 2) (h : Fin 8) (g u : Fin 16384) :
    scores q k (ix4 b h g u) = ∑ d : Fin 128, (heads q (ix4 b g h d) * ((Real.log 2 : ℝ) : EReal)) * heads k (ix4 b u h d) := by
  pointwise [scores]
  rw [log_two]

theorem before_apply (x : Scores) (b : Fin 2) (h : Fin 8) (g u : Fin 16384) :
    before x (ix4 b h g u) = if u.val < g.val then x (ix4 b h g u) else 0 := by
  pointwise [before, byKey, byQuery, zeros]
  have hg := g.isLt
  have hu := u.isLt
  rw [WordCmp.cmpi_slt_ofNat (by omega) (by omega)]
  by_cases hlt : u.val < g.val <;> simp [hlt, Scalar.select]

theorem softplus_apply (z : Scores) (b : Fin 2) (h : Fin 8) (g u : Fin 16384) (r : ℝ) (hr : z (ix4 b h g u) = (r : EReal)) :
    softplus z (ix4 b h g u) = ((max r 0 + Real.log (1 + Real.exp (-|r|)) : ℝ) : EReal) := by
  have ha : FloatOps.absf (F := Ideal) (φ := .f32) ((r : ℝ) : EReal) = ((|r| : ℝ) : EReal) := by
    show max ((r : ℝ) : EReal) (-(r : EReal)) = _
    rw [← EReal.coe_neg, ← SB.coe_max]
    rfl
  have hp : (0 : ℝ) < 1 + Real.exp (-|r|) := add_pos one_pos (Real.exp_pos _)
  pointwise [softplus, zeros]
  rw [if_neg (fun hn => hn rfl), hr, ha, ← EReal.coe_neg, Ideal.exp_coe, ← EReal.coe_zero, ← SB.coe_max]
  show _ + Ideal.log (1 + _) = _
  rw [← EReal.coe_one, ← EReal.coe_add, Ideal.log_coe, if_neg (not_le.2 hp), ← EReal.coe_add]

theorem sums_apply (x : Scores) (b : Fin 2) (h : Fin 8) (g u : Fin 16384) :
    sums x (ix4 b h g u) = ∑ w : Fin 16384, x (ix4 b h g w) * (if u.val < w.val then 1 else 0) := by
  pointwise [sums, byQuery, byKey]
  refine sum_congr rfl fun w _ => congrArg (x (ix4 b h g w) * ·) ?_
  have hw := w.isLt
  have hu := u.isLt
  rw [WordCmp.cmpi_sgt_ofNat (by omega) (by omega)]
  show ((((BitVec.ofBool (decide (u.val < w.val))).toNat : ℝ)) : EReal) = _
  by_cases hlt : u.val < w.val <;> simp [hlt]

theorem kept_apply (z : Scores) (b : Fin 2) (h : Fin 8) (g u : Fin 16384) (r : ℝ) (hr : z (ix4 b h g u) = ((Real.log 2 * r : ℝ) : EReal)) :
    kept z (ix4 b h g u) = if u.val < g.val then ((Real.log 2 * SB.logKeep r : ℝ) : EReal) else 0 := by
  unfold kept
  rw [before_apply]
  refine if_congr Iff.rfl ?_ rfl
  show -(softplus z (ix4 b h g u)) = _
  rw [softplus_apply z b h g u _ hr, SB.logKeep_nat, EReal.coe_neg]

theorem weights_apply (z : Scores) (b : Fin 2) (h : Fin 8) (g u : Fin 16384) :
    weights z (ix4 b h g u) = if u.val < g.val then Ideal.exp (z (ix4 b h g u) + kept z (ix4 b h g u) + sums (kept z) (ix4 b h g u)) else 0 := by
  unfold weights
  rw [before_apply]
  rfl

theorem result_apply (w : Scores) (v : FVec Ideal S2x16384x8x128 .f32) (x y : ℕ) (hx : x < 32768) (hy : y < 1024) :
    result w v (ix2 ⟨x, hx⟩ ⟨y, hy⟩) = ∑ u : Fin 16384, v (ix4 ⟨x / 16384, by omega⟩ u ⟨y / 128, by omega⟩ ⟨y % 128, Nat.mod_lt _ (by decide)⟩)
      * w (ix4 ⟨x / 16384, by omega⟩ ⟨y / 128, by omega⟩ ⟨x % 16384, Nat.mod_lt _ (by decide)⟩ u) := by
  pointwise [result]

/-! ## The whole -/

/-- A sum over the 16384 rows of what is zero outside `[lo, hi)`. -/
theorem sum_rows {M : Type} [AddCommMonoid M] (f : ℕ → M) (lo hi : ℕ) (hhi : hi ≤ 16384) :
    ∑ u : Fin 16384, (if lo ≤ u.val ∧ u.val < hi then f u.val else 0) = ∑ u ∈ Ico lo hi, f u := by
  rw [Fin.sum_univ_eq_sum_range (fun u => if lo ≤ u ∧ u < hi then f u else 0) 16384, ← sum_filter]
  refine sum_congr (Finset.ext fun u => ?_) fun _ _ => rfl
  rw [mem_filter, mem_range, mem_Ico]
  omega

variable {q k : FVec Ideal S32768x1024 .bf16} (hq : SB.Reals q) (hk : SB.Reals k)

/-- The real keys and queries of one batch and head. -/
abbrev realCols (X : FVec Ideal S32768x1024 .bf16) (b : Fin 2) (h : Fin 8) : ℕ → Fin 128 → ℝ := fun u e => (SB.cols X b h u e).toReal

include hq hk

theorem scores_real (b : Fin 2) (h : Fin 8) (g u : Fin 16384) :
    scores q k (ix4 b h g u) = ((Real.log 2 * SB.logit (realCols k b h) (realCols q b h) u.val g.val : ℝ) : EReal) := by
  rw [scores_apply, SB.logit, mul_sum, SB.coe_sum]
  refine sum_congr rfl fun d _ => ?_
  rw [heads_apply, heads_apply, SB.cols_real hq, SB.cols_real hk, ← EReal.coe_mul, ← EReal.coe_mul]
  refine congrArg _ ?_
  ring

theorem sums_real (b : Fin 2) (h : Fin 8) (g u : Fin 16384) :
    sums (kept (scores q k)) (ix4 b h g u) = ((Real.log 2 * SB.keepSum (realCols k b h) (realCols q b h) (u.val + 1) g.val : ℝ) : EReal) := by
  rw [sums_apply, SB.keepSum, mul_sum, SB.coe_sum,
    ← sum_rows (fun w => ((Real.log 2 * SB.logKeep (SB.logit (realCols k b h) (realCols q b h) w g.val) : ℝ) : EReal)) _ _ g.isLt.le]
  refine sum_congr rfl fun w _ => ?_
  rw [kept_apply _ b h g w _ (scores_real hq hk b h g w)]
  by_cases h1 : w.val < g.val <;> by_cases h2 : u.val < w.val <;> simp [h1, h2, Nat.succ_le_iff]

theorem weights_real (b : Fin 2) (h : Fin 8) (g u : Fin 16384) :
    weights (scores q k) (ix4 b h g u) = if u.val < g.val then ((SB.weight (realCols k b h) (realCols q b h) u.val g.val : ℝ) : EReal) else 0 := by
  rw [weights_apply]
  by_cases hlt : u.val < g.val
  · rw [if_pos hlt, if_pos hlt, kept_apply _ b h g u _ (scores_real hq hk b h g u), if_pos hlt, sums_real hq hk, scores_real hq hk,
      ← EReal.coe_add, ← EReal.coe_add, SB.logBeta_nat, ← mul_add, Ideal.exp_coe, SB.exp_log_two]
    rfl
  · rw [if_neg hlt, if_neg hlt]

/-- The reference's result is the attention. -/
theorem result_real (v : FVec Ideal S128x1024x256 .bf16) : result (weights (scores q k)) (valueHeads v) = SB.attnAll q k v := by
  funext x
  obtain ⟨x, y, rfl⟩ : ∃ a b, x = ix2 a b := ⟨x 0, x 1, eq_ix2 x⟩
  rw [result_apply _ _ x.val y.val x.isLt y.isLt]
  show _ = SB.part _ _ _ 0 _ _
  rw [SB.part, ← sum_rows _ 0 _ (Nat.mod_lt _ (by decide)).le]
  refine sum_congr rfl fun u _ => ?_
  rw [valueHeads_apply, weights_real hq hk]
  by_cases hlt : u.val < x.val % 16384
  · rw [if_pos hlt]
    exact (if_pos ⟨Nat.zero_le _, hlt⟩).symm
  · rw [if_neg hlt, mul_zero]
    exact (if_neg fun hn => hlt hn.2).symm

end Cert.Proof.RI

end
-- ==== Proof.Equal.lean ====
/-
  The kernel's result and the reference's are equal, for queries and keys without infinities.
-/
module

public import proofs.«01_k».proof.Proof.KI.Value
public import proofs.«01_k».proof.Proof.RI.Frame
public import proofs.«01_k».proof.Proof.RI.Read

@[expose] public section

noncomputable section

namespace Cert.Proof

open Idealize.ShloMosaic Idealize.ShloMosaic.TcCoe Idealize.SL.Sem

/-- An extended real of magnitude below infinity is a real. -/
theorem real_of_abs_lt (x : EReal) (h : max x (-x) < ⊤) : x = (x.toReal : EReal) :=
  (EReal.coe_toReal (fun hx => by simp [hx] at h) (fun hx => by simp [hx] at h)).symm

theorem infinity : Ideal.ofBits .f32 2139095040#32 = ⊤ := by simp [Ideal.ofBits, Ideal.ieee]

section
attribute [local instance] RI.pre_facts

variable (q k : FVec Ideal Cert.Pre_finite.S32768x1024 .bf16) (v : FVec Ideal Cert.Pre_finite.S128x1024x256 .bf16)

theorem queries_real (h : (Cert.Pre_finite.fn (F := Ideal) q k v).1 = fun _ => 1#1) : SB.Reals q := by
  intro x
  have hx := congrFun h x
  refine real_of_abs_lt (q x) ?_
  pointwise [Cert.Pre_finite.fn] at hx
  rw [infinity] at hx
  change BitVec.ofBool (decide (max (q x : EReal) (-q x) < ⊤)) = 1#1 at hx
  refine not_not.1 fun hn => ?_
  rw [decide_eq_false hn] at hx
  exact absurd hx (by decide)

theorem keys_real (h : (Cert.Pre_finite.fn (F := Ideal) q k v).2 = fun _ => 1#1) : SB.Reals k :=
  queries_real k q v h

end

theorem algebraic : Cert.algebraic_KernelIdeal_ReferenceIdeal_pre_finite (hKernelIdeal := Cert.KernelIdeal.Gen.facts)
    (hReferenceIdeal := Cert.ReferenceIdeal.Gen.facts) (hPre_finite := RI.pre_facts) := by
  intro m g m' g' hpre hagree
  have hq : ∀ c, SB.Reals (KI.qArr m c) := fun c => queries_real _ _ _ (hpre c).1
  have hk : ∀ c, SB.Reals (KI.kArr m c) := fun c => keys_real _ _ _ (hpre c).2
  refine ⟨fun c => SB.attnAll (KI.qArr m c) (KI.kArr m c) (KI.vArr m c), KI.run_value m g hq hk, ?_⟩
  refine (θ_run (Cert.ReferenceIdeal.defs (F := Ideal)) _ _).mono (fun r h c => ⟨(h c).1.trans ?_, (h c).2⟩) (Cert.ReferenceIdeal.Value.run m' g')
  rw [RI.stages, (hagree c).1, (hagree c).2.1, (hagree c).2.2]
  exact RI.result_real (hq c) (hk c) (KI.vArr m c)

end Cert.Proof

end
-- ==== Proof.FF.Math.lean ====
/-
  The feed-forward part of one row: normalize, gate, project down, normalize, add half of it.
-/
module

public import Idealize.ShloMosaic.PureOps.Ideal
public import Idealize.ShloMosaic.Lib.Pointwise

@[expose] public section

noncomputable section

namespace Cert.Proof.FF

open Idealize.ShloMosaic Finset

/-- The row `x` over the root of the mean of its squares, times the gain. -/
def rms (x g : Fin 1024 → EReal) (l : Fin 1024) : EReal :=
  x l * Ideal.rsqrt (Ideal.div (∑ k, x k * x k) (Ideal.ofBits .f32 0x44800000#32) + Ideal.ofBits .f32 0x358637BD#32) * g l

/-- A row times a matrix. -/
def times {n k : ℕ} (x : Fin n → EReal) (W : Fin n → Fin k → EReal) (j : Fin k) : EReal := ∑ i, x i * W i j

/-- The gated hidden row. -/
def gated (x : Fin 1024 → EReal) (G U : Fin 1024 → Fin 1408 → EReal) (j : Fin 1408) : EReal :=
  times x G j * Ideal.logistic (times x G j) * times x U j

/-- The feed-forward part of the row `h`. -/
def ffn (h g : Fin 1024 → EReal) (G U : Fin 1024 → Fin 1408 → EReal) (D : Fin 1408 → Fin 1024 → EReal) (g' : Fin 1024 → EReal) (l : Fin 1024) : EReal :=
  h l + Ideal.ofBits .f32 0x3F000000#32 * rms (times (gated (rms h g) G U) D) g' l

theorem ffn_congr {h h₁ g g₁ : Fin 1024 → EReal} {G G₁ U U₁ : Fin 1024 → Fin 1408 → EReal} {D D₁ : Fin 1408 → Fin 1024 → EReal} {g' g'₁ : Fin 1024 → EReal}
    (eh : ∀ l, h l = h₁ l) (eg : ∀ l, g l = g₁ l) (eG : ∀ k j, G k j = G₁ k j) (eU : ∀ k j, U k j = U₁ k j) (eD : ∀ j l, D j l = D₁ j l) (eg' : ∀ l, g' l = g'₁ l)
    (l : Fin 1024) : ffn h g G U D g' l = ffn h₁ g₁ G₁ U₁ D₁ g'₁ l := by
  rw [funext eh, funext eg, funext fun k => funext (eG k), funext fun k => funext (eU k), funext fun k => funext (eD k), funext eg']

/-- The row `h` and the attention's row `a`, projected and normalized. -/
def mix (h a : Fin 1024 → EReal) (W : Fin 1024 → Fin 1024 → EReal) (g : Fin 1024 → EReal) (l : Fin 1024) : EReal :=
  h l + rms (times a W) g l

theorem mix_congr {h h₁ a a₁ g g₁ : Fin 1024 → EReal} {W W₁ : Fin 1024 → Fin 1024 → EReal} (eh : ∀ l, h l = h₁ l) (ea : ∀ l, a l = a₁ l)
    (eW : ∀ k l, W k l = W₁ k l) (eg : ∀ l, g l = g₁ l) (l : Fin 1024) : mix h a W g l = mix h₁ a₁ W₁ g₁ l := by
  rw [funext eh, funext ea, funext fun k => funext (eW k), funext eg]

/-- The feed-forward part of layer `L`, the `J`th of its two, for all rows. -/
def ffnAll (L : Fin 4) (J : Fin 2) (h : (⟨2, ![32768, 1024]⟩ : Shape).Idx → EReal) (g g' : (⟨3, ![4, 2, 1024]⟩ : Shape).Idx → EReal)
    (G U : (⟨4, ![4, 2, 1024, 1408]⟩ : Shape).Idx → EReal) (D : (⟨4, ![4, 2, 1408, 1024]⟩ : Shape).Idx → EReal) :
    (⟨2, ![32768, 1024]⟩ : Shape).Idx → EReal := fun x =>
  ffn (fun l => h (ix2 (x 0) l)) (fun l => g (ix3 L J l)) (fun k j => G (ix4 L J k j)) (fun k j => U (ix4 L J k j)) (fun j l => D (ix4 L J j l)) (fun l => g' (ix3 L J l)) (x 1)

/-- All rows with the attention projected by weights `o`, as layer `L`. -/
def mixAll (o : Fin 2) (L : Fin 4) (h a : (⟨2, ![32768, 1024]⟩ : Shape).Idx → EReal) (W : (⟨3, ![2, 1024, 1024]⟩ : Shape).Idx → EReal)
    (g : (⟨2, ![4, 1024]⟩ : Shape).Idx → EReal) : (⟨2, ![32768, 1024]⟩ : Shape).Idx → EReal := fun x =>
  mix (fun l => h (ix2 (x 0) l)) (fun l => a (ix2 (x 0) l)) (fun k l => W (ix3 o k l)) (fun l => g (ix2 L l)) (x 1)

end Cert.Proof.FF

end
-- ==== Proof.FF.Piece.lean ====
/-
  What the feed-forward kernel stores of a block of rows, read at an element.
-/
module

public import proofs.«01_k».proof.Proof.Gen.Kernel2Ideal.Frame
public import proofs.«01_k».proof.Proof.FF.Math

@[expose] public section

noncomputable section

namespace Cert.Proof.FF

open Cert.Kernel2Ideal Cert.Kernel2Ideal.Gen Idealize.ShloMosaic Finset

variable (h : FVec Ideal S256x1024 .f32) (g g' : FVec Ideal S1x1x1024 .f32) (W : FVec Ideal S1x1024x2816 .bf16) (D : FVec Ideal S1x1408x1024 .bf16)

/-- What is stored of 256 rows; the kernel spells it in four ways, one for each of a block's four parts. -/
def piece : FVec Ideal S256x1024 .f32 := k0_pay15 h (k0_pay11 (k0_pay8 (k0_pay3 h g) W) D) g'

theorem piece1 : k0_pay16 h (k0_pay12 (k0_pay9 (k0_pay4 h g) W) (k0_pay10 (k0_pay4 h g) W) D) g' = piece h g g' W D := rfl

theorem piece2 : k0_pay1 h (k0_pay13 (k0_pay6 h (k0_pay5 g)) W D) (k0_pay17 g') (k0_pay18 (k0_pay13 (k0_pay6 h (k0_pay5 g)) W D)) = piece h g g' W D := rfl

theorem piece3 : k0_pay2 h (k0_pay14 (k0_pay7 h g) W D) g' = piece h g g' W D := rfl

theorem norm_apply (r : Fin 256) (l : Fin 1024) : k0_pay3 (F := Ideal) h g (ix2 r l) = rms (fun k => h (ix2 r k)) (fun k => g (ix3 0 0 k)) l := by
  pointwise [k0_pay3]
  rfl

theorem gated_apply (x : FVec Ideal S256x1024 .bf16) (r : Fin 256) (j : Fin 1408) :
    k0_pay8 (F := Ideal) x W (ix2 r j) = gated (fun k => x (ix2 r k)) (fun k j => W (ix3 0 k ⟨j.val, by omega⟩)) (fun k j => W (ix3 0 k ⟨1408 + j.val, by omega⟩)) j := by
  pointwise [k0_pay8]
  rfl

theorem down_apply (x : FVec Ideal S256x1408 .bf16) (r : Fin 256) (l : Fin 1024) :
    k0_pay11 (F := Ideal) x D (ix2 r l) = times (fun j => x (ix2 r j)) (fun j l => D (ix3 0 j l)) l := by
  pointwise [k0_pay11]
  rfl

theorem add_apply (f : FVec Ideal S256x1024 .f32) (r : Fin 256) (l : Fin 1024) :
    k0_pay15 (F := Ideal) h f g' (ix2 r l) = h (ix2 r l) + Ideal.ofBits .f32 0x3F000000#32 * rms (fun k => f (ix2 r k)) (fun k => g' (ix3 0 0 k)) l := by
  pointwise [k0_pay15]
  rfl

/-- A stored element is the feed-forward part of its row. -/
theorem piece_apply (r : Fin 256) (l : Fin 1024) : piece h g g' W D (ix2 r l)
    = ffn (fun k => h (ix2 r k)) (fun k => g (ix3 0 0 k)) (fun k j => W (ix3 0 k ⟨j.val, by omega⟩)) (fun k j => W (ix3 0 k ⟨1408 + j.val, by omega⟩))
      (fun j l => D (ix3 0 j l)) (fun k => g' (ix3 0 0 k)) l := by
  unfold piece ffn
  simp only [add_apply, down_apply, gated_apply, norm_apply]

end Cert.Proof.FF

end
-- ==== Proof.FF.Value.lean ====
/-
  The feed-forward kernel's result: the feed-forward part of every row.
-/
module

public import proofs.«01_k».proof.Proof.Gen.Kernel2Ideal.Value
public import proofs.«01_k».proof.Proof.FF.Piece
public import Idealize.ShloMosaic.Lib.Pipeline.ValueKit
public import Idealize.ShloMosaic.Lib.Claim

@[expose] public section

set_option maxRecDepth 16384

noncomputable section

namespace Cert.Proof.FF

open Cert.Kernel2Ideal Cert.Kernel2Ideal.Gen Idealize.ShloMosaic Idealize.ShloMosaic.TcCoe Finset
open Idealize.ShloMosaic.Tactic Idealize.SL.Sem

variable (m : (l : Loc nD τ sig) → Buf (Elt Ideal) l)

/-- The argument arrays. -/
abbrev hArr (c : Dev nD) : S32768x1024.Idx → EReal := m ((c : Thread nD τ).loc main_arg0)
abbrev preArr (c : Dev nD) : S4x2x1024.Idx → EReal := m ((c : Thread nD τ).loc main_arg1)
abbrev postArr (c : Dev nD) : S4x2x1024.Idx → EReal := m ((c : Thread nD τ).loc main_arg2)
abbrev gateArr (c : Dev nD) : S4x2x1024x1408.Idx → EReal := m ((c : Thread nD τ).loc main_arg3)
abbrev upArr (c : Dev nD) : S4x2x1024x1408.Idx → EReal := m ((c : Thread nD τ).loc main_arg4)
abbrev downArr (c : Dev nD) : S4x2x1408x1024.Idx → EReal := m ((c : Thread nD τ).loc main_arg5)

theorem index0 : ∀ t : Fin grid0.N, win0_0.index t (0 : Fin 2) = t.val ∧ win0_0.index t (1 : Fin 2) = 0 := by decide +kernel
theorem index1 : ∀ t : Fin grid0.N, win0_1.index t (0 : Fin 3) = 0 ∧ win0_1.index t (1 : Fin 3) = 0 ∧ win0_1.index t (2 : Fin 3) = 0 := by decide +kernel
theorem index2 : ∀ t : Fin grid0.N, win0_2.index t (0 : Fin 3) = 0 ∧ win0_2.index t (1 : Fin 3) = 0 ∧ win0_2.index t (2 : Fin 3) = 0 := by decide +kernel
theorem index3 : ∀ t : Fin grid0.N, win0_3.index t (0 : Fin 3) = 0 ∧ win0_3.index t (1 : Fin 3) = 0 ∧ win0_3.index t (2 : Fin 3) = 0 := by decide +kernel
theorem index4 : ∀ t : Fin grid0.N, win0_4.index t (0 : Fin 3) = 0 ∧ win0_4.index t (1 : Fin 3) = 0 ∧ win0_4.index t (2 : Fin 3) = 0 := by decide +kernel
theorem index5 : ∀ t : Fin grid0.N, win0_5.index t (0 : Fin 2) = t.val ∧ win0_5.index t (1 : Fin 2) = 0 := by decide +kernel

theorem points (t : Fin grid0.N) : t.val < 32 := t.isLt

theorem rows_at (c : Dev nD) (t : Fin grid0.N) (r l : Fin 1024) :
    iblk (F := Ideal) m c 0 t (ix2 r l) = hArr m c (ix2 ⟨1024 * t.val + r.val, by have := points t; omega⟩ l) := by
  obtain ⟨e0, e1⟩ := index0 t
  blk_simp [iblk]
  entry_read
  refine congrArg (hArr m c) (funext fun a => Fin.ext ?_)
  fin_cases a
  · show win0_0.index t (0 : Fin 2) * 1024 + 1 * r.val = 1024 * t.val + r.val; omega
  · show win0_0.index t (1 : Fin 2) * 1024 + 1 * l.val = l.val; omega

theorem pre_at (c : Dev nD) (t : Fin grid0.N) (l : Fin 1024) : iblk (F := Ideal) m c 1 t (ix3 0 0 l) = preArr m c (ix3 0 0 l) := by
  obtain ⟨e0, e1, e2⟩ := index1 t
  blk_simp [iblk]
  entry_read
  have e : ((View.whole main_v5).slice (win0_1.rect t)).emb (ix3 0 0 l) = (ix3 (0 : Fin 8) (0 : Fin 1) l : S8x1x1024.Idx) := by
    refine funext fun a => Fin.ext ?_
    fin_cases a
    · show win0_1.index t (0 : Fin 3) * 1 + 1 * 0 = 0; omega
    · show win0_1.index t (1 : Fin 3) * 1 + 1 * 0 = 0; omega
    · show win0_1.index t (2 : Fin 3) * 1024 + 1 * l.val = l.val; omega
  rw [e]
  pointwise

theorem post_at (c : Dev nD) (t : Fin grid0.N) (l : Fin 1024) : iblk (F := Ideal) m c 4 t (ix3 0 0 l) = postArr m c (ix3 0 0 l) := by
  obtain ⟨e0, e1, e2⟩ := index4 t
  blk_simp [iblk]
  entry_read
  have e : ((View.whole main_v6).slice (win0_4.rect t)).emb (ix3 0 0 l) = (ix3 (0 : Fin 8) (0 : Fin 1) l : S8x1x1024.Idx) := by
    refine funext fun a => Fin.ext ?_
    fin_cases a
    · show win0_4.index t (0 : Fin 3) * 1 + 1 * 0 = 0; omega
    · show win0_4.index t (1 : Fin 3) * 1 + 1 * 0 = 0; omega
    · show win0_4.index t (2 : Fin 3) * 1024 + 1 * l.val = l.val; omega
  rw [e]
  pointwise

theorem gate_up_emb (t : Fin grid0.N) (k : Fin 1024) (j : Fin 2816) :
    ((View.whole main_v2).slice (win0_2.rect t)).emb (ix3 0 k j) = (ix3 (0 : Fin 8) k j : S8x1024x2816.Idx) := by
  obtain ⟨e0, e1, e2⟩ := index2 t
  refine funext fun a => Fin.ext ?_
  fin_cases a
  · show win0_2.index t (0 : Fin 3) * 1 + 1 * 0 = 0; omega
  · show win0_2.index t (1 : Fin 3) * 1024 + 1 * k.val = k.val; omega
  · show win0_2.index t (2 : Fin 3) * 2816 + 1 * j.val = j.val; omega

theorem gate_at (c : Dev nD) (t : Fin grid0.N) (k : Fin 1024) (j : Fin 1408) :
    iblk (F := Ideal) m c 2 t (ix3 0 k ⟨j.val, by omega⟩) = gateArr m c (ix4 0 0 k j) := by
  blk_simp [iblk]
  entry_read
  rw [gate_up_emb]
  pointwise

theorem up_at (c : Dev nD) (t : Fin grid0.N) (k : Fin 1024) (j : Fin 1408) :
    iblk (F := Ideal) m c 2 t (ix3 0 k ⟨1408 + j.val, by omega⟩) = upArr m c (ix4 0 0 k j) := by
  blk_simp [iblk]
  entry_read
  rw [gate_up_emb]
  pointwise

theorem down_at (c : Dev nD) (t : Fin grid0.N) (j : Fin 1408) (l : Fin 1024) :
    iblk (F := Ideal) m c 3 t (ix3 0 j l) = downArr m c (ix4 0 0 j l) := by
  obtain ⟨e0, e1, e2⟩ := index3 t
  blk_simp [iblk]
  entry_read
  have e : ((View.whole main_v4).slice (win0_3.rect t)).emb (ix3 0 j l) = (ix3 (0 : Fin 8) j l : S8x1408x1024.Idx) := by
    refine funext fun a => Fin.ext ?_
    fin_cases a
    · show win0_3.index t (0 : Fin 3) * 1 + 1 * 0 = 0; omega
    · show win0_3.index t (1 : Fin 3) * 1408 + 1 * j.val = j.val; omega
    · show win0_3.index t (2 : Fin 3) * 1024 + 1 * l.val = l.val; omega
  rw [e]
  pointwise

/-- 256 rows of a block, from row `o`. -/
theorem ld_rows (X : Vec Ideal S1024x1024 .f32) (o : ℕ) (inb) (r : Fin 256) (k : Fin 1024) (h : o + r.val < 1024) :
    View.ld X (Rect.unit (s := S1024x1024) ![o, 0] S256x1024.size inb) (ix2 r k) = X (ix2 ⟨o + r.val, h⟩ k) := by
  refine congrArg X (funext fun a => Fin.ext ?_)
  fin_cases a
  · show o + 1 * r.val = o + r.val; omega
  · show 0 + 1 * k.val = k.val; omega

theorem ld_gain (X : Vec Ideal S1x1x1024 .f32) (l : Fin 1024) : View.ld X r0_4 (ix3 0 0 l) = X (ix3 0 0 l) := by
  refine congrArg X (funext fun a => Fin.ext ?_)
  fin_cases a
  · rfl
  · rfl
  · show 0 + 1 * l.val = l.val; omega

theorem ld_in (X : Vec Ideal S1x1024x2816 .bf16) (k : Fin 1024) (j : Fin 2816) : View.ld X r0_5 (ix3 0 k j) = X (ix3 0 k j) := by
  refine congrArg X (funext fun a => Fin.ext ?_)
  fin_cases a
  · rfl
  · show 0 + 1 * k.val = k.val; omega
  · show 0 + 1 * j.val = j.val; omega

theorem ld_down (X : Vec Ideal S1x1408x1024 .bf16) (j : Fin 1408) (l : Fin 1024) : View.ld X r0_6 (ix3 0 j l) = X (ix3 0 j l) := by
  refine congrArg X (funext fun a => Fin.ext ?_)
  fin_cases a
  · rfl
  · show 0 + 1 * j.val = j.val; omega
  · show 0 + 1 * l.val = l.val; omega

/-- An element of the 256 rows from row `o`, over a point's blocks. -/
theorem part_at (c : Dev nD) (t : Fin grid0.N) (o : ℕ) (inb) (y : S1024x1024.Idx) (x : S256x1024.Idx) (h0 : (y 0).val = o + (x 0).val) (h1 : (y 1).val = (x 1).val) :
    piece (View.ld (iblk (F := Ideal) m c 0 t) (Rect.unit (s := S1024x1024) ![o, 0] S256x1024.size inb)) (View.ld (iblk (F := Ideal) m c 1 t) r0_4)
      (View.ld (iblk (F := Ideal) m c 4 t) r0_4) (View.ld (iblk (F := Ideal) m c 2 t) r0_5) (View.ld (iblk (F := Ideal) m c 3 t) r0_6) x
      = ffnAll 0 0 (hArr m c) (preArr m c) (postArr m c) (gateArr m c) (upArr m c) (downArr m c) (ix2 ⟨1024 * t.val + (y 0).val, by have := points t; have : (y 0).val < 1024 := (y 0).isLt; omega⟩ (y 1)) := by
  obtain ⟨r, l, rfl⟩ : ∃ (r : Fin 256) (l : Fin 1024), x = ix2 r l := ⟨x 0, x 1, eq_ix2 x⟩
  obtain ⟨u, v, rfl⟩ : ∃ (u : Fin 1024) (v : Fin 1024), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  rw [piece_apply]
  exact ffn_congr (fun k => (ld_rows _ o inb r k ho).trans (rows_at m c t _ k)) (fun k => (ld_gain _ k).trans (pre_at m c t k))
    (fun k j => (ld_in _ k _).trans (gate_at m c t k j)) (fun k j => (ld_in _ k _).trans (up_at m c t k j))
    (fun j k => (ld_down _ j k).trans (down_at m c t j k)) (fun k => (ld_gain _ k).trans (post_at m c t k)) l

/-- Row `y` of the block of 1024 rows that a point writes. -/
theorem out_at (c : Dev nD) (t : Fin grid0.N) (y : S1024x1024.Idx) :
    out0_5 (F := Ideal) (iblk m c 0 t) (iblk m c 1 t) (iblk m c 2 t) (iblk m c 3 t) (iblk m c 4 t) y
      = ffnAll 0 0 (hArr m c) (preArr m c) (postArr m c) (gateArr m c) (upArr m c) (downArr m c) (ix2 ⟨1024 * t.val + (y 0).val, by have := points t; have : (y 0).val < 1024 := (y 0).isLt; omega⟩ (y 1)) := by
  unfold_out out0_5
  canon_tiles x h
  · rw [piece3]; exact part_at m c t 768 _ y x h0 h1
  · rw [piece2]; exact part_at m c t 512 _ y x h0 h1
  · rw [piece1]; exact part_at m c t 256 _ y x h0 h1
  · exact part_at m c t 0 _ y x (by omega) h1

/-- The kernel's result array. -/
theorem final (c : Dev nD) : (dats (F := Ideal) m 0 c).arrAt 5 cfg0.N
    = ffnAll 0 0 (hArr m c) (preArr m c) (postArr m c) (gateArr m c) (upArr m c) (downArr m c) := by
  refine (dats (F := Ideal) m 0 c).arrAt_eq_of_covers 5 _ (by decide +kernel) fun t _ y => ?_
  blk_simp
  rw [after0_5]
  refine (out_at m c t _).trans (congrArg _ (funext fun a => Fin.ext ?_))
  obtain ⟨e0, e1⟩ := index5 t
  fin_cases a
  · show 1024 * t.val + (y 0).val = win0_5.index t (0 : Fin 2) * 1024 + 1 * (y 0).val; omega
  · show (y 1).val = win0_5.index t (1 : Fin 2) * 1024 + 1 * (y 1).val; omega

/-- The run with its result named, the arguments as they were. -/
theorem run (ρ : Dev nD → PrngReg) : θ_run defs (onTc (τ := τ) (main (F := Ideal))) ⟨m, fun _ => 0, ρ⟩ fun r => ∀ c : Dev nD,
    r.2.mem ((c : Thread nD τ).loc main_v7) = ffnAll 0 0 (hArr m c) (preArr m c) (postArr m c) (gateArr m c) (upArr m c) (downArr m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨(h c).1.trans (final m c), (h c).2⟩) (Value.run_blocks m ρ)

end Cert.Proof.FF

end
-- ==== Proof.FF.Ref.lean ====
/-
  The reference's feed-forward part, read at an element.
-/
module

public import proofs.«01_k».proof.Proof.Gen.Reference2Ideal.Run
public import proofs.«01_k».proof.Proof.FF.Math

@[expose] public section

set_option maxRecDepth 16384

noncomputable section

namespace Cert.Proof.FF.Ref

open Cert.Reference2Ideal Cert.Reference2Ideal.Gen Idealize.ShloMosaic Idealize.ShloMosaic.TcCoe Finset

/-- Rows normalized. -/
def norm (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- Rows into the hidden size. -/
def into (x : FVec Ideal S32768x1024 .f32) (W : FVec Ideal S1024x1408 .f32) : FVec Ideal S32768x1408 .f32 :=
  Host.dotGeneral dot_S32768x1024_S1024x1408_S32768x1408_1_0_0_1_n_n none x W

/-- The gate's nonlinearity. -/
def act (G : FVec Ideal S32768x1408 .f32) : FVec Ideal S32768x1408 .f32 :=
  mulf G (Host.divf (broadcastInDim S32768x1408 ![] bcast_S_S32768x1408 (constant S_ .f32 0x3F800000#32))
    (addf (broadcastInDim S32768x1408 ![] bcast_S_S32768x1408 (constant S_ .f32 0x3F800000#32)) (Host.exp (Host.negf G))))

/-- Rows back from the hidden size. -/
def back (x : FVec Ideal S32768x1408 .f32) (W : FVec Ideal S1408x1024 .f32) : FVec Ideal S32768x1024 .f32 :=
  Host.dotGeneral dot_S32768x1408_S1408x1024_S32768x1024_1_0_0_1_n_n none x W

/-- Half of the rows `f` added. -/
def addHalf (h f : FVec Ideal S32768x1024 .f32) : FVec Ideal S32768x1024 .f32 :=
  addf h (mulf (broadcastInDim S32768x1024 ![] bcast_S_S32768x1024 (constant S_ .f32 0x3F000000#32)) f)

/-- The feed-forward part. -/
def ffnRows (h : FVec Ideal S32768x1024 .f32) (g g' : FVec Ideal S1024 .f32) (G U : FVec Ideal S1024x1408 .f32) (D : FVec Ideal S1408x1024 .f32) : FVec Ideal S32768x1024 .f32 :=
  addHalf h (norm (back (mulf (act (into (norm h g) G)) (into (norm h g) U)) D) g')

theorem norm_apply (x : FVec Ideal S32768x1024 .f32) (g : FVec Ideal S1024 .f32) (r : Fin 32768) (l : Fin 1024) :
    norm x g (ix2 r l) = rms (fun k => x (ix2 r k)) (fun k => g (ix1 k)) l := by
  pointwise [norm]
  rfl

theorem into_apply (x : FVec Ideal S32768x1024 .f32) (W : FVec Ideal S1024x1408 .f32) (r : Fin 32768) (j : Fin 1408) :
    into x W (ix2 r j) = times (fun k => x (ix2 r k)) (fun k j => W (ix2 k j)) j := by
  pointwise [into]
  rfl

theorem back_apply (x : FVec Ideal S32768x1408 .f32) (W : FVec Ideal S1408x1024 .f32) (r : Fin 32768) (l : Fin 1024) :
    back x W (ix2 r l) = times (fun k => x (ix2 r k)) (fun k j => W (ix2 k j)) l := by
  pointwise [back]
  rfl

theorem gated_apply (x : FVec Ideal S32768x1024 .f32) (G U : FVec Ideal S1024x1408 .f32) (r : Fin 32768) (j : Fin 1408) :
    mulf (act (into x G)) (into x U) (ix2 r j) = gated (fun k => x (ix2 r k)) (fun k j => G (ix2 k j)) (fun k j => U (ix2 k j)) j := by
  pointwise [act]
  rw [into_apply, into_apply]
  rfl

theorem addHalf_apply (h f : FVec Ideal S32768x1024 .f32) (r : Fin 32768) (l : Fin 1024) :
    addHalf h f (ix2 r l) = h (ix2 r l) + Ideal.ofBits .f32 0x3F000000#32 * f (ix2 r l) := by
  pointwise [addHalf]

theorem ffnRows_apply (h : FVec Ideal S32768x1024 .f32) (g g' : FVec Ideal S1024 .f32) (G U : FVec Ideal S1024x1408 .f32) (D : FVec Ideal S1408x1024 .f32) (r : Fin 32768) (l : Fin 1024) :
    ffnRows h g g' G U D (ix2 r l)
      = ffn (fun k => h (ix2 r k)) (fun k => g (ix1 k)) (fun k j => G (ix2 k j)) (fun k j => U (ix2 k j)) (fun j l => D (ix2 j l)) (fun k => g' (ix1 k)) l := by
  unfold ffnRows ffn
  simp only [addHalf_apply, norm_apply, back_apply, gated_apply]

/-! ## The first part's slices of the weights -/

/-- The first part's gain, -/
def gain (g : FVec Ideal S4x2x1024 .f32) : FVec Ideal S1024 .f32 :=
  shapeCast _ (extractStridedSlice S1x1x1024 ![0, 0, 0] g slices_S4x2x1024_S1x1x1024_0_0_0) shapeCasts_S1x1x1024_S1024
/-- its weights into the hidden size -/
def weightIn (W : FVec Ideal S4x2x1024x1408 .f32) : FVec Ideal S1024x1408 .f32 :=
  shapeCast _ (extractStridedSlice S1x1x1024x1408 ![0, 0, 0, 0] W slices_S4x2x1024x1408_S1x1x1024x1408_0_0_0_0) shapeCasts_S1x1x1024x1408_S1024x1408
/-- and back. -/
def weightBack (W : FVec Ideal S4x2x1408x1024 .f32) : FVec Ideal S1408x1024 .f32 :=
  shapeCast _ (extractStridedSlice S1x1x1408x1024 ![0, 0, 0, 0] W slices_S4x2x1408x1024_S1x1x1408x1024_0_0_0_0) shapeCasts_S1x1x1408x1024_S1408x1024

theorem gain_apply (g : FVec Ideal S4x2x1024 .f32) (l : Fin 1024) : gain g (ix1 l) = g (ix3 0 0 l) := by
  pointwise [gain]
theorem weightIn_apply (W : FVec Ideal S4x2x1024x1408 .f32) (k : Fin 1024) (j : Fin 1408) : weightIn W (ix2 k j) = W (ix4 0 0 k j) := by
  pointwise [weightIn]
theorem weightBack_apply (W : FVec Ideal S4x2x1408x1024 .f32) (j : Fin 1408) (l : Fin 1024) : weightBack W (ix2 j l) = W (ix4 0 0 j l) := by
  pointwise [weightBack]

/-- What the reference computes of its arguments. -/
theorem stages (m : (l : Loc nD τ sig) → Buf (Elt Ideal) l) (c : Dev nD) : Value.res_main_v43 (F := Ideal) m c
    = ffnRows (m ((c : Thread nD τ).loc main_arg0)) (gain (m ((c : Thread nD τ).loc main_arg1))) (gain (m ((c : Thread nD τ).loc main_arg2)))
        (weightIn (m ((c : Thread nD τ).loc main_arg3))) (weightIn (m ((c : Thread nD τ).loc main_arg4))) (weightBack (m ((c : Thread nD τ).loc main_arg5))) := rfl

/-- The reference's result. -/
theorem result (h : FVec Ideal S32768x1024 .f32) (g g' : FVec Ideal S4x2x1024 .f32) (G U : FVec Ideal S4x2x1024x1408 .f32) (D : FVec Ideal S4x2x1408x1024 .f32) :
    ffnRows h (gain g) (gain g') (weightIn G) (weightIn U) (weightBack D) = ffnAll 0 0 h g g' G U D := by
  funext y
  obtain ⟨r, l, rfl⟩ : ∃ (r : Fin 32768) (l : Fin 1024), y = ix2 r l := ⟨y 0, y 1, eq_ix2 y⟩
  rw [ffnRows_apply]
  simp only [gain_apply, weightIn_apply, weightBack_apply]
  rfl

end Cert.Proof.FF.Ref

end
-- ==== Proof.MF.Piece.lean ====
/-
  What the kernel that projects the attention and then runs the feed-forward part stores of a block of rows.
-/
module

public import proofs.«01_k».proof.Proof.Gen.Kernel3Ideal.Frame
public import proofs.«01_k».proof.Proof.FF.Piece

@[expose] public section

noncomputable section

namespace Cert.Proof.MF

open Cert.Kernel3Ideal Cert.Kernel3Ideal.Gen Idealize.ShloMosaic Finset
open Cert.Proof.FF (times rms mix piece)

variable (h : FVec Ideal S256x1024 .f32) (a b : FVec Ideal S256x512 .bf16) (A B : FVec Ideal S1x512x1024 .bf16)
  (g₀ g g' : FVec Ideal S1x1x1024 .f32) (W : FVec Ideal S1x1024x2816 .bf16) (D : FVec Ideal S1x1408x1024 .bf16)

/-- 256 rows with the attention's, in two halves, projected and normalized; spelled in four ways. -/
def mixed : FVec Ideal S256x1024 .f32 := k0_pay7 (k0_pay2 a A b B) h g₀

theorem mixed1 : k0_pay10 (k0_pay3 a A b B) h (k0_pay8 g₀) (k0_pay9 (k0_pay3 a A b B)) = mixed h a b A B g₀ := rfl
theorem mixed2 : k0_pay11 (k0_pay5 (k0_pay4 a A) b B) h g₀ = mixed h a b A B g₀ := rfl
theorem mixed3 : k0_pay13 h (k0_pay12 (k0_pay6 a A b B) g₀) = mixed h a b A B g₀ := rfl

/-- The feed-forward part of 256 rows is the feed-forward kernel's, in each of its spellings. -/
theorem piece0 : k0_pay30 h (k0_pay24 (k0_pay19 (k0_pay14 h g) W) D) (k0_pay28 g') (k0_pay29 (k0_pay19 (k0_pay14 h g) W) D) = piece h g g' W D := rfl
theorem piece1 : k0_pay31 h (k0_pay25 (k0_pay20 (k0_pay15 h g) W) D) g' = piece h g g' W D := rfl
theorem piece2 : k0_pay32 h (k0_pay26 (k0_pay21 h (k0_pay16 g) (k0_pay17 h) W) (k0_pay22 h (k0_pay16 g) (k0_pay17 h) W) (k0_pay23 h (k0_pay16 g) (k0_pay17 h) W) D) g' = piece h g g' W D := rfl
theorem piece3 : k0_pay1 h (k0_pay27 (k0_pay18 h g) W D) g' = piece h g g' W D := rfl

theorem product_apply (r : Fin 256) (l : Fin 1024) : k0_pay2 (F := Ideal) a A b B (ix2 r l)
    = (∑ k, a (ix2 r k) * A (ix3 0 k l)) + ∑ k, b (ix2 r k) * B (ix3 0 k l) := by
  pointwise [k0_pay2]

theorem add_apply (f : FVec Ideal S256x1024 .f32) (r : Fin 256) (l : Fin 1024) :
    k0_pay7 (F := Ideal) f h g₀ (ix2 r l) = h (ix2 r l) + rms (fun k => f (ix2 r k)) (fun k => g₀ (ix3 0 0 k)) l := by
  pointwise [k0_pay7]
  rfl

/-- A sum over 1024 as two over 512. -/
theorem sum_halves (f : Fin 1024 → EReal) : (∑ k : Fin 512, f ⟨k.val, by omega⟩) + ∑ k : Fin 512, f ⟨512 + k.val, by omega⟩ = ∑ k, f k :=
  (Fin.sum_univ_add (a := 512) (b := 512) f).symm

/-- An element of the projected rows, the two halves being those of `x` and `Y`. -/
theorem mixed_apply (r : Fin 256) (l : Fin 1024) (x : Fin 1024 → EReal) (Y : Fin 1024 → Fin 1024 → EReal)
    (ha : ∀ k : Fin 512, a (ix2 r k) = x ⟨k.val, by omega⟩) (hb : ∀ k : Fin 512, b (ix2 r k) = x ⟨512 + k.val, by omega⟩)
    (hA : ∀ (k : Fin 512) l, A (ix3 0 k l) = Y ⟨k.val, by omega⟩ l) (hB : ∀ (k : Fin 512) l, B (ix3 0 k l) = Y ⟨512 + k.val, by omega⟩ l) :
    mixed h a b A B g₀ (ix2 r l) = mix (fun k => h (ix2 r k)) x Y (fun k => g₀ (ix3 0 0 k)) l := by
  have e : (fun k => k0_pay2 (F := Ideal) a A b B (ix2 r k)) = times x Y := by
    funext l
    rw [product_apply]
    refine (congrArg₂ (· + ·) (Finset.sum_congr rfl fun k _ => ?_) (Finset.sum_congr rfl fun k _ => ?_)).trans (sum_halves fun k => x k * Y k l)
    · rw [ha, hA]
    · rw [hb, hB]
  unfold mixed mix
  rw [add_apply, e]

end Cert.Proof.MF

end
-- ==== Proof.MF.Value.lean ====
/-
  The result of the kernel that projects the attention and then runs the feed-forward part, for every row.
-/
module

public import proofs.«01_k».proof.Proof.Gen.Kernel3Ideal.Value
public import proofs.«01_k».proof.Proof.MF.Piece
public import Idealize.ShloMosaic.Lib.Pipeline.ValueKit
public import Idealize.ShloMosaic.Lib.Claim

@[expose] public section

set_option maxRecDepth 16384

noncomputable section

namespace Cert.Proof.MF

open Cert.Kernel3Ideal Cert.Kernel3Ideal.Gen Idealize.ShloMosaic Idealize.ShloMosaic.TcCoe Finset
open Idealize.ShloMosaic.Tactic Idealize.SL.Sem
open Cert.Proof.FF (ffn ffn_congr mix mix_congr ffnAll mixAll piece piece_apply)

variable (m : (l : Loc nD τ sig) → Buf (Elt Ideal) l)

/-- The argument arrays. -/
abbrev hArr (c : Dev nD) : S32768x1024.Idx → EReal := m ((c : Thread nD τ).loc main_arg0)
abbrev attArr (c : Dev nD) : S32768x1024.Idx → EReal := m ((c : Thread nD τ).loc main_arg1)
abbrev projArr (c : Dev nD) : S2x1024x1024.Idx → EReal := m ((c : Thread nD τ).loc main_arg2)
abbrev mixArr (c : Dev nD) : S4x1024.Idx → EReal := m ((c : Thread nD τ).loc main_arg3)
abbrev preArr (c : Dev nD) : S4x2x1024.Idx → EReal := m ((c : Thread nD τ).loc main_arg4)
abbrev postArr (c : Dev nD) : S4x2x1024.Idx → EReal := m ((c : Thread nD τ).loc main_arg5)
abbrev gateArr (c : Dev nD) : S4x2x1024x1408.Idx → EReal := m ((c : Thread nD τ).loc main_arg6)
abbrev upArr (c : Dev nD) : S4x2x1024x1408.Idx → EReal := m ((c : Thread nD τ).loc main_arg7)
abbrev downArr (c : Dev nD) : S4x2x1408x1024.Idx → EReal := m ((c : Thread nD τ).loc main_arg8)

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = t.val ∧ win0_2.index t (1 : Fin 2) = 1 := by decide +kernel
theorem index3 : ∀ t : Fin grid0.N, win0_3.index t (0 : Fin 3) = 0 ∧ win0_3.index t (1 : Fin 3) = 0 ∧ win0_3.index t (2 : Fin 3) = 0 := by decide +kernel
theorem index4 : ∀ t : Fin grid0.N, win0_4.index t (0 : Fin 3) = 1 ∧ win0_4.index t (1 : Fin 3) = 0 ∧ win0_4.index t (2 : Fin 3) = 0 := by decide +kernel
theorem index5 : ∀ t : Fin grid0.N, win0_5.index t (0 : Fin 3) = 3 ∧ win0_5.index t (1 : Fin 3) = 0 ∧ win0_5.index t (2 : Fin 3) = 0 := by decide +kernel
theorem index6 : ∀ t : Fin grid0.N, win0_6.index t (0 : Fin 3) = 3 ∧ win0_6.index t (1 : Fin 3) = 0 ∧ win0_6.index t (2 : Fin 3) = 0 := by decide +kernel
theorem index7 : ∀ t : Fin grid0.N, win0_7.index t (0 : Fin 3) = 3 ∧ win0_7.index t (1 : Fin 3) = 0 ∧ win0_7.index t (2 : Fin 3) = 0 := by decide +kernel
theorem index8 : ∀ t : Fin grid0.N, win0_8.index t (0 : Fin 3) = 3 ∧ win0_8.index t (1 : Fin 3) = 0 ∧ win0_8.index t (2 : Fin 3) = 0 := by decide +kernel
theorem index9 : ∀ t : Fin grid0.N, win0_9.index t (0 : Fin 2) = t.val ∧ win0_9.index t (1 : Fin 2) = 0 := by decide +kernel

theorem points (t : Fin grid0.N) : t.val < 32 := t.isLt

theorem rows_at (c : Dev nD) (t : Fin grid0.N) (r l : Fin 1024) :
    iblk (F := Ideal) m c 0 t (ix2 r l) = hArr m c (ix2 ⟨1024 * t.val + r.val, by have := points t; omega⟩ l) := by
  obtain ⟨e0, e1⟩ := index0 t
  blk_simp [iblk]
  entry_read
  refine congrArg (hArr m c) (funext fun a => Fin.ext ?_)
  fin_cases a
  · show win0_0.index t (0 : Fin 2) * 1024 + 1 * r.val = 1024 * t.val + r.val; omega
  · show win0_0.index t (1 : Fin 2) * 1024 + 1 * l.val = l.val; omega

theorem left_at (c : Dev nD) (t : Fin grid0.N) (r : Fin 1024) (k : Fin 512) :
    iblk (F := Ideal) m c 1 t (ix2 r k) = attArr m c (ix2 ⟨1024 * t.val + r.val, by have := points t; omega⟩ ⟨k.val, by omega⟩) := by
  obtain ⟨e0, e1⟩ := index1 t
  blk_simp [iblk]
  entry_read
  refine congrArg (attArr m c) (funext fun a => Fin.ext ?_)
  fin_cases a
  · show win0_1.index t (0 : Fin 2) * 1024 + 1 * r.val = 1024 * t.val + r.val; omega
  · show win0_1.index t (1 : Fin 2) * 512 + 1 * k.val = k.val; omega

theorem right_at (c : Dev nD) (t : Fin grid0.N) (r : Fin 1024) (k : Fin 512) :
    iblk (F := Ideal) m c 2 t (ix2 r k) = attArr m c (ix2 ⟨1024 * t.val + r.val, by have := points t; omega⟩ ⟨512 + k.val, by omega⟩) := by
  obtain ⟨e0, e1⟩ := index2 t
  blk_simp [iblk]
  entry_read
  refine congrArg (attArr m c) (funext fun a => Fin.ext ?_)
  fin_cases a
  · show win0_2.index t (0 : Fin 2) * 1024 + 1 * r.val = 1024 * t.val + r.val; omega
  · show win0_2.index t (1 : Fin 2) * 512 + 1 * k.val = 512 + k.val; omega

theorem proj_at (c : Dev nD) (t : Fin grid0.N) (k l : Fin 1024) : iblk (F := Ideal) m c 3 t (ix3 0 k l) = projArr m c (ix3 0 k l) := by
  obtain ⟨e0, e1, e2⟩ := index3 t
  blk_simp [iblk]
  entry_read
  have e : ((View.whole main_v7).slice (win0_3.rect t)).emb (ix3 0 k l) = (ix3 (0 : Fin 2) k l : S2x1024x1024.Idx) := by
    refine funext fun a => Fin.ext ?_
    fin_cases a
    · show win0_3.index t (0 : Fin 3) * 1 + 1 * 0 = 0; omega
    · show win0_3.index t (1 : Fin 3) * 1024 + 1 * k.val = k.val; omega
    · show win0_3.index t (2 : Fin 3) * 1024 + 1 * l.val = l.val; omega
  rw [e]
  pointwise

theorem mix_at (c : Dev nD) (t : Fin grid0.N) (l : Fin 1024) : iblk (F := Ideal) m c 4 t (ix3 0 0 l) = mixArr m c (ix2 1 l) := by
  obtain ⟨e0, e1, e2⟩ := index4 t
  blk_simp [iblk]
  entry_read
  have e : ((View.whole main_v8).slice (win0_4.rect t)).emb (ix3 0 0 l) = (ix3 (1 : Fin 4) (0 : Fin 1) l : S4x1x1024.Idx) := by
    refine funext fun a => Fin.ext ?_
    fin_cases a
    · show win0_4.index t (0 : Fin 3) * 1 + 1 * 0 = 1; omega
    · show win0_4.index t (1 : Fin 3) * 1 + 1 * 0 = 0; omega
    · show win0_4.index t (2 : Fin 3) * 1024 + 1 * l.val = l.val; omega
  rw [e]
  pointwise

theorem pre_at (c : Dev nD) (t : Fin grid0.N) (l : Fin 1024) : iblk (F := Ideal) m c 5 t (ix3 0 0 l) = preArr m c (ix3 1 1 l) := by
  obtain ⟨e0, e1, e2⟩ := index5 t
  blk_simp [iblk]
  entry_read
  have e : ((View.whole main_v5).slice (win0_5.rect t)).emb (ix3 0 0 l) = (ix3 (3 : Fin 8) (0 : Fin 1) l : S8x1x1024.Idx) := by
    refine funext fun a => Fin.ext ?_
    fin_cases a
    · show win0_5.index t (0 : Fin 3) * 1 + 1 * 0 = 3; omega
    · show win0_5.index t (1 : Fin 3) * 1 + 1 * 0 = 0; omega
    · show win0_5.index t (2 : Fin 3) * 1024 + 1 * l.val = l.val; omega
  rw [e]
  pointwise

theorem post_at (c : Dev nD) (t : Fin grid0.N) (l : Fin 1024) : iblk (F := Ideal) m c 8 t (ix3 0 0 l) = postArr m c (ix3 1 1 l) := by
  obtain ⟨e0, e1, e2⟩ := index8 t
  blk_simp [iblk]
  entry_read
  have e : ((View.whole main_v6).slice (win0_8.rect t)).emb (ix3 0 0 l) = (ix3 (3 : Fin 8) (0 : Fin 1) l : S8x1x1024.Idx) := by
    refine funext fun a => Fin.ext ?_
    fin_cases a
    · show win0_8.index t (0 : Fin 3) * 1 + 1 * 0 = 3; omega
    · show win0_8.index t (1 : Fin 3) * 1 + 1 * 0 = 0; omega
    · show win0_8.index t (2 : Fin 3) * 1024 + 1 * l.val = l.val; omega
  rw [e]
  pointwise

theorem gate_up_emb (t : Fin grid0.N) (k : Fin 1024) (j : Fin 2816) :
    ((View.whole main_v2).slice (win0_6.rect t)).emb (ix3 0 k j) = (ix3 (3 : Fin 8) k j : S8x1024x2816.Idx) := by
  obtain ⟨e0, e1, e2⟩ := index6 t
  refine funext fun a => Fin.ext ?_
  fin_cases a
  · show win0_6.index t (0 : Fin 3) * 1 + 1 * 0 = 3; omega
  · show win0_6.index t (1 : Fin 3) * 1024 + 1 * k.val = k.val; omega
  · show win0_6.index t (2 : Fin 3) * 2816 + 1 * j.val = j.val; omega

theorem gate_at (c : Dev nD) (t : Fin grid0.N) (k : Fin 1024) (j : Fin 1408) :
    iblk (F := Ideal) m c 6 t (ix3 0 k ⟨j.val, by omega⟩) = gateArr m c (ix4 1 1 k j) := by
  blk_simp [iblk]
  entry_read
  rw [gate_up_emb]
  pointwise

theorem up_at (c : Dev nD) (t : Fin grid0.N) (k : Fin 1024) (j : Fin 1408) :
    iblk (F := Ideal) m c 6 t (ix3 0 k ⟨1408 + j.val, by omega⟩) = upArr m c (ix4 1 1 k j) := by
  blk_simp [iblk]
  entry_read
  rw [gate_up_emb]
  pointwise

theorem down_at (c : Dev nD) (t : Fin grid0.N) (j : Fin 1408) (l : Fin 1024) :
    iblk (F := Ideal) m c 7 t (ix3 0 j l) = downArr m c (ix4 1 1 j l) := by
  obtain ⟨e0, e1, e2⟩ := index7 t
  blk_simp [iblk]
  entry_read
  have e : ((View.whole main_v4).slice (win0_7.rect t)).emb (ix3 0 j l) = (ix3 (3 : Fin 8) j l : S8x1408x1024.Idx) := by
    refine funext fun a => Fin.ext ?_
    fin_cases a
    · show win0_7.index t (0 : Fin 3) * 1 + 1 * 0 = 3; omega
    · show win0_7.index t (1 : Fin 3) * 1408 + 1 * j.val = j.val; omega
    · show win0_7.index t (2 : Fin 3) * 1024 + 1 * l.val = l.val; omega
  rw [e]
  pointwise

/-- 256 rows of a block, from row `o`. -/
theorem ld_rows (X : Vec Ideal S1024x1024 .f32) (o : ℕ) (inb) (r : Fin 256) (k : Fin 1024) (h : o + r.val < 1024) :
    View.ld X (Rect.unit (s := S1024x1024) ![o, 0] S256x1024.size inb) (ix2 r k) = X (ix2 ⟨o + r.val, h⟩ k) := by
  refine congrArg X (funext fun a => Fin.ext ?_)
  fin_cases a
  · show o + 1 * r.val = o + r.val; omega
  · show 0 + 1 * k.val = k.val; omega

theorem ld_half (X : Vec Ideal S1024x512 .bf16) (o : ℕ) (inb) (r : Fin 256) (k : Fin 512) (h : o + r.val < 1024) :
    View.ld X (Rect.unit (s := S1024x512) ![o, 0] S256x512.size inb) (ix2 r k) = X (ix2 ⟨o + r.val, h⟩ k) := by
  refine congrArg X (funext fun a => Fin.ext ?_)
  fin_cases a
  · show o + 1 * r.val = o + r.val; omega
  · show 0 + 1 * k.val = k.val; omega

theorem ld_top (X : Vec Ideal S1x1024x1024 .bf16) (k : Fin 512) (l : Fin 1024) : View.ld X r0_1 (ix3 0 k l) = X (ix3 0 ⟨k.val, by omega⟩ l) := by
  refine congrArg X (funext fun a => Fin.ext ?_)
  fin_cases a
  · rfl
  · show 0 + 1 * k.val = k.val; omega
  · show 0 + 1 * l.val = l.val; omega

theorem ld_bottom (X : Vec Ideal S1x1024x1024 .bf16) (k : Fin 512) (l : Fin 1024) : View.ld X r0_2 (ix3 0 k l) = X (ix3 0 ⟨512 + k.val, by omega⟩ l) := by
  refine congrArg X (funext fun a => Fin.ext ?_)
  fin_cases a
  · rfl
  · show 512 + 1 * k.val = 512 + k.val; omega
  · show 0 + 1 * l.val = l.val; omega

theorem ld_gain (X : Vec Ideal S1x1x1024 .f32) (l : Fin 1024) : View.ld X r0_7 (ix3 0 0 l) = X (ix3 0 0 l) := by
  refine congrArg X (funext fun a => Fin.ext ?_)
  fin_cases a
  · rfl
  · rfl
  · show 0 + 1 * l.val = l.val; omega

theorem ld_in (X : Vec Ideal S1x1024x2816 .bf16) (k : Fin 1024) (j : Fin 2816) : View.ld X r0_11 (ix3 0 k j) = X (ix3 0 k j) := by
  refine congrArg X (funext fun a => Fin.ext ?_)
  fin_cases a
  · rfl
  · show 0 + 1 * k.val = k.val; omega
  · show 0 + 1 * j.val = j.val; omega

theorem ld_down (X : Vec Ideal S1x1408x1024 .bf16) (j : Fin 1408) (l : Fin 1024) : View.ld X r0_12 (ix3 0 j l) = X (ix3 0 j l) := by
  refine congrArg X (funext fun a => Fin.ext ?_)
  fin_cases a
  · rfl
  · show 0 + 1 * j.val = j.val; omega
  · show 0 + 1 * l.val = l.val; omega

/-- What the result is, as a function of the argument arrays. -/
abbrev whole (c : Dev nD) : S32768x1024.Idx → EReal :=
  ffnAll 1 1 (mixAll 0 1 (hArr m c) (attArr m c) (projArr m c) (mixArr m c)) (preArr m c) (postArr m c) (gateArr m c) (upArr m c) (downArr m c)

/-- An element of the projected rows of the 256 from row `o`, over a point's blocks. -/
theorem mixed_at (c : Dev nD) (t : Fin grid0.N) (o : ℕ) (inb) (inb') (r : Fin 256) (l : Fin 1024) (ho : o + r.val < 1024) :
    mixed (View.ld (iblk (F := Ideal) m c 0 t) (Rect.unit (s := S1024x1024) ![o, 0] S256x1024.size inb))
      (View.ld (iblk (F := Ideal) m c 1 t) (Rect.unit (s := S1024x512) ![o, 0] S256x512.size inb'))
      (View.ld (iblk (F := Ideal) m c 2 t) (Rect.unit (s := S1024x512) ![o, 0] S256x512.size inb'))
      (View.ld (iblk (F := Ideal) m c 3 t) r0_1) (View.ld (iblk (F := Ideal) m c 3 t) r0_2) (View.ld (iblk (F := Ideal) m c 4 t) r0_7) (ix2 r l)
      = mixAll 0 1 (hArr m c) (attArr m c) (projArr m c) (mixArr m c) (ix2 ⟨1024 * t.val + (o + r.val), by have := points t; omega⟩ l) := by
  refine (mixed_apply _ _ _ _ _ _ r l (fun k => attArr m c (ix2 ⟨1024 * t.val + (o + r.val), by have := points t; omega⟩ k)) (fun k l => projArr m c (ix3 0 k l))
    (fun k => (ld_half _ o inb' r k ho).trans (left_at m c t _ k)) (fun k => (ld_half _ o inb' r k ho).trans (right_at m c t _ k))
    (fun k l => (ld_top _ k l).trans (proj_at m c t _ l)) (fun k l => (ld_bottom _ k l).trans (proj_at m c t _ l))).trans ?_
  exact mix_congr (fun k => (ld_rows _ o inb r k ho).trans (rows_at m c t _ k)) (fun k => rfl) (fun k l => rfl) (fun k => (ld_gain _ k).trans (mix_at m c t k)) l

/-- An element of the 256 rows from row `o`, over a point's blocks. -/
theorem part_at (c : Dev nD) (t : Fin grid0.N) (o : ℕ) (inb) (inb') (y : S1024x1024.Idx) (x : S256x1024.Idx) (h0 : (y 0).val = o + (x 0).val) (h1 : (y 1).val = (x 1).val) :
    piece (mixed (View.ld (iblk (F := Ideal) m c 0 t) (Rect.unit (s := S1024x1024) ![o, 0] S256x1024.size inb))
        (View.ld (iblk (F := Ideal) m c 1 t) (Rect.unit (s := S1024x512) ![o, 0] S256x512.size inb'))
        (View.ld (iblk (F := Ideal) m c 2 t) (Rect.unit (s := S1024x512) ![o, 0] S256x512.size inb'))
        (View.ld (iblk (F := Ideal) m c 3 t) r0_1) (View.ld (iblk (F := Ideal) m c 3 t) r0_2) (View.ld (iblk (F := Ideal) m c 4 t) r0_7))
      (View.ld (iblk (F := Ideal) m c 5 t) r0_7) (View.ld (iblk (F := Ideal) m c 8 t) r0_7) (View.ld (iblk (F := Ideal) m c 6 t) r0_11)
      (View.ld (iblk (F := Ideal) m c 7 t) r0_12) x
      = whole m c (ix2 ⟨1024 * t.val + (y 0).val, by have := points t; have : (y 0).val < 1024 := (y 0).isLt; omega⟩ (y 1)) := by
  obtain ⟨r, l, rfl⟩ : ∃ (r : Fin 256) (l : Fin 1024), x = ix2 r l := ⟨x 0, x 1, eq_ix2 x⟩
  obtain ⟨u, v, rfl⟩ : ∃ (u : Fin 1024) (v : Fin 1024), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  refine (piece_apply _ _ _ _ _ r l).trans ?_
  exact ffn_congr (fun k => mixed_at m c t o inb inb' r k ho) (fun k => (ld_gain _ k).trans (pre_at m c t k))
    (fun k j => (ld_in _ k _).trans (gate_at m c t k j)) (fun k j => (ld_in _ k _).trans (up_at m c t k j))
    (fun j k => (ld_down _ j k).trans (down_at m c t j k)) (fun k => (ld_gain _ k).trans (post_at m c t k)) l

/-- Row `y` of the block of 1024 rows that a point writes. -/
theorem out_at (c : Dev nD) (t : Fin grid0.N) (y : S1024x1024.Idx) :
    out0_9 (F := Ideal) (iblk m c 0 t) (iblk m c 1 t) (iblk m c 2 t) (iblk m c 3 t) (iblk m c 4 t) (iblk m c 5 t) (iblk m c 6 t) (iblk m c 7 t) (iblk m c 8 t) y
      = whole m c (ix2 ⟨1024 * t.val + (y 0).val, by have := points t; have : (y 0).val < 1024 := (y 0).isLt; omega⟩ (y 1)) := by
  unfold_out out0_9
  canon_tiles x h
  · rw [piece3, mixed3]; exact part_at m c t 768 _ _ y x h0 h1
  · rw [piece2, mixed2]; exact part_at m c t 512 _ _ y x h0 h1
  · rw [piece1, mixed1]; exact part_at m c t 256 _ _ y x h0 h1
  · rw [piece0]; exact part_at m c t 0 _ _ y x (by omega) h1

/-- The kernel's result array. -/
theorem final (c : Dev nD) : (dats (F := Ideal) m 0 c).arrAt 9 cfg0.N = whole m c := by
  refine (dats (F := Ideal) m 0 c).arrAt_eq_of_covers 9 _ (by decide +kernel) fun t _ y => ?_
  blk_simp
  rw [after0_9]
  refine (out_at m c t _).trans (congrArg _ (funext fun a => Fin.ext ?_))
  obtain ⟨e0, e1⟩ := index9 t
  fin_cases a
  · show 1024 * t.val + (y 0).val = win0_9.index t (0 : Fin 2) * 1024 + 1 * (y 0).val; omega
  · show (y 1).val = win0_9.index t (1 : Fin 2) * 1024 + 1 * (y 1).val; omega

/-- The run with its result named, the arguments as they were. -/
theorem run (ρ : Dev nD → PrngReg) : θ_run defs (onTc (τ := τ) (main (F := Ideal))) ⟨m, fun _ => 0, ρ⟩ fun r => ∀ c : Dev nD,
    r.2.mem ((c : Thread nD τ).loc main_v9) = whole m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  (θ_run defs _ _).mono (fun r h c => ⟨(h c).1.trans (final m c), (h c).2⟩) (Value.run_blocks m ρ)

end Cert.Proof.MF

end
-- ==== Proof.MF.Ref.lean ====
/-
  The reference of the projected attention followed by the feed-forward part, read at an element.
-/
module

public import proofs.«01_k».proof.Proof.Gen.Reference3Ideal.Run
public import proofs.«01_k».proof.Proof.FF.Ref

@[expose] public section

set_option maxRecDepth 16384

noncomputable section

namespace Cert.Proof.MF.Ref

open Cert.Reference3Ideal Cert.Reference3Ideal.Gen Idealize.ShloMosaic Idealize.ShloMosaic.TcCoe Finset
open Cert.Proof.FF (ffnAll mixAll mix times)
open Cert.Proof.FF.Ref (norm norm_apply ffnRows ffnRows_apply)

/-- Rows of the attention, projected. -/
def proj (a : FVec Ideal S32768x1024 .bf16) (W : FVec Ideal S1024x1024 .f32) : FVec Ideal S32768x1024 .f32 :=
  Host.dotGeneral dot_S32768x1024_S1024x1024_S32768x1024_1_0_0_1_n_n none (extf .f32 a bitsLt_bf16_f32) W

/-- Rows with the attention's added. -/
def mixRows (h : FVec Ideal S32768x1024 .f32) (a : FVec Ideal S32768x1024 .bf16) (W : FVec Ideal S1024x1024 .f32) (g : FVec Ideal S1024 .f32) : FVec Ideal S32768x1024 .f32 :=
  addf h (norm (proj a W) g)

theorem proj_apply (a : FVec Ideal S32768x1024 .bf16) (W : FVec Ideal S1024x1024 .f32) (r : Fin 32768) (l : Fin 1024) :
    proj a W (ix2 r l) = times (fun k => a (ix2 r k)) (fun k j => W (ix2 k j)) l := by
  pointwise [proj]
  rfl

theorem mixRows_apply (h : FVec Ideal S32768x1024 .f32) (a : FVec Ideal S32768x1024 .bf16) (W : FVec Ideal S1024x1024 .f32) (g : FVec Ideal S1024 .f32) (r : Fin 32768) (l : Fin 1024) :
    mixRows h a W g (ix2 r l) = mix (fun k => h (ix2 r k)) (fun k => a (ix2 r k)) (fun k j => W (ix2 k j)) (fun k => g (ix1 k)) l := by
  unfold mix
  refine congrArg (h (ix2 r l) + ·) ((norm_apply _ g r l).trans ?_)
  simp only [proj_apply]

/-! ## The layer's slices of the weights -/

def gain (g : FVec Ideal S4x2x1024 .f32) : FVec Ideal S1024 .f32 :=
  shapeCast _ (extractStridedSlice S1x1x1024 ![1, 1, 0] g slices_S4x2x1024_S1x1x1024_1_1_0) shapeCasts_S1x1x1024_S1024
def mixGain (g : FVec Ideal S4x1024 .f32) : FVec Ideal S1024 .f32 :=
  shapeCast _ (extractStridedSlice S1x1024 ![1, 0] g slices_S4x1024_S1x1024_1_0) shapeCasts_S1x1024_S1024
def weightIn (W : FVec Ideal S4x2x1024x1408 .f32) : FVec Ideal S1024x1408 .f32 :=
  shapeCast _ (extractStridedSlice S1x1x1024x1408 ![1, 1, 0, 0] W slices_S4x2x1024x1408_S1x1x1024x1408_1_1_0_0) shapeCasts_S1x1x1024x1408_S1024x1408
def weightBack (W : FVec Ideal S4x2x1408x1024 .f32) : FVec Ideal S1408x1024 .f32 :=
  shapeCast _ (extractStridedSlice S1x1x1408x1024 ![1, 1, 0, 0] W slices_S4x2x1408x1024_S1x1x1408x1024_1_1_0_0) shapeCasts_S1x1x1408x1024_S1408x1024
def weightProj (W : FVec Ideal S2x1024x1024 .f32) : FVec Ideal S1024x1024 .f32 :=
  shapeCast _ (extractStridedSlice S1x1024x1024 ![0, 0, 0] W slices_S2x1024x1024_S1x1024x1024_0_0_0) shapeCasts_S1x1024x1024_S1024x1024

theorem gain_apply (g : FVec Ideal S4x2x1024 .f32) (l : Fin 1024) : gain g (ix1 l) = g (ix3 1 1 l) := by
  pointwise [gain]
theorem mixGain_apply (g : FVec Ideal S4x1024 .f32) (l : Fin 1024) : mixGain g (ix1 l) = g (ix2 1 l) := by
  pointwise [mixGain]
theorem weightIn_apply (W : FVec Ideal S4x2x1024x1408 .f32) (k : Fin 1024) (j : Fin 1408) : weightIn W (ix2 k j) = W (ix4 1 1 k j) := by
  pointwise [weightIn]
theorem weightBack_apply (W : FVec Ideal S4x2x1408x1024 .f32) (j : Fin 1408) (l : Fin 1024) : weightBack W (ix2 j l) = W (ix4 1 1 j l) := by
  pointwise [weightBack]
theorem weightProj_apply (W : FVec Ideal S2x1024x1024 .f32) (k l : Fin 1024) : weightProj W (ix2 k l) = W (ix3 0 k l) := by
  pointwise [weightProj]

/-- What the reference computes of its arguments. -/
theorem stages (m : (l : Loc nD τ sig) → Buf (Elt Ideal) l) (c : Dev nD) : Value.res_main_v63 (F := Ideal) m c
    = ffnRows (mixRows (m ((c : Thread nD τ).loc main_arg0)) (m ((c : Thread nD τ).loc main_arg1)) (weightProj (m ((c : Thread nD τ).loc main_arg2))) (mixGain (m ((c : Thread nD τ).loc main_arg3))))
        (gain (m ((c : Thread nD τ).loc main_arg4))) (gain (m ((c : Thread nD τ).loc main_arg5)))
        (weightIn (m ((c : Thread nD τ).loc main_arg6))) (weightIn (m ((c : Thread nD τ).loc main_arg7))) (weightBack (m ((c : Thread nD τ).loc main_arg8))) := rfl

/-- The reference's result. -/
theorem result (h : FVec Ideal S32768x1024 .f32) (a : FVec Ideal S32768x1024 .bf16) (P : FVec Ideal S2x1024x1024 .f32) (g₀ : FVec Ideal S4x1024 .f32)
    (g g' : FVec Ideal S4x2x1024 .f32) (G U : FVec Ideal S4x2x1024x1408 .f32) (D : FVec Ideal S4x2x1408x1024 .f32) :
    ffnRows (mixRows h a (weightProj P) (mixGain g₀)) (gain g) (gain g') (weightIn G) (weightIn U) (weightBack D) = ffnAll 1 1 (mixAll 0 1 h a P g₀) g g' G U D := by
  funext y
  obtain ⟨r, l, rfl⟩ : ∃ (r : Fin 32768) (l : Fin 1024), y = ix2 r l := ⟨y 0, y 1, eq_ix2 y⟩
  refine (ffnRows_apply _ _ _ _ _ _ r l).trans ?_
  simp only [mixRows_apply, gain_apply, mixGain_apply, weightIn_apply, weightBack_apply, weightProj_apply]
  rfl

end Cert.Proof.MF.Ref

end
-- ==== Proof.Equal2.lean ====
/-
  The two further calls: each runs, keeps its arguments, and leaves what its reference computes.
-/
module

public import proofs.«01_k».proof.Defs
public import proofs.«01_k».proof.Proof.FF.Value
public import proofs.«01_k».proof.Proof.FF.Ref
public import proofs.«01_k».proof.Proof.MF.Value
public import proofs.«01_k».proof.Proof.MF.Ref
public import Idealize.ShloMosaic.Lib.Quiescent

@[expose] public section

noncomputable section

namespace Cert.Proof

open Idealize.ShloMosaic Idealize.ShloMosaic.TcCoe Idealize.SL.Sem

theorem frame_ffn_reference : Cert.quiescent_Reference2Ideal (hReference2Ideal := Cert.Reference2Ideal.Gen.facts) := fun m g _ =>
  θ_run_mono (Cert.Reference2Ideal.Value.run m g) fun r h => ⟨fun c => (h c).2, sem_eq_zero_of_no_sems (by decide) r.2⟩

theorem frame_mix_reference : Cert.quiescent_Reference3Ideal (hReference3Ideal := Cert.Reference3Ideal.Gen.facts) := fun m g _ =>
  θ_run_mono (Cert.Reference3Ideal.Value.run m g) fun r h => ⟨fun c => (h c).2, sem_eq_zero_of_no_sems (by decide) r.2⟩

theorem algebraic_ffn : Cert.algebraic_Kernel2Ideal_Reference2Ideal (hKernel2Ideal := Cert.Kernel2Ideal.Gen.facts)
    (hReference2Ideal := Cert.Reference2Ideal.Gen.facts) := by
  intro m g m' g' _ hagree
  refine ⟨fun c => FF.ffnAll 0 0 (FF.hArr m c) (FF.preArr m c) (FF.postArr m c) (FF.gateArr m c) (FF.upArr m c) (FF.downArr m c), FF.run m g, ?_⟩
  refine (θ_run (Cert.Reference2Ideal.defs (F := Ideal)) _ _).mono (fun r h c => ⟨(h c).1.trans ?_, (h c).2⟩) (Cert.Reference2Ideal.Value.run m' g')
  obtain ⟨a0, a1, a2, a3, a4, a5⟩ := hagree c
  rw [FF.Ref.stages, a0, a1, a2, a3, a4, a5]
  exact FF.Ref.result _ _ _ _ _ _

theorem algebraic_mix : Cert.algebraic_Kernel3Ideal_Reference3Ideal (hKernel3Ideal := Cert.Kernel3Ideal.Gen.facts)
    (hReference3Ideal := Cert.Reference3Ideal.Gen.facts) := by
  intro m g m' g' _ hagree
  refine ⟨fun c => MF.whole m c, MF.run m g, ?_⟩
  refine (θ_run (Cert.Reference3Ideal.defs (F := Ideal)) _ _).mono (fun r h c => ⟨(h c).1.trans ?_, (h c).2⟩) (Cert.Reference3Ideal.Value.run m' g')
  obtain ⟨a0, a1, a2, a3, a4, a5, a6, a7, a8⟩ := hagree c
  rw [MF.Ref.stages, a0, a1, a2, a3, a4, a5, a6, a7, a8]
  exact MF.Ref.result _ _ _ _ _ _ _ _ _

end Cert.Proof

end
-- ==== Proof.EF.Piece.lean ====
/-
  The pieces of the kernel with two arrays are those of the one with one array; the two arrays side by side.
-/
module

public import proofs.«01_k».proof.Proof.Gen.Kernel4Ideal.Frame
public import proofs.«01_k».proof.Proof.MF.Piece

@[expose] public section

noncomputable section

namespace Cert.Proof.EF

open Cert.Kernel4Ideal Cert.Kernel4Ideal.Gen Idealize.ShloMosaic Finset
open Cert.Proof.FF (piece)
open Cert.Proof.MF (mixed)

/-- Two arrays of half rows as one of rows. -/
def joined (a b : S32768x512.Idx → EReal) : S32768x1024.Idx → EReal := fun y =>
  if h : (y 1).val < 512 then a (ix2 (y 0) ⟨(y 1).val, h⟩) else b (ix2 (y 0) ⟨(y 1).val - 512, by have : (y 1).val < 1024 := (y 1).isLt; omega⟩)

theorem joined_left (a b : S32768x512.Idx → EReal) (r : Fin 32768) (k : Fin 512) (hk : k.val < 1024) : joined a b (ix2 r ⟨k.val, hk⟩) = a (ix2 r k) :=
  dif_pos k.isLt

theorem joined_right (a b : S32768x512.Idx → EReal) (r : Fin 32768) (k : Fin 512) (hk : 512 + k.val < 1024) : joined a b (ix2 r ⟨512 + k.val, hk⟩) = b (ix2 r k) :=
  (dif_neg (show ¬ 512 + k.val < 512 by omega)).trans (congrArg b (congrArg (ix2 r) (Fin.ext (show 512 + k.val - 512 = k.val by omega))))

variable (h : FVec Ideal S256x1024 .f32) (a b : FVec Ideal S256x512 .bf16) (A B : FVec Ideal S1x512x1024 .bf16)
  (g₀ g g' : FVec Ideal S1x1x1024 .f32) (W : FVec Ideal S1x1024x2816 .bf16) (D : FVec Ideal S1x1408x1024 .bf16)

theorem mixed0 : k0_pay7 (k0_pay2 a A b B) h g₀ = mixed h a b A B g₀ := rfl
theorem mixed1 : k0_pay10 (k0_pay3 a A b B) h (k0_pay8 g₀) (k0_pay9 (k0_pay3 a A b B)) = mixed h a b A B g₀ := rfl
theorem mixed2 : k0_pay11 (k0_pay5 (k0_pay4 a A) b B) h g₀ = mixed h a b A B g₀ := rfl
theorem mixed3 : k0_pay13 h (k0_pay12 (k0_pay6 a A b B) g₀) = mixed h a b A B g₀ := rfl

theorem piece0 : k0_pay30 h (k0_pay24 (k0_pay19 (k0_pay14 h g) W) D) (k0_pay28 g') (k0_pay29 (k0_pay19 (k0_pay14 h g) W) D) = piece h g g' W D := rfl
theorem piece1 : k0_pay31 h (k0_pay25 (k0_pay20 (k0_pay15 h g) W) D) g' = piece h g g' W D := rfl
theorem piece2 : k0_pay32 h (k0_pay26 (k0_pay21 h (k0_pay16 g) (k0_pay17 h) W) (k0_pay22 h (k0_pay16 g) (k0_pay17 h) W) (k0_pay23 h (k0_pay16 g) (k0_pay17 h) W) D) g' = piece h g g' W D := rfl
theorem piece3 : k0_pay1 h (k0_pay27 (k0_pay18 h g) W D) g' = piece h g g' W D := rfl

end Cert.Proof.EF

end
-- ==== Proof.EF.Value.lean ====
/-
  The result of the same kernel for an even layer, whose two halves come in two arrays.
-/
module

public import proofs.«01_k».proof.Proof.Gen.Kernel4Ideal.Value
public import proofs.«01_k».proof.Proof.EF.Piece
public import proofs.«01_k».proof.Proof.MF.Value
public import Idealize.ShloMosaic.Lib.Pipeline.ValueKit
public import Idealize.ShloMosaic.Lib.Claim

@[expose] public section

set_option maxRecDepth 16384

noncomputable section

namespace Cert.Proof.EF

open Cert.Kernel4Ideal Cert.Kernel4Ideal.Gen Idealize.ShloMosaic Idealize.ShloMosaic.TcCoe Finset
open Idealize.ShloMosaic.Tactic Idealize.SL.Sem
open Cert.Proof.MF (mixed mixed_apply ld_rows ld_half ld_top ld_bottom ld_gain ld_in ld_down)
open Cert.Proof.FF (ffn ffn_congr mix mix_congr ffnAll mixAll piece piece_apply)

variable (m : (l : Loc nD τ sig) → Buf (Elt Ideal) l)

/-- The argument arrays. -/
abbrev hArr (c : Dev nD) : S32768x1024.Idx → EReal := m ((c : Thread nD τ).loc main_arg0)
abbrev leftArr (c : Dev nD) : S32768x512.Idx → EReal := m ((c : Thread nD τ).loc main_arg1)
abbrev rightArr (c : Dev nD) : S32768x512.Idx → EReal := m ((c : Thread nD τ).loc main_arg2)
/-- The two side by side. -/
abbrev attArr (c : Dev nD) : S32768x1024.Idx → EReal := joined (leftArr m c) (rightArr m c)
abbrev projArr (c : Dev nD) : S2x1024x1024.Idx → EReal := m ((c : Thread nD τ).loc main_arg3)
abbrev mixArr (c : Dev nD) : S4x1024.Idx → EReal := m ((c : Thread nD τ).loc main_arg4)
abbrev preArr (c : Dev nD) : S4x2x1024.Idx → EReal := m ((c : Thread nD τ).loc main_arg5)
abbrev postArr (c : Dev nD) : S4x2x1024.Idx → EReal := m ((c : Thread nD τ).loc main_arg6)
abbrev gateArr (c : Dev nD) : S4x2x1024x1408.Idx → EReal := m ((c : Thread nD τ).loc main_arg7)
abbrev upArr (c : Dev nD) : S4x2x1024x1408.Idx → EReal := m ((c : Thread nD τ).loc main_arg8)
abbrev downArr (c : Dev nD) : S4x2x1408x1024.Idx → EReal := m ((c : Thread nD τ).loc main_arg9)

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = t.val ∧ win0_2.index t (1 : Fin 2) = 0 := by decide +kernel
theorem index3 : ∀ t : Fin grid0.N, win0_3.index t (0 : Fin 3) = 0 ∧ win0_3.index t (1 : Fin 3) = 0 ∧ win0_3.index t (2 : Fin 3) = 0 := by decide +kernel
theorem index4 : ∀ t : Fin grid0.N, win0_4.index t (0 : Fin 3) = 0 ∧ win0_4.index t (1 : Fin 3) = 0 ∧ win0_4.index t (2 : Fin 3) = 0 := by decide +kernel
theorem index5 : ∀ t : Fin grid0.N, win0_5.index t (0 : Fin 3) = 1 ∧ win0_5.index t (1 : Fin 3) = 0 ∧ win0_5.index t (2 : Fin 3) = 0 := by decide +kernel
theorem index6 : ∀ t : Fin grid0.N, win0_6.index t (0 : Fin 3) = 1 ∧ win0_6.index t (1 : Fin 3) = 0 ∧ win0_6.index t (2 : Fin 3) = 0 := by decide +kernel
theorem index7 : ∀ t : Fin grid0.N, win0_7.index t (0 : Fin 3) = 1 ∧ win0_7.index t (1 : Fin 3) = 0 ∧ win0_7.index t (2 : Fin 3) = 0 := by decide +kernel
theorem index8 : ∀ t : Fin grid0.N, win0_8.index t (0 : Fin 3) = 1 ∧ win0_8.index t (1 : Fin 3) = 0 ∧ win0_8.index t (2 : Fin 3) = 0 := by decide +kernel
theorem index9 : ∀ t : Fin grid0.N, win0_9.index t (0 : Fin 2) = t.val ∧ win0_9.index t (1 : Fin 2) = 0 := by decide +kernel

theorem points (t : Fin grid0.N) : t.val < 32 := t.isLt

theorem rows_at (c : Dev nD) (t : Fin grid0.N) (r l : Fin 1024) :
    iblk (F := Ideal) m c 0 t (ix2 r l) = hArr m c (ix2 ⟨1024 * t.val + r.val, by have := points t; omega⟩ l) := by
  obtain ⟨e0, e1⟩ := index0 t
  blk_simp [iblk]
  entry_read
  refine congrArg (hArr m c) (funext fun a => Fin.ext ?_)
  fin_cases a
  · show win0_0.index t (0 : Fin 2) * 1024 + 1 * r.val = 1024 * t.val + r.val; omega
  · show win0_0.index t (1 : Fin 2) * 1024 + 1 * l.val = l.val; omega

theorem left_at (c : Dev nD) (t : Fin grid0.N) (r : Fin 1024) (k : Fin 512) :
    iblk (F := Ideal) m c 1 t (ix2 r k) = attArr m c (ix2 ⟨1024 * t.val + r.val, by have := points t; omega⟩ ⟨k.val, by omega⟩) := by
  refine Eq.trans ?_ (joined_left _ _ _ k _).symm
  obtain ⟨e0, e1⟩ := index1 t
  blk_simp [iblk]
  entry_read
  refine congrArg (leftArr m c) (funext fun a => Fin.ext ?_)
  fin_cases a
  · show win0_1.index t (0 : Fin 2) * 1024 + 1 * r.val = 1024 * t.val + r.val; omega
  · show win0_1.index t (1 : Fin 2) * 512 + 1 * k.val = k.val; omega

theorem right_at (c : Dev nD) (t : Fin grid0.N) (r : Fin 1024) (k : Fin 512) :
    iblk (F := Ideal) m c 2 t (ix2 r k) = attArr m c (ix2 ⟨1024 * t.val + r.val, by have := points t; omega⟩ ⟨512 + k.val, by omega⟩) := by
  refine Eq.trans ?_ (joined_right _ _ _ k _).symm
  obtain ⟨e0, e1⟩ := index2 t
  blk_simp [iblk]
  entry_read
  refine congrArg (rightArr m c) (funext fun a => Fin.ext ?_)
  fin_cases a
  · show win0_2.index t (0 : Fin 2) * 1024 + 1 * r.val = 1024 * t.val + r.val; omega
  · show win0_2.index t (1 : Fin 2) * 512 + 1 * k.val = k.val; omega

theorem proj_at (c : Dev nD) (t : Fin grid0.N) (k l : Fin 1024) : iblk (F := Ideal) m c 3 t (ix3 0 k l) = projArr m c (ix3 0 k l) := by
  obtain ⟨e0, e1, e2⟩ := index3 t
  blk_simp [iblk]
  entry_read
  have e : ((View.whole main_v7).slice (win0_3.rect t)).emb (ix3 0 k l) = (ix3 (0 : Fin 2) k l : S2x1024x1024.Idx) := by
    refine funext fun a => Fin.ext ?_
    fin_cases a
    · show win0_3.index t (0 : Fin 3) * 1 + 1 * 0 = 0; omega
    · show win0_3.index t (1 : Fin 3) * 1024 + 1 * k.val = k.val; omega
    · show win0_3.index t (2 : Fin 3) * 1024 + 1 * l.val = l.val; omega
  rw [e]
  pointwise

theorem mix_at (c : Dev nD) (t : Fin grid0.N) (l : Fin 1024) : iblk (F := Ideal) m c 4 t (ix3 0 0 l) = mixArr m c (ix2 0 l) := by
  obtain ⟨e0, e1, e2⟩ := index4 t
  blk_simp [iblk]
  entry_read
  have e : ((View.whole main_v8).slice (win0_4.rect t)).emb (ix3 0 0 l) = (ix3 (0 : Fin 4) (0 : Fin 1) l : S4x1x1024.Idx) := by
    refine funext fun a => Fin.ext ?_
    fin_cases a
    · show win0_4.index t (0 : Fin 3) * 1 + 1 * 0 = 0; omega
    · show win0_4.index t (1 : Fin 3) * 1 + 1 * 0 = 0; omega
    · show win0_4.index t (2 : Fin 3) * 1024 + 1 * l.val = l.val; omega
  rw [e]
  pointwise

theorem pre_at (c : Dev nD) (t : Fin grid0.N) (l : Fin 1024) : iblk (F := Ideal) m c 5 t (ix3 0 0 l) = preArr m c (ix3 0 1 l) := by
  obtain ⟨e0, e1, e2⟩ := index5 t
  blk_simp [iblk]
  entry_read
  have e : ((View.whole main_v5).slice (win0_5.rect t)).emb (ix3 0 0 l) = (ix3 (1 : Fin 8) (0 : Fin 1) l : S8x1x1024.Idx) := by
    refine funext fun a => Fin.ext ?_
    fin_cases a
    · show win0_5.index t (0 : Fin 3) * 1 + 1 * 0 = 1; omega
    · show win0_5.index t (1 : Fin 3) * 1 + 1 * 0 = 0; omega
    · show win0_5.index t (2 : Fin 3) * 1024 + 1 * l.val = l.val; omega
  rw [e]
  pointwise

theorem post_at (c : Dev nD) (t : Fin grid0.N) (l : Fin 1024) : iblk (F := Ideal) m c 8 t (ix3 0 0 l) = postArr m c (ix3 0 1 l) := by
  obtain ⟨e0, e1, e2⟩ := index8 t
  blk_simp [iblk]
  entry_read
  have e : ((View.whole main_v6).slice (win0_8.rect t)).emb (ix3 0 0 l) = (ix3 (1 : Fin 8) (0 : Fin 1) l : S8x1x1024.Idx) := by
    refine funext fun a => Fin.ext ?_
    fin_cases a
    · show win0_8.index t (0 : Fin 3) * 1 + 1 * 0 = 1; omega
    · show win0_8.index t (1 : Fin 3) * 1 + 1 * 0 = 0; omega
    · show win0_8.index t (2 : Fin 3) * 1024 + 1 * l.val = l.val; omega
  rw [e]
  pointwise

theorem gate_up_emb (t : Fin grid0.N) (k : Fin 1024) (j : Fin 2816) :
    ((View.whole main_v2).slice (win0_6.rect t)).emb (ix3 0 k j) = (ix3 (1 : Fin 8) k j : S8x1024x2816.Idx) := by
  obtain ⟨e0, e1, e2⟩ := index6 t
  refine funext fun a => Fin.ext ?_
  fin_cases a
  · show win0_6.index t (0 : Fin 3) * 1 + 1 * 0 = 1; omega
  · show win0_6.index t (1 : Fin 3) * 1024 + 1 * k.val = k.val; omega
  · show win0_6.index t (2 : Fin 3) * 2816 + 1 * j.val = j.val; omega

theorem gate_at (c : Dev nD) (t : Fin grid0.N) (k : Fin 1024) (j : Fin 1408) :
    iblk (F := Ideal) m c 6 t (ix3 0 k ⟨j.val, by omega⟩) = gateArr m c (ix4 0 1 k j) := by
  blk_simp [iblk]
  entry_read
  rw [gate_up_emb]
  pointwise

theorem up_at (c : Dev nD) (t : Fin grid0.N) (k : Fin 1024) (j : Fin 1408) :
    iblk (F := Ideal) m c 6 t (ix3 0 k ⟨1408 + j.val, by omega⟩) = upArr m c (ix4 0 1 k j) := by
  blk_simp [iblk]
  entry_read
  rw [gate_up_emb]
  pointwise

theorem down_at (c : Dev nD) (t : Fin grid0.N) (j : Fin 1408) (l : Fin 1024) :
    iblk (F := Ideal) m c 7 t (ix3 0 j l) = downArr m c (ix4 0 1 j l) := by
  obtain ⟨e0, e1, e2⟩ := index7 t
  blk_simp [iblk]
  entry_read
  have e : ((View.whole main_v4).slice (win0_7.rect t)).emb (ix3 0 j l) = (ix3 (1 : Fin 8) j l : S8x1408x1024.Idx) := by
    refine funext fun a => Fin.ext ?_
    fin_cases a
    · show win0_7.index t (0 : Fin 3) * 1 + 1 * 0 = 1; omega
    · show win0_7.index t (1 : Fin 3) * 1408 + 1 * j.val = j.val; omega
    · show win0_7.index t (2 : Fin 3) * 1024 + 1 * l.val = l.val; omega
  rw [e]
  pointwise

/-- What the result is, as a function of the argument arrays. -/
abbrev whole (c : Dev nD) : S32768x1024.Idx → EReal :=
  ffnAll 0 1 (mixAll 0 0 (hArr m c) (attArr m c) (projArr m c) (mixArr m c)) (preArr m c) (postArr m c) (gateArr m c) (upArr m c) (downArr m c)

/-- An element of the projected rows of the 256 from row `o`, over a point's blocks. -/
theorem mixed_at (c : Dev nD) (t : Fin grid0.N) (o : ℕ) (inb) (inb') (r : Fin 256) (l : Fin 1024) (ho : o + r.val < 1024) :
    mixed (View.ld (iblk (F := Ideal) m c 0 t) (Rect.unit (s := S1024x1024) ![o, 0] S256x1024.size inb))
      (View.ld (iblk (F := Ideal) m c 1 t) (Rect.unit (s := S1024x512) ![o, 0] S256x512.size inb'))
      (View.ld (iblk (F := Ideal) m c 2 t) (Rect.unit (s := S1024x512) ![o, 0] S256x512.size inb'))
      (View.ld (iblk (F := Ideal) m c 3 t) r0_1) (View.ld (iblk (F := Ideal) m c 3 t) r0_2) (View.ld (iblk (F := Ideal) m c 4 t) r0_7) (ix2 r l)
      = mixAll 0 0 (hArr m c) (attArr m c) (projArr m c) (mixArr m c) (ix2 ⟨1024 * t.val + (o + r.val), by have := points t; omega⟩ l) := by
  refine (mixed_apply _ _ _ _ _ _ r l (fun k => attArr m c (ix2 ⟨1024 * t.val + (o + r.val), by have := points t; omega⟩ k)) (fun k l => projArr m c (ix3 0 k l))
    (fun k => (ld_half _ o inb' r k ho).trans (left_at m c t _ k)) (fun k => (ld_half _ o inb' r k ho).trans (right_at m c t _ k))
    (fun k l => (ld_top _ k l).trans (proj_at m c t _ l)) (fun k l => (ld_bottom _ k l).trans (proj_at m c t _ l))).trans ?_
  exact mix_congr (fun k => (ld_rows _ o inb r k ho).trans (rows_at m c t _ k)) (fun k => rfl) (fun k l => rfl) (fun k => (ld_gain _ k).trans (mix_at m c t k)) l

/-- An element of the 256 rows from row `o`, over a point's blocks. -/
theorem part_at (c : Dev nD) (t : Fin grid0.N) (o : ℕ) (inb) (inb') (y : S1024x1024.Idx) (x : S256x1024.Idx) (h0 : (y 0).val = o + (x 0).val) (h1 : (y 1).val = (x 1).val) :
    piece (mixed (View.ld (iblk (F := Ideal) m c 0 t) (Rect.unit (s := S1024x1024) ![o, 0] S256x1024.size inb))
        (View.ld (iblk (F := Ideal) m c 1 t) (Rect.unit (s := S1024x512) ![o, 0] S256x512.size inb'))
        (View.ld (iblk (F := Ideal) m c 2 t) (Rect.unit (s := S1024x512) ![o, 0] S256x512.size inb'))
        (View.ld (iblk (F := Ideal) m c 3 t) r0_1) (View.ld (iblk (F := Ideal) m c 3 t) r0_2) (View.ld (iblk (F := Ideal) m c 4 t) r0_7))
      (View.ld (iblk (F := Ideal) m c 5 t) r0_7) (View.ld (iblk (F := Ideal) m c 8 t) r0_7) (View.ld (iblk (F := Ideal) m c 6 t) r0_11)
      (View.ld (iblk (F := Ideal) m c 7 t) r0_12) x
      = whole m c (ix2 ⟨1024 * t.val + (y 0).val, by have := points t; have : (y 0).val < 1024 := (y 0).isLt; omega⟩ (y 1)) := by
  obtain ⟨r, l, rfl⟩ : ∃ (r : Fin 256) (l : Fin 1024), x = ix2 r l := ⟨x 0, x 1, eq_ix2 x⟩
  obtain ⟨u, v, rfl⟩ : ∃ (u : Fin 1024) (v : Fin 1024), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  refine (piece_apply _ _ _ _ _ r l).trans ?_
  exact ffn_congr (fun k => mixed_at m c t o inb inb' r k ho) (fun k => (ld_gain _ k).trans (pre_at m c t k))
    (fun k j => (ld_in _ k _).trans (gate_at m c t k j)) (fun k j => (ld_in _ k _).trans (up_at m c t k j))
    (fun j k => (ld_down _ j k).trans (down_at m c t j k)) (fun k => (ld_gain _ k).trans (post_at m c t k)) l

/-- Row `y` of the block of 1024 rows that a point writes. -/
theorem out_at (c : Dev nD) (t : Fin grid0.N) (y : S1024x1024.Idx) :
    out0_9 (F := Ideal) (iblk m c 0 t) (iblk m c 1 t) (iblk m c 2 t) (iblk m c 3 t) (iblk m c 4 t) (iblk m c 5 t) (iblk m c 6 t) (iblk m c 7 t) (iblk m c 8 t) y
      = whole m c (ix2 ⟨1024 * t.val + (y 0).val, by have := points t; have : (y 0).val < 1024 := (y 0).isLt; omega⟩ (y 1)) := by
  unfold_out out0_9
  canon_tiles x h
  · rw [piece3, mixed3]; exact part_at m c t 768 _ _ y x h0 h1
  · rw [piece2, mixed2]; exact part_at m c t 512 _ _ y x h0 h1
  · rw [piece1, mixed1]; exact part_at m c t 256 _ _ y x h0 h1
  · rw [piece0]; exact part_at m c t 0 _ _ y x (by omega) h1

/-- The kernel's result array. -/
theorem final (c : Dev nD) : (dats (F := Ideal) m 0 c).arrAt 9 cfg0.N = whole m c := by
  refine (dats (F := Ideal) m 0 c).arrAt_eq_of_covers 9 _ (by decide +kernel) fun t _ y => ?_
  blk_simp
  rw [after0_9]
  refine (out_at m c t _).trans (congrArg _ (funext fun a => Fin.ext ?_))
  obtain ⟨e0, e1⟩ := index9 t
  fin_cases a
  · show 1024 * t.val + (y 0).val = win0_9.index t (0 : Fin 2) * 1024 + 1 * (y 0).val; omega
  · show (y 1).val = win0_9.index t (1 : Fin 2) * 1024 + 1 * (y 1).val; omega

/-- The run with its result named, the arguments as they were. -/
theorem run (ρ : Dev nD → PrngReg) : θ_run defs (onTc (τ := τ) (main (F := Ideal))) ⟨m, fun _ => 0, ρ⟩ fun r => ∀ c : Dev nD,
    r.2.mem ((c : Thread nD τ).loc main_v9) = whole m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  (θ_run defs _ _).mono (fun r h c => ⟨(h c).1.trans (final m c), (h c).2⟩) (Value.run_blocks m ρ)

end Cert.Proof.EF

end
-- ==== Proof.EF.Ref.lean ====
/-
  The reference of the same part of an even layer, read at an element.
-/
module

public import proofs.«01_k».proof.Proof.Gen.Reference4Ideal.Run
public import proofs.«01_k».proof.Proof.FF.Ref
public import proofs.«01_k».proof.Proof.EF.Piece

@[expose] public section

set_option maxRecDepth 16384

noncomputable section

namespace Cert.Proof.EF.Ref

open Cert.Reference4Ideal Cert.Reference4Ideal.Gen Idealize.ShloMosaic Idealize.ShloMosaic.TcCoe Finset
open Cert.Proof.EF (joined)
open Cert.Proof.FF (ffnAll mixAll mix times)
open Cert.Proof.FF.Ref (norm norm_apply ffnRows ffnRows_apply)

/-- The two arrays side by side. -/
def side (a b : FVec Ideal S32768x512 .bf16) : FVec Ideal S32768x1024 .f32 :=
  concatenate S32768x1024 1 [⟨S32768x512, (extf .f32 a bitsLt_bf16_f32)⟩, ⟨S32768x512, (extf .f32 b bitsLt_bf16_f32)⟩] concatenates_S32768x512_S32768x512_S32768x1024_d1

/-- Their rows, projected. -/
def proj (a b : FVec Ideal S32768x512 .bf16) (W : FVec Ideal S1024x1024 .f32) : FVec Ideal S32768x1024 .f32 :=
  Host.dotGeneral dot_S32768x1024_S1024x1024_S32768x1024_1_0_0_1_n_n none (side a b) W

/-- Rows with the projected ones added. -/
def mixRows (h : FVec Ideal S32768x1024 .f32) (a b : FVec Ideal S32768x512 .bf16) (W : FVec Ideal S1024x1024 .f32) (g : FVec Ideal S1024 .f32) : FVec Ideal S32768x1024 .f32 :=
  addf h (norm (proj a b W) g)

theorem side_apply (a b : FVec Ideal S32768x512 .bf16) (r : Fin 32768) (l : Fin 1024) : side a b (ix2 r l) = joined a b (ix2 r l) := by
  pointwise [side]
  rfl

theorem proj_apply (a b : FVec Ideal S32768x512 .bf16) (W : FVec Ideal S1024x1024 .f32) (r : Fin 32768) (l : Fin 1024) :
    proj a b W (ix2 r l) = times (fun k => joined a b (ix2 r k)) (fun k j => W (ix2 k j)) l := by
  pointwise [proj]
  simp only [side_apply]
  rfl

theorem mixRows_apply (h : FVec Ideal S32768x1024 .f32) (a b : FVec Ideal S32768x512 .bf16) (W : FVec Ideal S1024x1024 .f32) (g : FVec Ideal S1024 .f32) (r : Fin 32768) (l : Fin 1024) :
    mixRows h a b W g (ix2 r l) = mix (fun k => h (ix2 r k)) (fun k => joined a b (ix2 r k)) (fun k j => W (ix2 k j)) (fun k => g (ix1 k)) l := by
  unfold mix
  refine congrArg (h (ix2 r l) + ·) ((norm_apply _ g r l).trans ?_)
  simp only [proj_apply]

/-! ## The layer's slices of the weights -/

def gain (g : FVec Ideal S4x2x1024 .f32) : FVec Ideal S1024 .f32 :=
  shapeCast _ (extractStridedSlice S1x1x1024 ![0, 1, 0] g slices_S4x2x1024_S1x1x1024_0_1_0) shapeCasts_S1x1x1024_S1024
def mixGain (g : FVec Ideal S4x1024 .f32) : FVec Ideal S1024 .f32 :=
  shapeCast _ (extractStridedSlice S1x1024 ![0, 0] g slices_S4x1024_S1x1024_0_0) shapeCasts_S1x1024_S1024
def weightIn (W : FVec Ideal S4x2x1024x1408 .f32) : FVec Ideal S1024x1408 .f32 :=
  shapeCast _ (extractStridedSlice S1x1x1024x1408 ![0, 1, 0, 0] W slices_S4x2x1024x1408_S1x1x1024x1408_0_1_0_0) shapeCasts_S1x1x1024x1408_S1024x1408
def weightBack (W : FVec Ideal S4x2x1408x1024 .f32) : FVec Ideal S1408x1024 .f32 :=
  shapeCast _ (extractStridedSlice S1x1x1408x1024 ![0, 1, 0, 0] W slices_S4x2x1408x1024_S1x1x1408x1024_0_1_0_0) shapeCasts_S1x1x1408x1024_S1408x1024
def weightProj (W : FVec Ideal S2x1024x1024 .f32) : FVec Ideal S1024x1024 .f32 :=
  shapeCast _ (extractStridedSlice S1x1024x1024 ![0, 0, 0] W slices_S2x1024x1024_S1x1024x1024_0_0_0) shapeCasts_S1x1024x1024_S1024x1024

theorem gain_apply (g : FVec Ideal S4x2x1024 .f32) (l : Fin 1024) : gain g (ix1 l) = g (ix3 0 1 l) := by
  pointwise [gain]
theorem mixGain_apply (g : FVec Ideal S4x1024 .f32) (l : Fin 1024) : mixGain g (ix1 l) = g (ix2 0 l) := by
  pointwise [mixGain]
theorem weightIn_apply (W : FVec Ideal S4x2x1024x1408 .f32) (k : Fin 1024) (j : Fin 1408) : weightIn W (ix2 k j) = W (ix4 0 1 k j) := by
  pointwise [weightIn]
theorem weightBack_apply (W : FVec Ideal S4x2x1408x1024 .f32) (j : Fin 1408) (l : Fin 1024) : weightBack W (ix2 j l) = W (ix4 0 1 j l) := by
  pointwise [weightBack]
theorem weightProj_apply (W : FVec Ideal S2x1024x1024 .f32) (k l : Fin 1024) : weightProj W (ix2 k l) = W (ix3 0 k l) := by
  pointwise [weightProj]

/-- What the reference computes of its arguments. -/
theorem stages (m : (l : Loc nD τ sig) → Buf (Elt Ideal) l) (c : Dev nD) : Value.res_main_v65 (F := Ideal) m c
    = ffnRows (mixRows (m ((c : Thread nD τ).loc main_arg0)) (m ((c : Thread nD τ).loc main_arg1)) (m ((c : Thread nD τ).loc main_arg2)) (weightProj (m ((c : Thread nD τ).loc main_arg3))) (mixGain (m ((c : Thread nD τ).loc main_arg4))))
        (gain (m ((c : Thread nD τ).loc main_arg5))) (gain (m ((c : Thread nD τ).loc main_arg6)))
        (weightIn (m ((c : Thread nD τ).loc main_arg7))) (weightIn (m ((c : Thread nD τ).loc main_arg8))) (weightBack (m ((c : Thread nD τ).loc main_arg9))) := rfl

/-- The reference's result. -/
theorem result (h : FVec Ideal S32768x1024 .f32) (a b : FVec Ideal S32768x512 .bf16) (P : FVec Ideal S2x1024x1024 .f32) (g₀ : FVec Ideal S4x1024 .f32)
    (g g' : FVec Ideal S4x2x1024 .f32) (G U : FVec Ideal S4x2x1024x1408 .f32) (D : FVec Ideal S4x2x1408x1024 .f32) :
    ffnRows (mixRows h a b (weightProj P) (mixGain g₀)) (gain g) (gain g') (weightIn G) (weightIn U) (weightBack D) = ffnAll 0 1 (mixAll 0 0 h (joined a b) P g₀) g g' G U D := by
  funext y
  obtain ⟨r, l, rfl⟩ : ∃ (r : Fin 32768) (l : Fin 1024), y = ix2 r l := ⟨y 0, y 1, eq_ix2 y⟩
  refine (ffnRows_apply _ _ _ _ _ _ r l).trans ?_
  simp only [mixRows_apply, gain_apply, mixGain_apply, weightIn_apply, weightBack_apply, weightProj_apply]
  rfl

end Cert.Proof.EF.Ref

end
-- ==== Proof.PO.Math.lean ====
/-
  The projection of a row into queries, keys and values.
-/
module

public import proofs.«01_k».proof.Proof.FF.Math

@[expose] public section

noncomputable section

namespace Cert.Proof.PO

open Idealize.ShloMosaic Finset
open Cert.Proof.FF (rms times)

variable (h : (⟨2, ![32768, 1024]⟩ : Shape).Idx → EReal) (g : (⟨2, ![4, 1024]⟩ : Shape).Idx → EReal) (W : (⟨3, ![2, 1024, 3072]⟩ : Shape).Idx → EReal)

/-- Element `j` of row `r`, normalized with the second layer's gain and projected by the first weights. -/
def projected (r : Fin 32768) (j : Fin 3072) : EReal :=
  times (rms (fun k => h (ix2 r k)) (fun k => g (ix2 1 k))) (fun k j => W (ix3 0 k j)) j

/-- One over the root of 128 times the logarithm of 2. -/
def scale : EReal := (((Real.sqrt 128 * Real.log 2)⁻¹ : ℝ) : EReal)

/-- The queries of all rows, scaled, -/
def queries : (⟨2, ![32768, 1024]⟩ : Shape).Idx → EReal := fun y =>
  projected h g W (y 0) ⟨(y 1).val, by have : (y 1).val < 1024 := (y 1).isLt; omega⟩ * scale

/-- the keys, -/
def keys : (⟨2, ![32768, 1024]⟩ : Shape).Idx → EReal := fun y =>
  projected h g W (y 0) ⟨1024 + (y 1).val, by have : (y 1).val < 1024 := (y 1).isLt; omega⟩

/-- and the values, transposed by blocks of 256 rows. -/
def values : (⟨3, ![128, 1024, 256]⟩ : Shape).Idx → EReal := fun y =>
  projected h g W ⟨(y 0).val * 256 + (y 2).val, by have h0 : (y 0).val < 128 := (y 0).isLt; have h2 : (y 2).val < 256 := (y 2).isLt; omega⟩
    ⟨2048 + (y 1).val, by have : (y 1).val < 1024 := (y 1).isLt; omega⟩

end Cert.Proof.PO

end
-- ==== Proof.PO.Piece.lean ====
/-
  What the odd layers' projection stores of a block of rows.
-/
module

public import proofs.«01_k».proof.Proof.Gen.Kernel5Ideal.Frame
public import proofs.«01_k».proof.Proof.FF.Piece
public import proofs.«01_k».proof.Proof.PO.Math

@[expose] public section

noncomputable section

namespace Cert.Proof.PO

open Cert.Kernel5Ideal Cert.Kernel5Ideal.Gen Idealize.ShloMosaic Finset
open Cert.Proof.FF (times rms)

variable (h : FVec Ideal S256x1024 .f32) (g : FVec Ideal S1x1x1024 .f32) (W : FVec Ideal S1024x1024 .bf16)

/-- 256 rows normalized, in four spellings. -/
def normed : FVec Ideal S256x1024 .bf16 := k0_pay2 h g
theorem normed1 : k0_pay3 h g = normed h g := rfl
theorem normed2 : k0_pay6 h (k0_pay4 g) (k0_pay5 h) = normed h g := rfl
theorem normed3 : k0_pay7 h g = normed h g := rfl

/-- Their queries, -/
def qPart (x : FVec Ideal S256x1024 .bf16) : FVec Ideal S256x1024 .bf16 := k0_pay8 x W
theorem qPart1 (x : FVec Ideal S256x1024 .bf16) : k0_pay11 x W = qPart W x := rfl
theorem qPart2 (x : FVec Ideal S256x1024 .bf16) : k0_pay15 x (k0_pay14 W) (constant S256x1024 .f32 0x00000000#32) = qPart W x := rfl
theorem qPart3 (x : FVec Ideal S256x1024 .bf16) : k0_pay18 x W = qPart W x := rfl

/-- keys -/
def kPart (x : FVec Ideal S256x1024 .bf16) : FVec Ideal S256x1024 .bf16 := k0_pay9 x W
theorem kPart1 (x : FVec Ideal S256x1024 .bf16) : k0_pay12 x W = kPart W x := rfl
theorem kPart2 (x : FVec Ideal S256x1024 .bf16) : k0_pay16 x W = kPart W x := rfl
theorem kPart3 (x : FVec Ideal S256x1024 .bf16) : k0_pay19 x W = kPart W x := rfl

/-- and values. -/
def vPart (x : FVec Ideal S256x1024 .bf16) : FVec Ideal S1x1024x256 .bf16 := k0_pay10 x W
theorem vPart1 (x : FVec Ideal S256x1024 .bf16) : k0_pay13 x W = vPart W x := rfl
theorem vPart2 (x : FVec Ideal S256x1024 .bf16) : k0_pay17 x W = vPart W x := rfl
theorem vPart3 (x : FVec Ideal S256x1024 .bf16) : k0_pay1 x W = vPart W x := rfl

theorem normed_apply (r : Fin 256) (l : Fin 1024) : normed h g (ix2 r l) = rms (fun k => h (ix2 r k)) (fun k => g (ix3 0 0 k)) l :=
  FF.norm_apply h g r l

theorem scale_named : Named.named (F := Ideal) (φ := .f32) κ "query_scale" 1040356334#32 = scale :=
  IdealRules.named_const.ideal_named_scalar _ _ _ _ rfl

theorem qPart_apply (x : FVec Ideal S256x1024 .bf16) (r : Fin 256) (l : Fin 1024) :
    qPart W x (ix2 r l) = times (fun k => x (ix2 r k)) (fun k l => W (ix2 k l)) l * scale := by
  pointwise [qPart, k0_pay8]
  rw [scale_named]
  rfl

theorem kPart_apply (x : FVec Ideal S256x1024 .bf16) (r : Fin 256) (l : Fin 1024) :
    kPart W x (ix2 r l) = times (fun k => x (ix2 r k)) (fun k l => W (ix2 k l)) l := by
  pointwise [kPart, k0_pay9]
  rfl

theorem vPart_apply (x : FVec Ideal S256x1024 .bf16) (l : Fin 1024) (r : Fin 256) :
    vPart W x (ix3 0 l r) = times (fun k => x (ix2 r k)) (fun k l => W (ix2 l k)) l := by
  pointwise [vPart, k0_pay10]
  exact Finset.sum_congr rfl fun k _ => mul_comm _ _

end Cert.Proof.PO

end
-- ==== Proof.PO.Value.lean ====
/-
  The results of the odd layers' projection, for every row.
-/
module

public import proofs.«01_k».proof.Proof.Gen.Kernel5Ideal.Value
public import proofs.«01_k».proof.Proof.PO.Piece
public import proofs.«01_k».proof.Proof.MF.Value
public import Idealize.ShloMosaic.Lib.Pipeline.ValueKit
public import Idealize.ShloMosaic.Lib.Claim

@[expose] public section

set_option maxRecDepth 16384

noncomputable section

namespace Cert.Proof.PO

open Cert.Kernel5Ideal Cert.Kernel5Ideal.Gen Idealize.ShloMosaic Idealize.ShloMosaic.TcCoe Finset
open Idealize.ShloMosaic.Tactic Idealize.SL.Sem
open Cert.Proof.FF (times rms)
open Cert.Proof.MF (ld_rows ld_gain)

variable (m : (l : Loc nD τ sig) → Buf (Elt Ideal) l)

/-- The argument arrays. -/
abbrev hArr (c : Dev nD) : S32768x1024.Idx → EReal := m ((c : Thread nD τ).loc main_arg0)
abbrev gArr (c : Dev nD) : S4x1024.Idx → EReal := m ((c : Thread nD τ).loc main_arg1)
abbrev wArr (c : Dev nD) : S2x1024x3072.Idx → EReal := m ((c : Thread nD τ).loc main_arg2)

theorem index0 : ∀ t : Fin grid0.N, win0_0.index t (0 : Fin 2) = t.val ∧ win0_0.index t (1 : Fin 2) = 0 := by decide +kernel
theorem index1 : ∀ t : Fin grid0.N, win0_1.index t (0 : Fin 3) = 1 ∧ win0_1.index t (1 : Fin 3) = 0 ∧ win0_1.index t (2 : Fin 3) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 0 ∧ win0_3.index t (1 : Fin 2) = 0 := by decide +kernel
theorem index4 : ∀ t : Fin grid0.N, win0_4.index t (0 : Fin 2) = t.val ∧ win0_4.index t (1 : Fin 2) = 0 := by decide +kernel
theorem index5 : ∀ t : Fin grid0.N, win0_5.index t (0 : Fin 2) = t.val ∧ win0_5.index t (1 : Fin 2) = 0 := by decide +kernel
theorem index6 : ∀ t : Fin grid0.N, win0_6.index t (0 : Fin 3) = t.val ∧ win0_6.index t (1 : Fin 3) = 0 ∧ win0_6.index t (2 : Fin 3) = 0 := by decide +kernel

theorem points (t : Fin grid0.N) : t.val < 32 := t.isLt

theorem rows_at (c : Dev nD) (t : Fin grid0.N) (r l : Fin 1024) :
    iblk (F := Ideal) m c 0 t (ix2 r l) = hArr m c (ix2 ⟨1024 * t.val + r.val, by have := points t; omega⟩ l) := by
  obtain ⟨e0, e1⟩ := index0 t
  blk_simp [iblk]
  entry_read
  refine congrArg (hArr m c) (funext fun a => Fin.ext ?_)
  fin_cases a
  · show win0_0.index t (0 : Fin 2) * 1024 + 1 * r.val = 1024 * t.val + r.val; omega
  · show win0_0.index t (1 : Fin 2) * 1024 + 1 * l.val = l.val; omega

theorem gain_at (c : Dev nD) (t : Fin grid0.N) (l : Fin 1024) : iblk (F := Ideal) m c 1 t (ix3 0 0 l) = gArr m c (ix2 1 l) := by
  obtain ⟨e0, e1, e2⟩ := index1 t
  blk_simp [iblk]
  entry_read
  have e : ((View.whole main_v0).slice (win0_1.rect t)).emb (ix3 0 0 l) = (ix3 (1 : Fin 4) (0 : Fin 1) l : S4x1x1024.Idx) := by
    refine funext fun a => Fin.ext ?_
    fin_cases a
    · show win0_1.index t (0 : Fin 3) * 1 + 1 * 0 = 1; omega
    · show win0_1.index t (1 : Fin 3) * 1 + 1 * 0 = 0; omega
    · show win0_1.index t (2 : Fin 3) * 1024 + 1 * l.val = l.val; omega
  rw [e]
  pointwise

theorem weight_at (c : Dev nD) (t : Fin grid0.N) (k : Fin 1024) (j : Fin 2048) :
    iblk (F := Ideal) m c 2 t (ix2 k j) = wArr m c (ix3 0 k ⟨j.val, by omega⟩) := by
  obtain ⟨e0, e1⟩ := index2 t
  blk_simp [iblk]
  entry_read
  have e : ((View.whole main_v4).slice (win0_2.rect t)).emb (ix2 k j) = (ix2 k j : S1024x2048.Idx) := by
    refine funext fun a => Fin.ext ?_
    fin_cases a
    · show win0_2.index t (0 : Fin 2) * 1024 + 1 * k.val = k.val; omega
    · show win0_2.index t (1 : Fin 2) * 2048 + 1 * j.val = j.val; omega
  rw [e]
  pointwise

theorem weight_values_at (c : Dev nD) (t : Fin grid0.N) (l k : Fin 1024) :
    iblk (F := Ideal) m c 3 t (ix2 l k) = wArr m c (ix3 0 k ⟨2048 + l.val, by omega⟩) := by
  obtain ⟨e0, e1⟩ := index3 t
  blk_simp [iblk]
  entry_read
  have e : ((View.whole main_v7).slice (win0_3.rect t)).emb (ix2 l k) = (ix2 l k : S1024x1024.Idx) := by
    refine funext fun a => Fin.ext ?_
    fin_cases a
    · show win0_3.index t (0 : Fin 2) * 1024 + 1 * l.val = l.val; omega
    · show win0_3.index t (1 : Fin 2) * 1024 + 1 * k.val = k.val; omega
  rw [e]
  pointwise

theorem ld_first (X : Vec Ideal S1024x2048 .bf16) (k l : Fin 1024) : View.ld X r0_5 (ix2 k l) = X (ix2 k ⟨l.val, by omega⟩) := by
  refine congrArg X (funext fun a => Fin.ext ?_)
  fin_cases a
  · show 0 + 1 * k.val = k.val; omega
  · show 0 + 1 * l.val = l.val; omega

theorem ld_second (X : Vec Ideal S1024x2048 .bf16) (k l : Fin 1024) : View.ld X r0_6 (ix2 k l) = X (ix2 k ⟨1024 + l.val, by omega⟩) := by
  refine congrArg X (funext fun a => Fin.ext ?_)
  fin_cases a
  · show 0 + 1 * k.val = k.val; omega
  · show 1024 + 1 * l.val = 1024 + l.val; omega

theorem ld_all (X : Vec Ideal S1024x1024 .bf16) (k l : Fin 1024) : View.ld X r0_7 (ix2 k l) = X (ix2 k l) := by
  refine congrArg X (funext fun a => Fin.ext ?_)
  fin_cases a
  · show 0 + 1 * k.val = k.val; omega
  · show 0 + 1 * l.val = l.val; omega

/-- 256 rows of a point's block, from row `o`, normalized. -/
abbrev part (c : Dev nD) (t : Fin grid0.N) (o : ℕ) (inb : ∀ a : Fin S1024x1024.rank, ![o, 0] a + S256x1024.size a ≤ S1024x1024.size a) : FVec Ideal S256x1024 .bf16 :=
  normed (View.ld (iblk (F := Ideal) m c 0 t) (Rect.unit (s := S1024x1024) ![o, 0] S256x1024.size inb)) (View.ld (iblk (F := Ideal) m c 1 t) r0_1)

/-- Row `r` of these. -/
theorem normed_at (c : Dev nD) (t : Fin grid0.N) (o : ℕ) (inb) (r : Fin 256) (l : Fin 1024) (ho : o + r.val < 1024) :
    part m c t o inb (ix2 r l)
      = rms (fun k => hArr m c (ix2 ⟨1024 * t.val + (o + r.val), by have := points t; omega⟩ k)) (fun k => gArr m c (ix2 1 k)) l := by
  refine (normed_apply _ _ r l).trans ?_
  have e1 : ∀ k, View.ld (iblk (F := Ideal) m c 0 t) (Rect.unit (s := S1024x1024) ![o, 0] S256x1024.size inb) (ix2 r k)
      = hArr m c (ix2 ⟨1024 * t.val + (o + r.val), by have := points t; omega⟩ k) := fun k => (ld_rows _ o inb r k ho).trans (rows_at m c t _ k)
  have e2 : ∀ k, View.ld (iblk (F := Ideal) m c 1 t) r0_1 (ix3 0 0 k) = gArr m c (ix2 1 k) := fun k => (ld_gain _ k).trans (gain_at m c t k)
  exact congrArg₂ (fun x y => rms x y l) (funext e1) (funext e2)

/-- A row of these times a column of weights. -/
theorem times_at (c : Dev nD) (t : Fin grid0.N) (o : ℕ) (inb) (r : Fin 256) (ho : o + r.val < 1024) (V : Fin 1024 → Fin 1024 → EReal) (l : Fin 1024) (j : Fin 3072)
    (hV : ∀ k, V k l = wArr m c (ix3 0 k j)) :
    times (fun k => part m c t o inb (ix2 r k)) V l
      = projected (hArr m c) (gArr m c) (wArr m c) ⟨1024 * t.val + (o + r.val), by have := points t; omega⟩ j := by
  unfold projected times
  refine Finset.sum_congr rfl fun k _ => ?_
  exact congrArg₂ (· * ·) (normed_at m c t o inb r k ho) (hV k)

theorem q_part (c : Dev nD) (t : Fin grid0.N) (o : ℕ) (inb) (y : S1024x1024.Idx) (x : S256x1024.Idx) (h0 : (y 0).val = o + (x 0).val) (h1 : (y 1).val = (x 1).val) :
    qPart (View.ld (iblk (F := Ideal) m c 2 t) r0_5) (part m c t o inb) x
      = queries (hArr m c) (gArr m c) (wArr m c) (ix2 ⟨1024 * t.val + (y 0).val, by have := points t; have : (y 0).val < 1024 := (y 0).isLt; omega⟩ (y 1)) := by
  obtain ⟨r, l, rfl⟩ : ∃ (r : Fin 256) (l : Fin 1024), x = ix2 r l := ⟨x 0, x 1, eq_ix2 x⟩
  obtain ⟨u, v, rfl⟩ : ∃ (u : Fin 1024) (v : Fin 1024), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  refine (qPart_apply _ _ r l).trans (congrArg (· * scale) ?_)
  exact times_at m c t o inb r ho _ l ⟨l.val, by omega⟩ fun k => (ld_first _ k l).trans (weight_at m c t k _)

theorem k_part (c : Dev nD) (t : Fin grid0.N) (o : ℕ) (inb) (y : S1024x1024.Idx) (x : S256x1024.Idx) (h0 : (y 0).val = o + (x 0).val) (h1 : (y 1).val = (x 1).val) :
    kPart (View.ld (iblk (F := Ideal) m c 2 t) r0_6) (part m c t o inb) x
      = keys (hArr m c) (gArr m c) (wArr m c) (ix2 ⟨1024 * t.val + (y 0).val, by have := points t; have : (y 0).val < 1024 := (y 0).isLt; omega⟩ (y 1)) := by
  obtain ⟨r, l, rfl⟩ : ∃ (r : Fin 256) (l : Fin 1024), x = ix2 r l := ⟨x 0, x 1, eq_ix2 x⟩
  obtain ⟨u, v, rfl⟩ : ∃ (u : Fin 1024) (v : Fin 1024), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  refine (kPart_apply _ _ r l).trans ?_
  exact times_at m c t o inb r ho _ l ⟨1024 + l.val, by omega⟩ fun k => (ld_second _ k l).trans (weight_at m c t k _)

theorem v_part (c : Dev nD) (t : Fin grid0.N) (p : ℕ) (hp : p < 4) (inb) (y : S4x1024x256.Idx) (x : S1x1024x256.Idx) (h0 : (y 0).val = p + (x 0).val)
    (h1 : (y 1).val = (x 1).val) (h2 : (y 2).val = (x 2).val) :
    vPart (View.ld (iblk (F := Ideal) m c 3 t) r0_7) (part m c t (256 * p) inb) x
      = values (hArr m c) (gArr m c) (wArr m c) (ix3 ⟨4 * t.val + (y 0).val, by have := points t; have : (y 0).val < 4 := (y 0).isLt; omega⟩ (y 1) (y 2)) := by
  obtain ⟨z, l, r, rfl⟩ : ∃ (z : Fin 1) (l : Fin 1024) (r : Fin 256), x = ix3 z l r := ⟨x 0, x 1, x 2, eq_ix3 x⟩
  obtain ⟨b, v, w, rfl⟩ : ∃ (b : Fin 4) (v : Fin 1024) (w : Fin 256), y = ix3 b v w := ⟨y 0, y 1, y 2, eq_ix3 y⟩
  obtain rfl : z = 0 := Subsingleton.elim _ _
  obtain rfl : l = v := (Fin.ext h1).symm
  obtain rfl : r = w := (Fin.ext h2).symm
  obtain rfl : b = ⟨p, hp⟩ := Fin.ext h0
  refine (vPart_apply _ _ l r).trans ?_
  refine (times_at m c t (256 * p) inb r (by omega) _ l ⟨2048 + l.val, by omega⟩ fun k => (ld_all _ l k).trans (weight_values_at m c t l k)).trans ?_
  exact congrArg (fun n => projected (hArr m c) (gArr m c) (wArr m c) n _) (Fin.ext (show 1024 * t.val + (256 * p + r.val) = (4 * t.val + p) * 256 + r.val by omega))

theorem q_at (c : Dev nD) (t : Fin grid0.N) (y : S1024x1024.Idx) :
    out0_4 (F := Ideal) (iblk m c 0 t) (iblk m c 1 t) (iblk m c 2 t) (iblk m c 3 t) y
      = queries (hArr m c) (gArr m c) (wArr m c) (ix2 ⟨1024 * t.val + (y 0).val, by have := points t; have : (y 0).val < 1024 := (y 0).isLt; omega⟩ (y 1)) := by
  unfold_out out0_4
  canon_tiles x h
  · rw [qPart3, normed3]; exact q_part m c t 768 _ y x h0 h1
  · rw [qPart2, normed2]; exact q_part m c t 512 _ y x h0 h1
  · rw [qPart1, normed1]; exact q_part m c t 256 _ y x h0 h1
  · exact q_part m c t 0 _ y x (by omega) h1

theorem k_at (c : Dev nD) (t : Fin grid0.N) (y : S1024x1024.Idx) :
    out0_5 (F := Ideal) (iblk m c 0 t) (iblk m c 1 t) (iblk m c 2 t) (iblk m c 3 t) y
      = keys (hArr m c) (gArr m c) (wArr m c) (ix2 ⟨1024 * t.val + (y 0).val, by have := points t; have : (y 0).val < 1024 := (y 0).isLt; omega⟩ (y 1)) := by
  unfold_out out0_5
  canon_tiles x h
  · rw [kPart3, normed3]; exact k_part m c t 768 _ y x h0 h1
  · rw [kPart2, normed2]; exact k_part m c t 512 _ y x h0 h1
  · rw [kPart1, normed1]; exact k_part m c t 256 _ y x h0 h1
  · exact k_part m c t 0 _ y x (by omega) h1

theorem v_at (c : Dev nD) (t : Fin grid0.N) (y : S4x1024x256.Idx) :
    out0_6 (F := Ideal) (iblk m c 0 t) (iblk m c 1 t) (iblk m c 2 t) (iblk m c 3 t) y
      = values (hArr m c) (gArr m c) (wArr m c) (ix3 ⟨4 * t.val + (y 0).val, by have := points t; have : (y 0).val < 4 := (y 0).isLt; omega⟩ (y 1) (y 2)) := by
  unfold_out out0_6
  canon_tiles x h
  · rw [vPart3, normed3]; exact v_part m c t 3 (by omega) _ y x h0 h1 h2
  · rw [vPart2, normed2]; exact v_part m c t 2 (by omega) _ y x h0 h1 h2
  · rw [vPart1, normed1]; exact v_part m c t 1 (by omega) _ y x h0 h1 h2
  · exact v_part m c t 0 (by omega) _ y x (by omega) h1 h2

/-- The kernel's result arrays. -/
theorem q_final (c : Dev nD) : (dats (F := Ideal) m 0 c).arrAt 4 cfg0.N = queries (hArr m c) (gArr m c) (wArr m c) := by
  refine (dats (F := Ideal) m 0 c).arrAt_eq_of_covers 4 _ (by decide +kernel) fun t _ y => ?_
  blk_simp
  rw [after0_4]
  refine (q_at m c t _).trans (congrArg _ (funext fun a => Fin.ext ?_))
  obtain ⟨e0, e1⟩ := index4 t
  fin_cases a
  · show 1024 * t.val + (y 0).val = win0_4.index t (0 : Fin 2) * 1024 + 1 * (y 0).val; omega
  · show (y 1).val = win0_4.index t (1 : Fin 2) * 1024 + 1 * (y 1).val; omega

theorem k_final (c : Dev nD) : (dats (F := Ideal) m 0 c).arrAt 5 cfg0.N = keys (hArr m c) (gArr m c) (wArr m c) := by
  refine (dats (F := Ideal) m 0 c).arrAt_eq_of_covers 5 _ (by decide +kernel) fun t _ y => ?_
  blk_simp
  rw [after0_5]
  refine (k_at m c t _).trans (congrArg _ (funext fun a => Fin.ext ?_))
  obtain ⟨e0, e1⟩ := index5 t
  fin_cases a
  · show 1024 * t.val + (y 0).val = win0_5.index t (0 : Fin 2) * 1024 + 1 * (y 0).val; omega
  · show (y 1).val = win0_5.index t (1 : Fin 2) * 1024 + 1 * (y 1).val; omega

theorem v_final (c : Dev nD) : (dats (F := Ideal) m 0 c).arrAt 6 cfg0.N = values (hArr m c) (gArr m c) (wArr m c) := by
  refine (dats (F := Ideal) m 0 c).arrAt_eq_of_covers 6 _ (by decide +kernel) fun t _ y => ?_
  blk_simp
  rw [after0_6]
  refine (v_at m c t _).trans (congrArg _ (funext fun a => Fin.ext ?_))
  obtain ⟨e0, e1, e2⟩ := index6 t
  fin_cases a
  · show 4 * t.val + (y 0).val = win0_6.index t (0 : Fin 3) * 4 + 1 * (y 0).val; omega
  · show (y 1).val = win0_6.index t (1 : Fin 3) * 1024 + 1 * (y 1).val; omega
  · show (y 2).val = win0_6.index t (2 : Fin 3) * 256 + 1 * (y 2).val; omega

/-- The run with its results named, the arguments as they were. -/
theorem run (ρ : Dev nD → PrngReg) : θ_run defs (onTc (τ := τ) (main (F := Ideal))) ⟨m, fun _ => 0, ρ⟩ fun r => ∀ c : Dev nD,
    r.2.mem ((c : Thread nD τ).loc main_v8_0) = queries (hArr m c) (gArr m c) (wArr m c)
    ∧ r.2.mem ((c : Thread nD τ).loc main_v8_1) = keys (hArr m c) (gArr m c) (wArr m c)
    ∧ r.2.mem ((c : Thread nD τ).loc main_v8_2) = values (hArr m c) (gArr m c) (wArr m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h c).1.trans (q_final m c), (h c).2.1.trans (k_final m c), (h c).2.2.1.trans (v_final m c), (h c).2.2.2⟩)
    (Value.run_blocks m ρ)

end Cert.Proof.PO

end
-- ==== Proof.PO.Ref.lean ====
/-
  The reference of an odd layer's projection, read at an element.
-/
module

public import proofs.«01_k».proof.Proof.Gen.Reference5Ideal.Run
public import proofs.«01_k».proof.Proof.FF.Ref
public import proofs.«01_k».proof.Proof.RI.Read
public import proofs.«01_k».proof.Proof.PO.Math

@[expose] public section

set_option maxRecDepth 16384

noncomputable section

namespace Cert.Proof.PO.Ref

open Cert.Reference5Ideal Cert.Reference5Ideal.Gen Idealize.ShloMosaic Idealize.ShloMosaic.TcCoe Finset
open Idealize.SL.Sem
open Cert.Proof.FF (times rms)
open Cert.Proof.FF.Ref (norm norm_apply)

variable (h : FVec Ideal S32768x1024 .f32) (g : FVec Ideal S4x1024 .f32) (W : FVec Ideal S2x1024x3072 .f32)

def gain : FVec Ideal S1024 .f32 :=
  shapeCast _ (extractStridedSlice S1x1024 ![1, 0] g slices_S4x1024_S1x1024_1_0) shapeCasts_S1x1024_S1024
def weight : FVec Ideal S1024x3072 .f32 :=
  shapeCast _ (extractStridedSlice S1x1024x3072 ![0, 0, 0] W slices_S2x1024x3072_S1x1024x3072_0_0_0) shapeCasts_S1x1024x3072_S1024x3072
/-- All columns of the projection; -/
def rows : FVec Ideal S32768x3072 .f32 :=
  Host.dotGeneral dot_S32768x1024_S1024x3072_S32768x3072_1_0_0_1_n_n none (norm h (gain g)) (weight W)
/-- of these the queries, scaled, -/
def q : FVec Ideal S32768x1024 .bf16 :=
  truncf .bf16 (Host.divf (extractStridedSlice S32768x1024 ![0, 0] (rows h g W) slices_S32768x3072_S32768x1024_0_0)
    (broadcastInDim S32768x1024 ![] bcast_S_S32768x1024 (mulf (Host.sqrt (constant S_ .f32 0x43000000#32)) (Host.log (constant S_ .f32 0x40000000#32))))) bitsLt_bf16_f32
/-- the keys -/
def k : FVec Ideal S32768x1024 .bf16 :=
  truncf .bf16 (extractStridedSlice S32768x1024 ![0, 1024] (rows h g W) slices_S32768x3072_S32768x1024_0_1024) bitsLt_bf16_f32
/-- and the values by blocks. -/
def vt : FVec Ideal S128x1024x256 .bf16 :=
  truncf .bf16 (transpose S128x1024x256 [0, 2, 1] (shapeCast _ (extractStridedSlice S32768x1024 ![0, 2048] (rows h g W) slices_S32768x3072_S32768x1024_0_2048)
    shapeCasts_S32768x1024_S128x256x1024) transposes_S128x256x1024_S128x1024x256_0_2_1) bitsLt_bf16_f32

theorem gain_apply (l : Fin 1024) : gain g (ix1 l) = g (ix2 1 l) := by
  pointwise [gain]
theorem weight_apply (k : Fin 1024) (j : Fin 3072) : weight W (ix2 k j) = W (ix3 0 k j) := by
  pointwise [weight]

theorem rows_apply (r : Fin 32768) (j : Fin 3072) : rows h g W (ix2 r j) = projected h g W r j := by
  unfold projected times
  pointwise [rows]
  simp only [norm_apply, gain_apply, weight_apply]

theorem root : Ideal.sqrt (Ideal.ofBits .f32 1124073472#32) = ((Real.sqrt 128 : ℝ) : EReal) := by
  have h : Ideal.ofBits .f32 1124073472#32 = ((128 : ℝ) : EReal) := by
    simp [Ideal.ofBits, Ideal.ieee]
    rw [← EReal.coe_mul]
    exact congrArg _ (by norm_num)
  rw [h, Ideal.sqrt_coe, if_neg (by norm_num)]

theorem over_scale (x : EReal) : Ideal.div x (((Real.sqrt 128 : ℝ) : EReal) * ((Real.log 2 : ℝ) : EReal)) = x * scale := by
  have h : Real.sqrt 128 * Real.log 2 ≠ 0 :=
    mul_ne_zero (Real.sqrt_ne_zero'.2 (by norm_num)) (Real.log_pos (by norm_num)).ne'
  rw [← EReal.coe_mul, Ideal.div_coe h, one_div]
  rfl

theorem q_eq : q h g W = queries h g W := by
  funext y
  obtain ⟨r, l, rfl⟩ : ∃ (r : Fin 32768) (l : Fin 1024), y = ix2 r l := ⟨y 0, y 1, eq_ix2 y⟩
  pointwise [q]
  rw [root, RI.log_two, over_scale, rows_apply]
  rfl

theorem k_eq : k h g W = keys h g W := by
  funext y
  obtain ⟨r, l, rfl⟩ : ∃ (r : Fin 32768) (l : Fin 1024), y = ix2 r l := ⟨y 0, y 1, eq_ix2 y⟩
  pointwise [k]
  rw [rows_apply]
  rfl

theorem vt_eq : vt h g W = values h g W := by
  funext y
  obtain ⟨b, l, u, rfl⟩ : ∃ (b : Fin 128) (l : Fin 1024) (u : Fin 256), y = ix3 b l u := ⟨y 0, y 1, y 2, eq_ix3 y⟩
  pointwise [vt]
  rw [rows_apply]
  rfl

/-- The reference's run, its results named. -/
theorem run (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c : Thread nD τ).loc main_v28) = queries (m ((c : Thread nD τ).loc main_arg0)) (m ((c : Thread nD τ).loc main_arg1)) (m ((c : Thread nD τ).loc main_arg2))
      ∧ r.2.mem ((c : Thread nD τ).loc main_v29) = keys (m ((c : Thread nD τ).loc main_arg0)) (m ((c : Thread nD τ).loc main_arg1)) (m ((c : Thread nD τ).loc main_arg2))
      ∧ r.2.mem ((c : Thread nD τ).loc main_v30) = values (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (q_eq _ _ _), (h c).2.1.trans (k_eq _ _ _), (h c).2.2.1.trans (vt_eq _ _ _), (h c).2.2.2⟩)
    (Value.run m ρ)

end Cert.Proof.PO.Ref

end
-- ==== Proof.Equal3.lean ====
/-
  The calls added after those: the even layers' second feed-forward part and the odd layers' projection.
-/
module

public import proofs.«01_k».proof.Defs
public import proofs.«01_k».proof.Proof.EF.Value
public import proofs.«01_k».proof.Proof.EF.Ref
public import proofs.«01_k».proof.Proof.PO.Value
public import proofs.«01_k».proof.Proof.PO.Ref
public import Idealize.ShloMosaic.Lib.Quiescent

@[expose] public section

noncomputable section

namespace Cert.Proof

open Idealize.ShloMosaic Idealize.ShloMosaic.TcCoe Idealize.SL.Sem

theorem frame_even_reference : Cert.quiescent_Reference4Ideal (hReference4Ideal := Cert.Reference4Ideal.Gen.facts) := fun m g _ =>
  θ_run_mono (Cert.Reference4Ideal.Value.run m g) fun r h => ⟨fun c => (h c).2, sem_eq_zero_of_no_sems (by decide) r.2⟩

theorem frame_project_reference : Cert.quiescent_Reference5Ideal (hReference5Ideal := Cert.Reference5Ideal.Gen.facts) := fun m g _ =>
  θ_run_mono (Cert.Reference5Ideal.Value.run m g) fun r h => ⟨fun c => (h c).2.2.2, sem_eq_zero_of_no_sems (by decide) r.2⟩

theorem algebraic_even : Cert.algebraic_Kernel4Ideal_Reference4Ideal (hKernel4Ideal := Cert.Kernel4Ideal.Gen.facts)
    (hReference4Ideal := Cert.Reference4Ideal.Gen.facts) := by
  intro m g m' g' _ hagree
  refine ⟨fun c => EF.whole m c, EF.run m g, ?_⟩
  refine (θ_run (Cert.Reference4Ideal.defs (F := Ideal)) _ _).mono (fun r h c => ⟨(h c).1.trans ?_, (h c).2⟩) (Cert.Reference4Ideal.Value.run m' g')
  obtain ⟨a0, a1, a2, a3, a4, a5, a6, a7, a8, a9⟩ := hagree c
  rw [EF.Ref.stages, a0, a1, a2, a3, a4, a5, a6, a7, a8, a9]
  exact EF.Ref.result _ _ _ _ _ _ _ _ _ _

/-- The scale of the queries is the one named. -/
theorem scale_kept : Cert.preserves_Kernel5_Kernel5Ideal :=
  IdealRules.named_const.statement Cert.Kernel5Ideal.κ "query_scale" .f32 0x3E0293EE#32 (((Real.sqrt 128 * Real.log 2)⁻¹ : ℝ) : EReal) rfl

theorem algebraic_project : Cert.algebraic_Kernel5Ideal_Reference5Ideal (hKernel5Ideal := Cert.Kernel5Ideal.Gen.facts)
    (hReference5Ideal := Cert.Reference5Ideal.Gen.facts) := by
  intro m g m' g' _ hagree
  refine ⟨fun c => PO.queries (PO.hArr m c) (PO.gArr m c) (PO.wArr m c), fun c => PO.keys (PO.hArr m c) (PO.gArr m c) (PO.wArr m c),
    fun c => PO.values (PO.hArr m c) (PO.gArr m c) (PO.wArr m c), PO.run m g, ?_⟩
  refine (θ_run (Cert.Reference5Ideal.defs (F := Ideal)) _ _).mono (fun r h c => ?_) (PO.Ref.run m' g')
  obtain ⟨a0, a1, a2⟩ := hagree c
  have e := h c
  rw [a0, a1, a2] at e
  rw [a0, a1, a2]
  exact e

end Cert.Proof

end
-- ==== Proof.PE.Math.lean ====
/-
  The projection of a row into everything an even layer mixes.
-/
module

public import proofs.«01_k».proof.Proof.FF.Math

@[expose] public section

noncomputable section

namespace Cert.Proof.PE

open Idealize.ShloMosaic Finset
open Cert.Proof.FF (rms times)

variable (h : (⟨2, ![32768, 1024]⟩ : Shape).Idx → EReal) (g : (⟨2, ![4, 1024]⟩ : Shape).Idx → EReal) (W : (⟨3, ![2, 1024, 3088]⟩ : Shape).Idx → EReal)

/-- Element `j` of row `r`, normalized with the first layer's gain and projected by the first weights. -/
def projected (r : Fin 32768) (j : Fin 3088) : EReal :=
  times (rms (fun k => h (ix2 r k)) (fun k => g (ix2 0 k))) (fun k j => W (ix3 0 k j)) j

/-- The `n` columns of the projection from column `o`. -/
def taken (n o : ℕ) (ho : o + n ≤ 3088) : (⟨2, ![32768, n]⟩ : Shape).Idx → EReal := fun y =>
  projected h g W (y 0) ⟨o + (y 1).val, by have : (y 1).val < n := (y 1).isLt; omega⟩

/-- One over 8 times the logarithm of 2. -/
def scale : EReal := (((8 * Real.log 2)⁻¹ : ℝ) : EReal)

/-- The queries of the softmax heads, scaled, -/
def queries : (⟨2, ![32768, 512]⟩ : Shape).Idx → EReal := fun y => taken h g W 512 0 (by omega) y * scale

/-- the queries of the linear heads, scaled, -/
def linQueries : (⟨2, ![32768, 256]⟩ : Shape).Idx → EReal := fun y => taken h g W 256 1536 (by omega) y * Ideal.ofBits .f32 0x3E000000#32

/-- the values of the softmax heads, transposed by blocks of 256 rows, each head's 128 followed by 16 ones, -/
def values : (⟨3, ![128, 576, 256]⟩ : Shape).Idx → EReal := fun y =>
  if hd : (y 1).val % 144 < 128 then
    projected h g W ⟨(y 0).val * 256 + (y 2).val, by have h0 : (y 0).val < 128 := (y 0).isLt; have h2 : (y 2).val < 256 := (y 2).isLt; omega⟩
      ⟨1024 + ((y 1).val / 144 * 128 + (y 1).val % 144), by have : (y 1).val < 576 := (y 1).isLt; omega⟩
  else 1

/-- The logarithm of the logistic function, over 16. -/
def decay (x : EReal) : EReal :=
  Ideal.div (-(max (-x) 0 + Ideal.log (1 + Ideal.exp (-(max (-x) (-(-x))))))) (Ideal.ofBits .f32 0x41800000#32)

/-- and the decays of the linear heads. -/
def decays (A : (⟨3, ![2, 16, 256]⟩ : Shape).Idx → EReal) (B : (⟨2, ![2, 256]⟩ : Shape).Idx → EReal) : (⟨2, ![32768, 256]⟩ : Shape).Idx → EReal := fun y =>
  decay (times (fun i : Fin 16 => projected h g W (y 0) ⟨3072 + i.val, by omega⟩) (fun i l => A (ix3 0 i l)) (y 1) + B (ix2 0 (y 1)))

end Cert.Proof.PE

end
-- ==== Proof.PE.Real.lean ====
/-
  The projection of finite rows is finite, and what the kernel adds for the low parts of finite numbers is nothing.
-/
module

public import proofs.«01_k».proof.Proof.PE.Math

@[expose] public section

noncomputable section

namespace Cert.Proof.PE

open Idealize.ShloMosaic Finset
open Cert.Proof.FF (rms times)

/-- An extended real that is neither infinity. -/
def Finite (x : EReal) : Prop := ∃ r : ℝ, x = (r : EReal)

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.add {x y : EReal} (hx : Finite x) (hy : Finite y) : Finite (x + y) := by
  obtain ⟨a, rfl⟩ := hx
  obtain ⟨b, rfl⟩ := hy
  exact ⟨a + b, (EReal.coe_add a b).symm⟩

theorem Finite.zero : Finite 0 := ⟨0, rfl⟩

theorem Finite.less {x : EReal} (hx : Finite x) : x - x = 0 := by
  obtain ⟨a, rfl⟩ := hx
  rw [← EReal.coe_sub, sub_self]
  rfl

theorem Finite.sum {n : ℕ} {f : Fin n → EReal} (hf : ∀ i, Finite (f i)) : Finite (∑ i, f i) :=
  Finset.sum_induction f Finite (fun _ _ => Finite.add) Finite.zero fun i _ => hf i

theorem Finite.times {n k : ℕ} {x : Fin n → EReal} {W : Fin n → Fin k → EReal} (hx : ∀ i, Finite (x i)) (j : Fin k) (hW : ∀ i, Finite (W i j)) :
    Finite (times x W j) := Finite.sum fun i => (hx i).mul (hW i)

theorem size : Ideal.ofBits .f32 0x44800000#32 = ((1024 : ℝ) : EReal) := by
  simp [Ideal.ofBits, Ideal.ieee]
  rw [← EReal.coe_mul]
  exact congrArg _ (by norm_num)

theorem small : ∃ e : ℝ, 0 < e ∧ Ideal.ofBits .f32 0x358637BD#32 = (e : EReal) := by
  refine ⟨8796093 * (2 ^ 43)⁻¹, by positivity, ?_⟩
  simp [Ideal.ofBits, Ideal.ieee]

theorem Finite.rms_of_finite {x g : Fin 1024 → EReal} (hx : ∀ i, Finite (x i)) (hg : ∀ i, Finite (g i)) (l : Fin 1024) : Finite (rms x g l) := by
  choose a ha using hx
  obtain rfl : x = fun i => (a i : EReal) := funext ha
  obtain ⟨e, he, hb⟩ := small
  have hs : (∑ k, (a k : EReal) * (a k : EReal)) = ((∑ k, a k * a k : ℝ) : EReal) := by
    refine Eq.trans (Finset.sum_congr rfl fun k _ => (EReal.coe_mul (a k) (a k)).symm) ?_
    exact (map_sum (⟨⟨fun r : ℝ => (r : EReal), rfl⟩, EReal.coe_add⟩ : ℝ →+ EReal) (fun k => a k * a k) Finset.univ).symm
  have hp : 0 < (∑ k, a k * a k) * (1 / 1024) + e := by
    have : 0 ≤ ∑ k, a k * a k := Finset.sum_nonneg fun k _ => mul_self_nonneg _
    positivity
  have hr : Finite (Ideal.rsqrt (Ideal.div (∑ k, (a k : EReal) * (a k : EReal)) (Ideal.ofBits .f32 0x44800000#32) + Ideal.ofBits .f32 0x358637BD#32)) := by
    rw [hs, size, hb, Ideal.div_coe (by norm_num), ← EReal.coe_mul, ← EReal.coe_add, Ideal.rsqrt_coe, if_neg (not_lt.2 hp.le), if_neg hp.ne']
    exact ⟨_, rfl⟩
  exact (Finite.mul ⟨a l, rfl⟩ hr).mul (hg l)

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- A row with an infinite element is normalized to zeros, so a normalized row is finite whatever the row. -/
theorem Finite.rms {x g : Fin 1024 → EReal} (hg : ∀ i, Finite (g i)) (l : Fin 1024) : Finite (rms x g l) := by
  by_cases hx : ∀ i, Finite (x i)
  · exact Finite.rms_of_finite hx hg l
  · obtain ⟨i, hi⟩ := not_forall.1 hx
    have hxi : x i * x i = ⊤ := by
      generalize x i = z at hi
      induction z with
      | bot => exact EReal.bot_mul_bot
      | top => exact EReal.top_mul_top
      | coe r => exact absurd ⟨r, rfl⟩ hi
    have hs : (∑ k, x k * x k) = ⊤ :=
      top_le_iff.1 (hxi ▸ Finset.single_le_sum (f := fun k => x k * x k) (fun k _ => square_nonneg (x k)) (Finset.mem_univ i))
    obtain ⟨e, _, hb⟩ := small
    have hr : Ideal.rsqrt (Ideal.div (∑ k, x k * x k) (Ideal.ofBits .f32 0x44800000#32) + Ideal.ofBits .f32 0x358637BD#32) = 0 := by
      rw [hs, size, hb, Ideal.div_coe (by norm_num), EReal.top_mul_coe_of_pos (by norm_num), EReal.top_add_coe]
      rfl
    refine ⟨0, ?_⟩
    show x l * _ * g l = _
    rw [hr, mul_zero, zero_mul]
    rfl

theorem Finite.projected {h : (⟨2, ![32768, 1024]⟩ : Shape).Idx → EReal} {g : (⟨2, ![4, 1024]⟩ : Shape).Idx → EReal} {W : (⟨3, ![2, 1024, 3088]⟩ : Shape).Idx → EReal}
    (hg : ∀ x, Finite (g x)) (hW : ∀ x, Finite (W x)) (r : Fin 32768) (j : Fin 3088) : Finite (projected h g W r j) :=
  Finite.times (fun i => Finite.rms (fun _ => hg _) i) j fun _ => hW _

/-- A product by high and low parts, of finite numbers. -/
theorem in_parts {n k : ℕ} {x : Fin n → EReal} {W : Fin n → Fin k → EReal} (hx : ∀ i, Finite (x i)) (j : Fin k) (hW : ∀ i, Finite (W i j)) :
    (∑ i, x i * W i j) + (∑ i, (x i - x i) * W i j) + (∑ i, x i * (W i j - W i j)) = times x W j := by
  have e1 : (∑ i, (x i - x i) * W i j) = 0 := Finset.sum_eq_zero fun i _ => by rw [(hx i).less, zero_mul]
  have e2 : (∑ i, x i * (W i j - W i j)) = 0 := Finset.sum_eq_zero fun i _ => by rw [(hW i).less, mul_zero]
  rw [e1, e2, add_zero, add_zero]
  rfl

/-- A product whose last factors are zero, as one of the first 16. -/
theorem times_first {k : ℕ} (x : Fin 128 → EReal) (W : Fin 128 → Fin k → EReal) (j : Fin k) (hz : ∀ i : Fin 128, 16 ≤ i.val → W i j = 0) :
    times x W j = times (fun i : Fin 16 => x ⟨i.val, by omega⟩) (fun i j => W ⟨i.val, by omega⟩ j) j := by
  unfold times
  refine (Fin.sum_univ_add (a := 16) (b := 112) (fun i : Fin (16 + 112) => x i * W i j)).trans ?_
  have e : (∑ i : Fin 112, x (Fin.natAdd 16 i) * W (Fin.natAdd 16 i) j) = 0 :=
    Finset.sum_eq_zero fun i _ => by rw [hz (Fin.natAdd 16 i) (by show 16 ≤ 16 + i.val; omega), mul_zero]
  exact (congrArg (_ + ·) e).trans (add_zero _)

end Cert.Proof.PE

end
-- ==== Proof.PE.Piece.lean ====
/-
  What the even layers' projection stores of a block of rows.
-/
module

public import proofs.«01_k».proof.Proof.Gen.Kernel6Ideal.Frame
public import proofs.«01_k».proof.Proof.FF.Piece
public import proofs.«01_k».proof.Proof.PE.Real

@[expose] public section

noncomputable section

namespace Cert.Proof.PE

open Cert.Kernel6Ideal Cert.Kernel6Ideal.Gen Idealize.ShloMosaic Finset
open Cert.Proof.FF (times rms)

variable (h : FVec Ideal S256x1024 .f32) (g : FVec Ideal S1x1x1024 .f32)

/-- 256 rows normalized, in four spellings. -/
def normed : FVec Ideal S256x1024 .bf16 := k0_pay4 h g
theorem normed1 : k0_pay5 h g = normed h g := rfl
theorem normed2 : k0_pay6 h g = normed h g := rfl
theorem normed3 : k0_pay7 h g = normed h g := rfl

variable (x : FVec Ideal S256x1024 .bf16) (V : FVec Ideal S1024x512 .bf16) (U : FVec Ideal S1024x256 .bf16)

/-- Their products with 512 columns, scaled -/
def qPart : FVec Ideal S256x512 .bf16 := k0_pay8 x V
theorem qPart1 : k0_pay16 x V = qPart x V := rfl
theorem qPart2 : k0_pay25 x V = qPart x V := rfl
theorem qPart3 : k0_pay37 x V = qPart x V := rfl

/-- and not, -/
def kPart : FVec Ideal S256x512 .bf16 := k0_pay9 x V
theorem kPart1 : k0_pay17 x V = kPart x V := rfl
theorem kPart2 : k0_pay26 x V = kPart x V := rfl
theorem kPart3 : k0_pay39 x (k0_pay38 V) = kPart x V := rfl
theorem gvPart0 : k0_pay13 x V = kPart x V := rfl
theorem gvPart1 : k0_pay21 x V = kPart x V := rfl
theorem gvPart2 : k0_pay31 x V = kPart x V := rfl
theorem gvPart3 : k0_pay43 x V = kPart x V := rfl
theorem ggPart0 : k0_pay14 x V = kPart x V := rfl
theorem ggPart1 : k0_pay22 x V = kPart x V := rfl
theorem ggPart2 : k0_pay32 x V = kPart x V := rfl
theorem ggPart3 : k0_pay44 x V = kPart x V := rfl

/-- with 256 columns, scaled -/
def gqPart : FVec Ideal S256x256 .f32 := k0_pay11 x U
theorem gqPart1 : k0_pay19 x U = gqPart x U := rfl
theorem gqPart2 : k0_pay29 x U = gqPart x U := rfl
theorem gqPart3 : k0_pay41 x U = gqPart x U := rfl

/-- and not, -/
def gkPart : FVec Ideal S256x256 .f32 := k0_pay12 x U
theorem gkPart1 : k0_pay20 x U = gkPart x U := rfl
theorem gkPart2 : k0_pay30 x U = gkPart x U := rfl
theorem gkPart3 : k0_pay42 x U = gkPart x U := rfl

/-- the values transposed, with the rows of ones, -/
def vPart (T : FVec Ideal S576x1024 .bf16) (o : FVec Ideal S576x1 .f32) : FVec Ideal S1x576x256 .bf16 := k0_pay10 x T o
theorem vPart1 (T : FVec Ideal S576x1024 .bf16) (o : FVec Ideal S576x1 .f32) : k0_pay18 x T o = vPart x T o := rfl
theorem vPart2 (T : FVec Ideal S576x1024 .bf16) (o : FVec Ideal S576x1 .f32) : k0_pay28 (k0_pay27 x T o) = vPart x T o := rfl
theorem vPart3 (T : FVec Ideal S576x1024 .bf16) (o : FVec Ideal S576x1 .f32) : k0_pay40 x T o = vPart x T o := rfl

/-- and the decays. -/
def laPart (P : FVec Ideal S1024x128 .bf16) (Q : FVec Ideal S128x256 .f32) (b : FVec Ideal S1x256 .f32) : FVec Ideal S256x256 .f32 :=
  k0_pay15 (k0_pay2 Q) (k0_pay3 Q) x P b
theorem laPart1 (P : FVec Ideal S1024x128 .bf16) (Q : FVec Ideal S128x256 .f32) (b : FVec Ideal S1x256 .f32) :
    k0_pay24 (k0_pay23 (k0_pay2 Q) (k0_pay3 Q) x P b) = laPart x P Q b := rfl
theorem laPart2 (P : FVec Ideal S1024x128 .bf16) (Q : FVec Ideal S128x256 .f32) (b : FVec Ideal S1x256 .f32) :
    k0_pay36 (k0_pay2 Q) (k0_pay3 Q) (k0_pay33 x P) (k0_pay34 x P) (k0_pay35 x P) b = laPart x P Q b := rfl
theorem laPart3 (P : FVec Ideal S1024x128 .bf16) (Q : FVec Ideal S128x256 .f32) (b : FVec Ideal S1x256 .f32) :
    k0_pay45 (k0_pay2 Q) (k0_pay3 Q) x P b = laPart x P Q b := rfl

theorem normed_apply (r : Fin 256) (l : Fin 1024) : normed h g (ix2 r l) = rms (fun k => h (ix2 r k)) (fun k => g (ix3 0 0 k)) l :=
  FF.norm_apply h g r l

theorem scale_named : Named.named (F := Ideal) (φ := .f32) κ "diff_scale" 0x3E38AA3B#32 = scale :=
  IdealRules.named_const.ideal_named_scalar _ _ _ _ rfl

theorem qPart_apply (r : Fin 256) (l : Fin 512) :
    qPart x V (ix2 r l) = times (fun k => x (ix2 r k)) (fun k l => V (ix2 k l)) l * scale := by
  pointwise [qPart, k0_pay8]
  rw [scale_named]
  rfl

theorem kPart_apply (r : Fin 256) (l : Fin 512) :
    kPart x V (ix2 r l) = times (fun k => x (ix2 r k)) (fun k l => V (ix2 k l)) l := by
  pointwise [kPart, k0_pay9]
  rfl

theorem gqPart_apply (r : Fin 256) (l : Fin 256) :
    gqPart x U (ix2 r l) = times (fun k => x (ix2 r k)) (fun k l => U (ix2 k l)) l * Ideal.ofBits .f32 0x3E000000#32 := by
  pointwise [gqPart, k0_pay11]
  rfl

theorem gkPart_apply (r : Fin 256) (l : Fin 256) :
    gkPart x U (ix2 r l) = times (fun k => x (ix2 r k)) (fun k l => U (ix2 k l)) l := by
  pointwise [gkPart, k0_pay12]
  rfl

theorem vPart_apply (T : FVec Ideal S576x1024 .bf16) (o : FVec Ideal S576x1 .f32) (n : Fin 576) (r : Fin 256) :
    vPart x T o (ix3 0 n r) = times (fun k => x (ix2 r k)) (fun k n => T (ix2 n k)) n + o (ix2 n 0) := by
  pointwise [vPart, k0_pay10]
  exact congrArg (· + o (ix2 n 0)) (Finset.sum_congr rfl fun k _ => mul_comm _ _)

/-- The decays' arithmetic, in the kernel's spelling. -/
theorem decay_spelt (z : EReal) : (-(max (-z) 0 + Ideal.log (1 + Ideal.exp (-(max (-z) (-(-z))))))) * Ideal.ofBits .f32 0x3D800000#32 = decay z := by
  have h : Ideal.ofBits .f32 0x41800000#32 = ((16 : ℝ) : EReal) := by
    simp [Ideal.ofBits, Ideal.ieee]
    rw [← EReal.coe_mul]
    exact congrArg _ (by norm_num)
  have h' : Ideal.ofBits .f32 0x3D800000#32 = ((1 / 16 : ℝ) : EReal) := by
    simp [Ideal.ofBits, Ideal.ieee]
    rw [← EReal.coe_mul]
    exact congrArg _ (by norm_num)
  rw [decay, h, h', Ideal.div_coe (by norm_num)]

theorem laPart_apply (P : FVec Ideal S1024x128 .bf16) (Q : FVec Ideal S128x256 .f32) (b : FVec Ideal S1x256 .f32) (r l : Fin 256)
    (hx : ∀ i, Finite (times (fun k => x (ix2 r k)) (fun k i => P (ix2 k i)) i)) (hQ : ∀ i, Finite (Q (ix2 i l))) :
    laPart x P Q b (ix2 r l)
      = decay (times (times (fun k => x (ix2 r k)) (fun k i => P (ix2 k i))) (fun i l => Q (ix2 i l)) l + b (ix2 0 l)) := by
  rw [← in_parts hx l hQ, ← decay_spelt]
  pointwise [laPart, k0_pay15, k0_pay1, k0_pay2, k0_pay3]
  simp only [zero_sub]
  rfl

end Cert.Proof.PE

end
-- ==== Proof.PE.Blocks.lean ====
/-
  What the blocks of the even layers' projection hold at each point of the grid.
-/
module

public import proofs.«01_k».proof.Proof.Gen.Kernel6Ideal.Value
public import proofs.«01_k».proof.Proof.PE.Piece
public import proofs.«01_k».proof.Proof.MF.Value
public import Idealize.ShloMosaic.Lib.Pipeline.ValueKit
public import Idealize.ShloMosaic.Lib.Claim

@[expose] public section

set_option maxRecDepth 16384

noncomputable section

namespace Cert.Proof.PE

open Cert.Kernel6Ideal Cert.Kernel6Ideal.Gen Idealize.ShloMosaic Idealize.ShloMosaic.TcCoe Finset
open Idealize.ShloMosaic.Tactic Idealize.SL.Sem
open Cert.Proof.FF (times rms)
open Cert.Proof.MF (ld_rows ld_gain)

variable (m : (l : Loc nD τ sig) → Buf (Elt Ideal) l)

/-- The argument arrays. -/
abbrev hArr (c : Dev nD) : S32768x1024.Idx → EReal := m ((c : Thread nD τ).loc main_arg0)
abbrev gArr (c : Dev nD) : S4x1024.Idx → EReal := m ((c : Thread nD τ).loc main_arg1)
abbrev wArr (c : Dev nD) : S2x1024x3088.Idx → EReal := m ((c : Thread nD τ).loc main_arg2)
abbrev aArr (c : Dev nD) : S2x16x256.Idx → EReal := m ((c : Thread nD τ).loc main_arg3)
abbrev bArr (c : Dev nD) : S2x256.Idx → EReal := m ((c : Thread nD τ).loc main_arg4)

theorem index0 : ∀ t : Fin grid0.N, win0_0.index t (0 : Fin 2) = t.val ∧ win0_0.index t (1 : Fin 2) = 0 := by decide +kernel
theorem index1 : ∀ t : Fin grid0.N, win0_1.index t (0 : Fin 3) = 0 ∧ win0_1.index t (1 : Fin 3) = 0 ∧ win0_1.index t (2 : Fin 3) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 0 ∧ win0_3.index t (1 : Fin 2) = 0 := by decide +kernel
theorem index4 : ∀ t : Fin grid0.N, win0_4.index t (0 : Fin 2) = 0 ∧ win0_4.index t (1 : Fin 2) = 0 := by decide +kernel
theorem index5 : ∀ t : Fin grid0.N, win0_5.index t (0 : Fin 2) = 0 ∧ win0_5.index t (1 : Fin 2) = 0 := by decide +kernel
theorem index6 : ∀ t : Fin grid0.N, win0_6.index t (0 : Fin 2) = 0 ∧ win0_6.index t (1 : Fin 2) = 0 := by decide +kernel
theorem index7 : ∀ t : Fin grid0.N, win0_7.index t (0 : Fin 2) = 0 ∧ win0_7.index t (1 : Fin 2) = 0 := by decide +kernel

theorem points (t : Fin grid0.N) : t.val < 32 := t.isLt

theorem rows_at (c : Dev nD) (t : Fin grid0.N) (r l : Fin 1024) :
    iblk (F := Ideal) m c 0 t (ix2 r l) = hArr m c (ix2 ⟨1024 * t.val + r.val, by have := points t; omega⟩ l) := by
  obtain ⟨e0, e1⟩ := index0 t
  blk_simp [iblk]
  entry_read
  refine congrArg (hArr m c) (funext fun a => Fin.ext ?_)
  fin_cases a
  · show win0_0.index t (0 : Fin 2) * 1024 + 1 * r.val = 1024 * t.val + r.val; omega
  · show win0_0.index t (1 : Fin 2) * 1024 + 1 * l.val = l.val; omega

theorem gain_at (c : Dev nD) (t : Fin grid0.N) (l : Fin 1024) : iblk (F := Ideal) m c 1 t (ix3 0 0 l) = gArr m c (ix2 0 l) := by
  obtain ⟨e0, e1, e2⟩ := index1 t
  blk_simp [iblk]
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  entry_read
  have e : ((View.whole main_v0).slice (win0_1.rect t)).emb (ix3 0 0 l) = (ix3 (0 : Fin 4) (0 : Fin 1) l : S4x1x1024.Idx) := by
    refine funext fun a => Fin.ext ?_
    fin_cases a
    · show win0_1.index t (0 : Fin 3) * 1 + 1 * 0 = 0; omega
    · show win0_1.index t (1 : Fin 3) * 1 + 1 * 0 = 0; omega
    · show win0_1.index t (2 : Fin 3) * 1024 + 1 * l.val = l.val; omega
  rw [e]
  pointwise

theorem place2 (t : Fin grid0.N) (k : Fin 1024) (j : Fin 2560) : ((View.whole main_v23).slice (win0_2.rect t)).emb (ix2 k j) = (ix2 k j : S1024x2560.Idx) := by
  obtain ⟨e0, e1⟩ := index2 t
  refine funext fun a => Fin.ext ?_
  fin_cases a
  · show win0_2.index t (0 : Fin 2) * 1024 + 1 * k.val = k.val; omega
  · show win0_2.index t (1 : Fin 2) * 2560 + 1 * j.val = j.val; omega

/-- The columns, side by side. -/
def columns (W : FVec Ideal S2x1024x3088 .f32) : FVec Ideal S1024x3088 .f32 :=
  shapeCast _ (extractStridedSlice S1x1024x3088 ![0, 0, 0] W slices_S2x1024x3088_S1x1024x3088_0_0_0) shapeCasts_S1x1024x3088_S1024x3088
def together (W : FVec Ideal S2x1024x3088 .f32) : FVec Ideal S1024x2560 .bf16 :=
  truncf .bf16 (concatenate S1024x2560 1 [⟨S1024x512, extractStridedSlice S1024x512 ![0, 0] (columns W) slices_S1024x3088_S1024x512_0_0⟩,
    ⟨S1024x512, extractStridedSlice S1024x512 ![0, 512] (columns W) slices_S1024x3088_S1024x512_0_512⟩,
    ⟨S1024x256, extractStridedSlice S1024x256 ![0, 1536] (columns W) slices_S1024x3088_S1024x256_0_1536⟩,
    ⟨S1024x256, extractStridedSlice S1024x256 ![0, 1792] (columns W) slices_S1024x3088_S1024x256_0_1792⟩,
    ⟨S1024x512, extractStridedSlice S1024x512 ![0, 2048] (columns W) slices_S1024x3088_S1024x512_0_2048⟩,
    ⟨S1024x512, extractStridedSlice S1024x512 ![0, 2560] (columns W) slices_S1024x3088_S1024x512_0_2560⟩]
    concatenates_S1024x512_S1024x512_S1024x256_S1024x256_S1024x512_S1024x512_S1024x2560_d1) bitsLt_bf16_f32

/-- The buffers once the first operations of the host have run. -/
abbrev early (c : Dev nD) : Valuation τ sig (Elt Ideal) :=
  StableHlo.after (hostOps0 ++ (hostOps0_1 ++ (hostOps0_2 ++ hostOps0_3))) fun b => m (c, b)

theorem sides (σ : Valuation τ sig (Elt Ideal)) : StableHlo.after (hostOps0_4 (F := Ideal)) σ (Proc.devRef .tc main_v23)
    = (truncf .bf16 (concatenate S1024x2560 1 [⟨S1024x512, (σ (Proc.devRef .tc main_v7) : FVec Ideal S1024x512 .f32)⟩, ⟨S1024x512, (σ (Proc.devRef .tc main_v8) : FVec Ideal S1024x512 .f32)⟩,
      ⟨S1024x256, (σ (Proc.devRef .tc main_v10) : FVec Ideal S1024x256 .f32)⟩, ⟨S1024x256, (σ (Proc.devRef .tc main_v11) : FVec Ideal S1024x256 .f32)⟩,
      ⟨S1024x512, (σ (Proc.devRef .tc main_v12) : FVec Ideal S1024x512 .f32)⟩, ⟨S1024x512, (σ (Proc.devRef .tc main_v13) : FVec Ideal S1024x512 .f32)⟩]
      concatenates_S1024x512_S1024x512_S1024x256_S1024x256_S1024x512_S1024x512_S1024x2560_d1) bitsLt_bf16_f32 : FVec Ideal S1024x2560 .bf16) := by
  rfl

theorem main_late (c : Dev nD) : V (F := Ideal) m c main_v23 = StableHlo.after (hostOps0_4 (F := Ideal)) (early m c) (Proc.devRef .tc main_v23) := by
  refine Eq.trans (b := StableHlo.after (hostOps0_5 ++ (hostOps0_6 ++ (hostOps0_7 ++ hostOps0_8))) (StableHlo.after (hostOps0_4 (F := Ideal)) (early m c)) (Proc.devRef .tc main_v23)) rfl ?_
  refine StableHlo.after_of_forall_not_mem (b := Proc.devRef .tc main_v23) _ _ (List.forall_iff_forall_mem.mp ?_)
  simp only [hostOps0_5, hostOps0_6, hostOps0_7, hostOps0_8, List.cons_append, List.nil_append, List.Forall, StableHlo.nullary_writes, StableHlo.unary_writes,
    StableHlo.binary_writes, StableHlo.reshape_writes, Finset.mem_singleton]
  repeat' apply And.intro
  all_goals exact StableHlo.devRef_ne_of_ne (by decide)

theorem early0 (c : Dev nD) : early m c (Proc.devRef .tc main_v7)
    = extractStridedSlice S1024x512 ![0, 0] (columns (wArr m c)) slices_S1024x3088_S1024x512_0_0 := by
  unfold early
  simp only [hostOps0, hostOps0_1, hostOps0_2, hostOps0_3, List.cons_append, List.nil_append, StableHlo.TRef.binary, StableHlo.TRef.unary,
    StableHlo.TRef.toBuf, StableHlo.TRef.ofBuf, cast_eq]
  entry_read
  rfl

theorem early1 (c : Dev nD) : early m c (Proc.devRef .tc main_v8)
    = extractStridedSlice S1024x512 ![0, 512] (columns (wArr m c)) slices_S1024x3088_S1024x512_0_512 := by
  unfold early
  simp only [hostOps0, hostOps0_1, hostOps0_2, hostOps0_3, List.cons_append, List.nil_append, StableHlo.TRef.binary, StableHlo.TRef.unary,
    StableHlo.TRef.toBuf, StableHlo.TRef.ofBuf, cast_eq]
  entry_read
  rfl

theorem early2 (c : Dev nD) : early m c (Proc.devRef .tc main_v10)
    = extractStridedSlice S1024x256 ![0, 1536] (columns (wArr m c)) slices_S1024x3088_S1024x256_0_1536 := by
  unfold early
  simp only [hostOps0, hostOps0_1, hostOps0_2, hostOps0_3, List.cons_append, List.nil_append, StableHlo.TRef.binary, StableHlo.TRef.unary,
    StableHlo.TRef.toBuf, StableHlo.TRef.ofBuf, cast_eq]
  entry_read
  rfl

theorem early3 (c : Dev nD) : early m c (Proc.devRef .tc main_v11)
    = extractStridedSlice S1024x256 ![0, 1792] (columns (wArr m c)) slices_S1024x3088_S1024x256_0_1792 := by
  unfold early
  simp only [hostOps0, hostOps0_1, hostOps0_2, hostOps0_3, List.cons_append, List.nil_append, StableHlo.TRef.binary, StableHlo.TRef.unary,
    StableHlo.TRef.toBuf, StableHlo.TRef.ofBuf, cast_eq]
  entry_read
  rfl

theorem early4 (c : Dev nD) : early m c (Proc.devRef .tc main_v12)
    = extractStridedSlice S1024x512 ![0, 2048] (columns (wArr m c)) slices_S1024x3088_S1024x512_0_2048 := by
  unfold early
  simp only [hostOps0, hostOps0_1, hostOps0_2, hostOps0_3, List.cons_append, List.nil_append, StableHlo.TRef.binary, StableHlo.TRef.unary,
    StableHlo.TRef.toBuf, StableHlo.TRef.ofBuf, cast_eq]
  entry_read
  rfl

theorem early5 (c : Dev nD) : early m c (Proc.devRef .tc main_v13)
    = extractStridedSlice S1024x512 ![0, 2560] (columns (wArr m c)) slices_S1024x3088_S1024x512_0_2560 := by
  unfold early
  simp only [hostOps0, hostOps0_1, hostOps0_2, hostOps0_3, List.cons_append, List.nil_append, StableHlo.TRef.binary, StableHlo.TRef.unary,
    StableHlo.TRef.toBuf, StableHlo.TRef.ofBuf, cast_eq]
  entry_read
  rfl

theorem main_entry (c : Dev nD) : V (F := Ideal) m c main_v23 = together (wArr m c) := by
  rw [main_late, sides, early0, early1, early2, early3, early4, early5]
  rfl

theorem together0 (W : FVec Ideal S2x1024x3088 .f32) (k : Fin 1024) (l : Fin 512) :
    together W (ix2 k ⟨l.val, by omega⟩) = W (ix3 0 k ⟨l.val, by omega⟩) := by
  pointwise [together, columns]

theorem main0_at (c : Dev nD) (t : Fin grid0.N) (k : Fin 1024) (l : Fin 512) :
    iblk (F := Ideal) m c 2 t (ix2 k ⟨l.val, by omega⟩) = wArr m c (ix3 0 k ⟨l.val, by omega⟩) := by
  blk_simp [iblk]
  exact ((congrFun (main_entry m c) _).trans (congrArg (together (wArr m c)) (place2 t k _))).trans (together0 (wArr m c) k l)

theorem together1 (W : FVec Ideal S2x1024x3088 .f32) (k : Fin 1024) (l : Fin 512) :
    together W (ix2 k ⟨512 + l.val, by omega⟩) = W (ix3 0 k ⟨512 + l.val, by omega⟩) := by
  pointwise [together, columns]

theorem main1_at (c : Dev nD) (t : Fin grid0.N) (k : Fin 1024) (l : Fin 512) :
    iblk (F := Ideal) m c 2 t (ix2 k ⟨512 + l.val, by omega⟩) = wArr m c (ix3 0 k ⟨512 + l.val, by omega⟩) := by
  blk_simp [iblk]
  exact ((congrFun (main_entry m c) _).trans (congrArg (together (wArr m c)) (place2 t k _))).trans (together1 (wArr m c) k l)

theorem together2 (W : FVec Ideal S2x1024x3088 .f32) (k : Fin 1024) (l : Fin 256) :
    together W (ix2 k ⟨1024 + l.val, by omega⟩) = W (ix3 0 k ⟨1536 + l.val, by omega⟩) := by
  pointwise [together, columns]
  rw [dif_neg (by omega), dif_neg (by omega), dif_pos (by omega)]
  exact congrArg (fun n => W (ix3 0 k n)) (Fin.ext (by dsimp only; omega))

theorem main2_at (c : Dev nD) (t : Fin grid0.N) (k : Fin 1024) (l : Fin 256) :
    iblk (F := Ideal) m c 2 t (ix2 k ⟨1024 + l.val, by omega⟩) = wArr m c (ix3 0 k ⟨1536 + l.val, by omega⟩) := by
  blk_simp [iblk]
  exact ((congrFun (main_entry m c) _).trans (congrArg (together (wArr m c)) (place2 t k _))).trans (together2 (wArr m c) k l)

theorem together3 (W : FVec Ideal S2x1024x3088 .f32) (k : Fin 1024) (l : Fin 256) :
    together W (ix2 k ⟨1280 + l.val, by omega⟩) = W (ix3 0 k ⟨1792 + l.val, by omega⟩) := by
  pointwise [together, columns]
  rw [dif_neg (by omega), dif_neg (by omega), dif_neg (by omega), dif_pos (by omega)]
  exact congrArg (fun n => W (ix3 0 k n)) (Fin.ext (by dsimp only; omega))

theorem main3_at (c : Dev nD) (t : Fin grid0.N) (k : Fin 1024) (l : Fin 256) :
    iblk (F := Ideal) m c 2 t (ix2 k ⟨1280 + l.val, by omega⟩) = wArr m c (ix3 0 k ⟨1792 + l.val, by omega⟩) := by
  blk_simp [iblk]
  exact ((congrFun (main_entry m c) _).trans (congrArg (together (wArr m c)) (place2 t k _))).trans (together3 (wArr m c) k l)

theorem together4 (W : FVec Ideal S2x1024x3088 .f32) (k : Fin 1024) (l : Fin 512) :
    together W (ix2 k ⟨1536 + l.val, by omega⟩) = W (ix3 0 k ⟨2048 + l.val, by omega⟩) := by
  pointwise [together, columns]
  rw [dif_neg (by omega), dif_neg (by omega), dif_neg (by omega), dif_neg (by omega), dif_pos (by omega)]
  exact congrArg (fun n => W (ix3 0 k n)) (Fin.ext (by dsimp only; omega))

theorem main4_at (c : Dev nD) (t : Fin grid0.N) (k : Fin 1024) (l : Fin 512) :
    iblk (F := Ideal) m c 2 t (ix2 k ⟨1536 + l.val, by omega⟩) = wArr m c (ix3 0 k ⟨2048 + l.val, by omega⟩) := by
  blk_simp [iblk]
  exact ((congrFun (main_entry m c) _).trans (congrArg (together (wArr m c)) (place2 t k _))).trans (together4 (wArr m c) k l)

theorem together5 (W : FVec Ideal S2x1024x3088 .f32) (k : Fin 1024) (l : Fin 512) :
    together W (ix2 k ⟨2048 + l.val, by omega⟩) = W (ix3 0 k ⟨2560 + l.val, by omega⟩) := by
  pointwise [together, columns]
  rw [dif_neg (by omega), dif_neg (by omega), dif_neg (by omega), dif_neg (by omega), dif_neg (by omega)]
  exact congrArg (fun n => W (ix3 0 k n)) (Fin.ext (by dsimp only; omega))

theorem main5_at (c : Dev nD) (t : Fin grid0.N) (k : Fin 1024) (l : Fin 512) :
    iblk (F := Ideal) m c 2 t (ix2 k ⟨2048 + l.val, by omega⟩) = wArr m c (ix3 0 k ⟨2560 + l.val, by omega⟩) := by
  blk_simp [iblk]
  exact ((congrFun (main_entry m c) _).trans (congrArg (together (wArr m c)) (place2 t k _))).trans (together5 (wArr m c) k l)

theorem zero_int : (FloatOps.sitofp (F := Ideal) FTy.f32 0#32 : EReal) = 0 := by
  show (((0#32 : BitVec 32).toInt : ℝ) : EReal) = 0
  simp

theorem vals_at (c : Dev nD) (t : Fin grid0.N) (n : Fin 576) (k : Fin 1024) :
    iblk (F := Ideal) m c 3 t (ix2 n k) = if hd : n.val % 144 < 128 then wArr m c (ix3 0 k ⟨1024 + (n.val / 144 * 128 + n.val % 144), by omega⟩) else 0 := by
  obtain ⟨e0, e1⟩ := index3 t
  blk_simp [iblk]
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  entry_read
  have e : ((View.whole main_v18).slice (win0_3.rect t)).emb (ix2 n k) = (ix2 n k : S576x1024.Idx) := by
    refine funext fun a => Fin.ext ?_
    fin_cases a
    · show win0_3.index t (0 : Fin 2) * 576 + 1 * n.val = n.val; omega
    · show win0_3.index t (1 : Fin 2) * 1024 + 1 * k.val = k.val; omega
  rw [e]
  pointwise
  refine dite_congr (eq_iff_iff.2 ⟨fun h => h.2, fun h => ⟨by omega, h⟩⟩) (fun _ => rfl) fun _ => zero_int

theorem ones_at (c : Dev nD) (t : Fin grid0.N) (n : Fin 576) :
    iblk (F := Ideal) m c 4 t (ix2 n 0) = if n.val % 144 < 128 then (0 : EReal) else (1 : EReal) := by
  obtain ⟨e0, e1⟩ := index4 t
  blk_simp [iblk]
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  entry_read
  have e : ((View.whole main_v21).slice (win0_4.rect t)).emb (ix2 n 0) = (ix2 n 0 : S576x1.Idx) := by
    refine funext fun a => Fin.ext ?_
    fin_cases a
    · show win0_4.index t (0 : Fin 2) * 576 + 1 * n.val = n.val; omega
    · show win0_4.index t (1 : Fin 2) * 1 + 1 * 0 = 0; omega
  rw [e]
  pointwise
  by_cases hd : n.val % 144 < 128
  · rw [if_pos hd, dif_pos ⟨by omega, hd⟩]
  · rw [if_neg hd, dif_neg fun h => hd h.2]

theorem low_at (c : Dev nD) (t : Fin grid0.N) (k : Fin 1024) (i : Fin 128) :
    iblk (F := Ideal) m c 5 t (ix2 k i) = if hi : i.val < 16 then wArr m c (ix3 0 k ⟨3072 + i.val, by omega⟩) else 0 := by
  obtain ⟨e0, e1⟩ := index5 t
  blk_simp [iblk]
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  entry_read
  have e : ((View.whole main_v26).slice (win0_5.rect t)).emb (ix2 k i) = (ix2 k i : S1024x128.Idx) := by
    refine funext fun a => Fin.ext ?_
    fin_cases a
    · show win0_5.index t (0 : Fin 2) * 1024 + 1 * k.val = k.val; omega
    · show win0_5.index t (1 : Fin 2) * 128 + 1 * i.val = i.val; omega
  rw [e]
  pointwise
  rw [zero_int]

theorem up_at (c : Dev nD) (t : Fin grid0.N) (i : Fin 128) (l : Fin 256) :
    iblk (F := Ideal) m c 6 t (ix2 i l) = if hi : i.val < 16 then aArr m c (ix3 0 ⟨i.val, hi⟩ l) else 0 := by
  obtain ⟨e0, e1⟩ := index6 t
  blk_simp [iblk]
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  entry_read
  have e : ((View.whole main_v27).slice (win0_6.rect t)).emb (ix2 i l) = (ix2 i l : S128x256.Idx) := by
    refine funext fun a => Fin.ext ?_
    fin_cases a
    · show win0_6.index t (0 : Fin 2) * 128 + 1 * i.val = i.val; omega
    · show win0_6.index t (1 : Fin 2) * 256 + 1 * l.val = l.val; omega
  rw [e]
  pointwise
  rw [zero_int]

theorem bias_at (c : Dev nD) (t : Fin grid0.N) (l : Fin 256) : iblk (F := Ideal) m c 7 t (ix2 0 l) = bArr m c (ix2 0 l) := by
  obtain ⟨e0, e1⟩ := index7 t
  blk_simp [iblk]
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  entry_read
  have e : ((View.whole main_v28).slice (win0_7.rect t)).emb (ix2 0 l) = (ix2 0 l : S1x256.Idx) := by
    refine funext fun a => Fin.ext ?_
    fin_cases a
    · show win0_7.index t (0 : Fin 2) * 1 + 1 * 0 = 0; omega
    · show win0_7.index t (1 : Fin 2) * 256 + 1 * l.val = l.val; omega
  rw [e]
  pointwise

end Cert.Proof.PE

end
-- ==== Proof.PE.Value.lean ====
/-
  The results of the even layers' projection, for every row.
-/
module

public import proofs.«01_k».proof.Proof.PE.Blocks
public import proofs.«01_k».proof.Proof.PE.Real

@[expose] public section

set_option maxRecDepth 16384

noncomputable section

namespace Cert.Proof.PE

open Cert.Kernel6Ideal Cert.Kernel6Ideal.Gen Idealize.ShloMosaic Idealize.ShloMosaic.TcCoe Finset
open Idealize.ShloMosaic.Tactic Idealize.SL.Sem
open Cert.Proof.FF (times rms)
open Cert.Proof.MF (ld_rows ld_gain)

variable (m : (l : Loc nD τ sig) → Buf (Elt Ideal) l)

theorem index8 : ∀ t : Fin grid0.N, win0_8.index t (0 : Fin 2) = t.val ∧ win0_8.index t (1 : Fin 2) = 0 := by decide +kernel
theorem index9 : ∀ t : Fin grid0.N, win0_9.index t (0 : Fin 2) = t.val ∧ win0_9.index t (1 : Fin 2) = 0 := by decide +kernel
theorem index10 : ∀ t : Fin grid0.N, win0_10.index t (0 : Fin 3) = t.val ∧ win0_10.index t (1 : Fin 3) = 0 ∧ win0_10.index t (2 : Fin 3) = 0 := by decide +kernel
theorem index11 : ∀ t : Fin grid0.N, win0_11.index t (0 : Fin 2) = t.val ∧ win0_11.index t (1 : Fin 2) = 0 := by decide +kernel
theorem index12 : ∀ t : Fin grid0.N, win0_12.index t (0 : Fin 2) = t.val ∧ win0_12.index t (1 : Fin 2) = 0 := by decide +kernel
theorem index13 : ∀ t : Fin grid0.N, win0_13.index t (0 : Fin 2) = t.val ∧ win0_13.index t (1 : Fin 2) = 0 := by decide +kernel
theorem index14 : ∀ t : Fin grid0.N, win0_14.index t (0 : Fin 2) = t.val ∧ win0_14.index t (1 : Fin 2) = 0 := by decide +kernel
theorem index15 : ∀ t : Fin grid0.N, win0_15.index t (0 : Fin 2) = t.val ∧ win0_15.index t (1 : Fin 2) = 0 := by decide +kernel

theorem ld_wide (X : Vec Ideal S1024x2560 .bf16) (o : ℕ) (inb) (k : Fin 1024) (l : Fin 512) (j : Fin 2560) (hj : j.val = o + l.val) :
    View.ld X (Rect.unit (s := S1024x2560) ![0, o] S1024x512.size inb) (ix2 k l) = X (ix2 k j) := by
  refine congrArg X (funext fun a => Fin.ext ?_)
  fin_cases a
  · show 0 + 1 * k.val = k.val; omega
  · show o + 1 * l.val = j.val; omega

theorem ld_narrow (X : Vec Ideal S1024x2560 .bf16) (o : ℕ) (inb) (k : Fin 1024) (l : Fin 256) (j : Fin 2560) (hj : j.val = o + l.val) :
    View.ld X (Rect.unit (s := S1024x2560) ![0, o] S1024x256.size inb) (ix2 k l) = X (ix2 k j) := by
  refine congrArg X (funext fun a => Fin.ext ?_)
  fin_cases a
  · show 0 + 1 * k.val = k.val; omega
  · show o + 1 * l.val = j.val; omega

theorem ld_vals (X : Vec Ideal S576x1024 .bf16) (k : Fin 576) (l : Fin 1024) : View.ld X r0_9 (ix2 k l) = X (ix2 k l) := by
  refine congrArg X (funext fun a => Fin.ext ?_)
  fin_cases a
  · show 0 + 1 * k.val = k.val; omega
  · show 0 + 1 * l.val = l.val; omega

theorem ld_low (X : Vec Ideal S1024x128 .bf16) (k : Fin 1024) (l : Fin 128) : View.ld X r0_17 (ix2 k l) = X (ix2 k l) := by
  refine congrArg X (funext fun a => Fin.ext ?_)
  fin_cases a
  · show 0 + 1 * k.val = k.val; omega
  · show 0 + 1 * l.val = l.val; omega

theorem ld_up (X : Vec Ideal S128x256 .f32) (k : Fin 128) (l : Fin 256) : View.ld X r0_0 (ix2 k l) = X (ix2 k l) := by
  refine congrArg X (funext fun a => Fin.ext ?_)
  fin_cases a
  · show 0 + 1 * k.val = k.val; omega
  · show 0 + 1 * l.val = l.val; omega

theorem ld_ones (X : Vec Ideal S576x1 .f32) (k : Fin 576) : View.ld X r0_10 (ix2 k 0) = X (ix2 k 0) := by
  refine congrArg X (funext fun a => Fin.ext ?_)
  fin_cases a
  · show 0 + 1 * k.val = k.val; omega
  · rfl

theorem ld_bias (X : Vec Ideal S1x256 .f32) (l : Fin 256) : View.ld X r0_18 (ix2 0 l) = X (ix2 0 l) := by
  refine congrArg X (funext fun a => Fin.ext ?_)
  fin_cases a
  · rfl
  · show 0 + 1 * l.val = l.val; omega

/-- 256 rows of a point's block, from row `o`, normalized. -/
abbrev part (c : Dev nD) (t : Fin grid0.N) (o : ℕ) (inb : ∀ a : Fin S1024x1024.rank, ![o, 0] a + S256x1024.size a ≤ S1024x1024.size a) : FVec Ideal S256x1024 .bf16 :=
  normed (View.ld (iblk (F := Ideal) m c 0 t) (Rect.unit (s := S1024x1024) ![o, 0] S256x1024.size inb)) (View.ld (iblk (F := Ideal) m c 1 t) r0_2)

/-- Row `r` of these. -/
theorem normed_at (c : Dev nD) (t : Fin grid0.N) (o : ℕ) (inb) (r : Fin 256) (l : Fin 1024) (ho : o + r.val < 1024) :
    part m c t o inb (ix2 r l)
      = rms (fun k => hArr m c (ix2 ⟨1024 * t.val + (o + r.val), by have := points t; omega⟩ k)) (fun k => gArr m c (ix2 0 k)) l := by
  refine (normed_apply _ _ r l).trans ?_
  have e1 : ∀ k, View.ld (iblk (F := Ideal) m c 0 t) (Rect.unit (s := S1024x1024) ![o, 0] S256x1024.size inb) (ix2 r k)
      = hArr m c (ix2 ⟨1024 * t.val + (o + r.val), by have := points t; omega⟩ k) := fun k => (ld_rows _ o inb r k ho).trans (rows_at m c t _ k)
  have e2 : ∀ k, View.ld (iblk (F := Ideal) m c 1 t) r0_2 (ix3 0 0 k) = gArr m c (ix2 0 k) := fun k => (ld_gain _ k).trans (gain_at m c t k)
  exact congrArg₂ (fun x y => rms x y l) (funext e1) (funext e2)

/-- A row of these times a column of weights. -/
theorem times_at {w : ℕ} (c : Dev nD) (t : Fin grid0.N) (o : ℕ) (inb) (r : Fin 256) (ho : o + r.val < 1024) (V : Fin 1024 → Fin w → EReal) (l : Fin w) (j : Fin 3088)
    (hV : ∀ k, V k l = wArr m c (ix3 0 k j)) :
    times (fun k => part m c t o inb (ix2 r k)) V l
      = projected (hArr m c) (gArr m c) (wArr m c) ⟨1024 * t.val + (o + r.val), by have := points t; omega⟩ j := by
  unfold projected times
  refine Finset.sum_congr rfl fun k _ => ?_
  exact congrArg₂ (· * ·) (normed_at m c t o inb r k ho) (hV k)

theorem cols0 (c : Dev nD) (t : Fin grid0.N) (k : Fin 1024) (l : Fin 512) (j : Fin 3088) (hj : j.val = 0 + l.val) :
    View.ld (iblk (F := Ideal) m c 2 t) r0_6 (ix2 k l) = wArr m c (ix3 0 k j) := by
  refine (ld_wide _ 0 _ k l ⟨l.val, by omega⟩ (Nat.zero_add _).symm).trans ((main0_at m c t k l).trans ?_)
  exact congrArg (fun j => wArr m c (ix3 0 k j)) (Fin.ext (hj.trans (Nat.zero_add _)).symm)

theorem cols1 (c : Dev nD) (t : Fin grid0.N) (k : Fin 1024) (l : Fin 512) (j : Fin 3088) (hj : j.val = 512 + l.val) :
    View.ld (iblk (F := Ideal) m c 2 t) r0_8 (ix2 k l) = wArr m c (ix3 0 k j) := by
  refine (ld_wide _ 512 _ k l ⟨512 + l.val, by omega⟩ rfl).trans ((main1_at m c t k l).trans ?_)
  exact congrArg (fun j => wArr m c (ix3 0 k j)) (Fin.ext hj.symm)

theorem cols2 (c : Dev nD) (t : Fin grid0.N) (k : Fin 1024) (l : Fin 256) (j : Fin 3088) (hj : j.val = 1536 + l.val) :
    View.ld (iblk (F := Ideal) m c 2 t) r0_12 (ix2 k l) = wArr m c (ix3 0 k j) := by
  refine (ld_narrow _ 1024 _ k l ⟨1024 + l.val, by omega⟩ rfl).trans ((main2_at m c t k l).trans ?_)
  exact congrArg (fun j => wArr m c (ix3 0 k j)) (Fin.ext hj.symm)

theorem cols3 (c : Dev nD) (t : Fin grid0.N) (k : Fin 1024) (l : Fin 256) (j : Fin 3088) (hj : j.val = 1792 + l.val) :
    View.ld (iblk (F := Ideal) m c 2 t) r0_14 (ix2 k l) = wArr m c (ix3 0 k j) := by
  refine (ld_narrow _ 1280 _ k l ⟨1280 + l.val, by omega⟩ rfl).trans ((main3_at m c t k l).trans ?_)
  exact congrArg (fun j => wArr m c (ix3 0 k j)) (Fin.ext hj.symm)

theorem cols4 (c : Dev nD) (t : Fin grid0.N) (k : Fin 1024) (l : Fin 512) (j : Fin 3088) (hj : j.val = 2048 + l.val) :
    View.ld (iblk (F := Ideal) m c 2 t) r0_15 (ix2 k l) = wArr m c (ix3 0 k j) := by
  refine (ld_wide _ 1536 _ k l ⟨1536 + l.val, by omega⟩ rfl).trans ((main4_at m c t k l).trans ?_)
  exact congrArg (fun j => wArr m c (ix3 0 k j)) (Fin.ext hj.symm)

theorem cols5 (c : Dev nD) (t : Fin grid0.N) (k : Fin 1024) (l : Fin 512) (j : Fin 3088) (hj : j.val = 2560 + l.val) :
    View.ld (iblk (F := Ideal) m c 2 t) r0_16 (ix2 k l) = wArr m c (ix3 0 k j) := by
  refine (ld_wide _ 2048 _ k l ⟨2048 + l.val, by omega⟩ rfl).trans ((main5_at m c t k l).trans ?_)
  exact congrArg (fun j => wArr m c (ix3 0 k j)) (Fin.ext hj.symm)

theorem q_part (c : Dev nD) (t : Fin grid0.N) (o : ℕ) (inb) (V : FVec Ideal S1024x512 .bf16) (hV : ∀ (k : Fin 1024) (l : Fin 512) (j : Fin 3088), j.val = 0 + l.val → V (ix2 k l) = wArr m c (ix3 0 k j))
    (y : S1024x512.Idx) (x : S256x512.Idx) (h0 : (y 0).val = o + (x 0).val) (h1 : (y 1).val = (x 1).val) :
    qPart (part m c t o inb) V x = queries (hArr m c) (gArr m c) (wArr m c) (ix2 ⟨1024 * t.val + (y 0).val, by have := points t; have : (y 0).val < 1024 := (y 0).isLt; omega⟩ (y 1)) := by
  obtain ⟨r, l, rfl⟩ : ∃ (r : Fin 256) (l : Fin 512), x = ix2 r l := ⟨x 0, x 1, eq_ix2 x⟩
  obtain ⟨u, v, rfl⟩ : ∃ (u : Fin 1024) (v : Fin 512), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  refine (qPart_apply _ _ r l).trans (congrArg (· * scale) ?_)
  exact times_at m c t o inb r ho _ l ⟨0 + l.val, by omega⟩ fun k => hV k l _ rfl

theorem wide_part (c : Dev nD) (t : Fin grid0.N) (o : ℕ) (inb) (V : FVec Ideal S1024x512 .bf16) (J : ℕ) (hJ : J + 512 ≤ 3088) (hV : ∀ (k : Fin 1024) (l : Fin 512) (j : Fin 3088), j.val = J + l.val → V (ix2 k l) = wArr m c (ix3 0 k j))
    (y : S1024x512.Idx) (x : S256x512.Idx) (h0 : (y 0).val = o + (x 0).val) (h1 : (y 1).val = (x 1).val) :
    kPart (part m c t o inb) V x = taken (hArr m c) (gArr m c) (wArr m c) 512 J hJ (ix2 ⟨1024 * t.val + (y 0).val, by have := points t; have : (y 0).val < 1024 := (y 0).isLt; omega⟩ (y 1)) := by
  obtain ⟨r, l, rfl⟩ : ∃ (r : Fin 256) (l : Fin 512), x = ix2 r l := ⟨x 0, x 1, eq_ix2 x⟩
  obtain ⟨u, v, rfl⟩ : ∃ (u : Fin 1024) (v : Fin 512), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  refine (kPart_apply _ _ r l).trans ?_
  exact times_at m c t o inb r ho _ l ⟨J + l.val, by omega⟩ fun k => hV k l _ rfl

theorem gq_part (c : Dev nD) (t : Fin grid0.N) (o : ℕ) (inb) (V : FVec Ideal S1024x256 .bf16) (hV : ∀ (k : Fin 1024) (l : Fin 256) (j : Fin 3088), j.val = 1536 + l.val → V (ix2 k l) = wArr m c (ix3 0 k j))
    (y : S1024x256.Idx) (x : S256x256.Idx) (h0 : (y 0).val = o + (x 0).val) (h1 : (y 1).val = (x 1).val) :
    gqPart (part m c t o inb) V x = linQueries (hArr m c) (gArr m c) (wArr m c) (ix2 ⟨1024 * t.val + (y 0).val, by have := points t; have : (y 0).val < 1024 := (y 0).isLt; omega⟩ (y 1)) := by
  obtain ⟨r, l, rfl⟩ : ∃ (r : Fin 256) (l : Fin 256), x = ix2 r l := ⟨x 0, x 1, eq_ix2 x⟩
  obtain ⟨u, v, rfl⟩ : ∃ (u : Fin 1024) (v : Fin 256), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  refine (gqPart_apply _ _ r l).trans (congrArg (· * Ideal.ofBits .f32 0x3E000000#32) ?_)
  exact times_at m c t o inb r ho _ l ⟨1536 + l.val, by omega⟩ fun k => hV k l _ rfl

theorem narrow_part (c : Dev nD) (t : Fin grid0.N) (o : ℕ) (inb) (V : FVec Ideal S1024x256 .bf16) (J : ℕ) (hJ : J + 256 ≤ 3088) (hV : ∀ (k : Fin 1024) (l : Fin 256) (j : Fin 3088), j.val = J + l.val → V (ix2 k l) = wArr m c (ix3 0 k j))
    (y : S1024x256.Idx) (x : S256x256.Idx) (h0 : (y 0).val = o + (x 0).val) (h1 : (y 1).val = (x 1).val) :
    gkPart (part m c t o inb) V x = taken (hArr m c) (gArr m c) (wArr m c) 256 J hJ (ix2 ⟨1024 * t.val + (y 0).val, by have := points t; have : (y 0).val < 1024 := (y 0).isLt; omega⟩ (y 1)) := by
  obtain ⟨r, l, rfl⟩ : ∃ (r : Fin 256) (l : Fin 256), x = ix2 r l := ⟨x 0, x 1, eq_ix2 x⟩
  obtain ⟨u, v, rfl⟩ : ∃ (u : Fin 1024) (v : Fin 256), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  refine (gkPart_apply _ _ r l).trans ?_
  exact times_at m c t o inb r ho _ l ⟨J + l.val, by omega⟩ fun k => hV k l _ rfl

theorem values_true (h : S32768x1024.Idx → EReal) (g : S4x1024.Idx → EReal) (W : S2x1024x3088.Idx → EReal) (b : Fin 128) (n : Fin 576) (r : Fin 256) (hd : n.val % 144 < 128) :
    values h g W (ix3 b n r) = projected h g W ⟨b.val * 256 + r.val, by omega⟩ ⟨1024 + (n.val / 144 * 128 + n.val % 144), by omega⟩ :=
  dif_pos (c := (n.val % 144 < 128)) (t := fun hd => projected h g W ⟨b.val * 256 + r.val, by omega⟩ ⟨1024 + (n.val / 144 * 128 + n.val % 144), by omega⟩) (e := fun _ => (1 : EReal)) hd

theorem values_false (h : S32768x1024.Idx → EReal) (g : S4x1024.Idx → EReal) (W : S2x1024x3088.Idx → EReal) (b : Fin 128) (n : Fin 576) (r : Fin 256) (hd : ¬ n.val % 144 < 128) :
    values h g W (ix3 b n r) = 1 :=
  dif_neg (c := (n.val % 144 < 128)) (t := fun hd => projected h g W ⟨b.val * 256 + r.val, by omega⟩ ⟨1024 + (n.val / 144 * 128 + n.val % 144), by omega⟩) (e := fun _ => (1 : EReal)) hd

theorem v_part (c : Dev nD) (t : Fin grid0.N) (p : ℕ) (hp : p < 4) (inb) (y : S4x576x256.Idx) (x : S1x576x256.Idx) (h0 : (y 0).val = p + (x 0).val)
    (h1 : (y 1).val = (x 1).val) (h2 : (y 2).val = (x 2).val) :
    vPart (part m c t (256 * p) inb) (View.ld (iblk (F := Ideal) m c 3 t) r0_9) (View.ld (iblk (F := Ideal) m c 4 t) r0_10) x
      = values (hArr m c) (gArr m c) (wArr m c) (ix3 ⟨4 * t.val + (y 0).val, by have := points t; have : (y 0).val < 4 := (y 0).isLt; omega⟩ (y 1) (y 2)) := by
  obtain ⟨z, l, r, rfl⟩ : ∃ (z : Fin 1) (l : Fin 576) (r : Fin 256), x = ix3 z l r := ⟨x 0, x 1, x 2, eq_ix3 x⟩
  obtain ⟨b, v, w, rfl⟩ : ∃ (b : Fin 4) (v : Fin 576) (w : Fin 256), y = ix3 b v w := ⟨y 0, y 1, y 2, eq_ix3 y⟩
  obtain rfl : z = 0 := Subsingleton.elim _ _
  obtain rfl : l = v := (Fin.ext h1).symm
  obtain rfl : r = w := (Fin.ext h2).symm
  obtain rfl : b = ⟨p, hp⟩ := Fin.ext h0
  refine (vPart_apply _ _ _ l r).trans ?_
  by_cases hd : l.val % 144 < 128
  · have e1 := times_at m c t (256 * p) inb r (by omega) (fun k n => View.ld (iblk (F := Ideal) m c 3 t) r0_9 (ix2 n k)) l ⟨1024 + (l.val / 144 * 128 + l.val % 144), by omega⟩
      fun k => ((ld_vals _ l k).trans (vals_at m c t l k)).trans (dif_pos hd)
    have e2 := ((ld_ones _ l).trans (ones_at m c t l)).trans (if_pos hd)
    refine (congrArg₂ (· + ·) e1 e2).trans ((add_zero _).trans (Eq.trans ?_ (values_true _ _ _ _ l r hd).symm))
    exact congrArg (fun n => projected (hArr m c) (gArr m c) (wArr m c) n _) (Fin.ext (show 1024 * t.val + (256 * p + r.val) = (4 * t.val + p) * 256 + r.val by omega))
  · have e1 : times (fun k => part m c t (256 * p) inb (ix2 r k)) (fun k n => View.ld (iblk (F := Ideal) m c 3 t) r0_9 (ix2 n k)) l = 0 :=
      Finset.sum_eq_zero fun k _ => (congrArg (_ * ·) (((ld_vals _ l k).trans (vals_at m c t l k)).trans (dif_neg hd))).trans (mul_zero _)
    have e2 := ((ld_ones _ l).trans (ones_at m c t l)).trans (if_neg hd)
    exact (congrArg₂ (· + ·) e1 e2).trans ((zero_add _).trans (values_false _ _ _ _ l r hd).symm)

theorem low_col (c : Dev nD) (t : Fin grid0.N) (i : Fin 128) (hi : i.val < 16) (k : Fin 1024) :
    View.ld (iblk (F := Ideal) m c 5 t) r0_17 (ix2 k i) = wArr m c (ix3 0 k ⟨3072 + i.val, by omega⟩) :=
  ((ld_low _ k i).trans (low_at m c t k i)).trans (dif_pos hi)

theorem low_zero (c : Dev nD) (t : Fin grid0.N) (i : Fin 128) (hi : ¬ i.val < 16) (k : Fin 1024) : View.ld (iblk (F := Ideal) m c 5 t) r0_17 (ix2 k i) = (0 : EReal) :=
  ((ld_low _ k i).trans (low_at m c t k i)).trans (dif_neg hi)

theorem up_row (c : Dev nD) (t : Fin grid0.N) (i : Fin 128) (hi : i.val < 16) (l : Fin 256) :
    View.ld (iblk (F := Ideal) m c 6 t) r0_0 (ix2 i l) = aArr m c (ix3 0 ⟨i.val, hi⟩ l) :=
  ((ld_up _ i l).trans (up_at m c t i l)).trans (dif_pos hi)

theorem up_zero (c : Dev nD) (t : Fin grid0.N) (i : Fin 128) (hi : ¬ i.val < 16) (l : Fin 256) : View.ld (iblk (F := Ideal) m c 6 t) r0_0 (ix2 i l) = (0 : EReal) :=
  ((ld_up _ i l).trans (up_at m c t i l)).trans (dif_neg hi)

/-- What the decays need of the arguments. -/
structure Plain (c : Dev nD) : Prop where
  gain : ∀ x, Finite (gArr m c x)
  weights : ∀ x, Finite (wArr m c x)
  up : ∀ x, Finite (aArr m c x)

theorem la_part (c : Dev nD) (hf : Plain m c) (t : Fin grid0.N) (o : ℕ) (inb) (y : S1024x256.Idx) (x : S256x256.Idx) (h0 : (y 0).val = o + (x 0).val) (h1 : (y 1).val = (x 1).val) :
    laPart (part m c t o inb) (View.ld (iblk (F := Ideal) m c 5 t) r0_17) (View.ld (iblk (F := Ideal) m c 6 t) r0_0) (View.ld (iblk (F := Ideal) m c 7 t) r0_18) x
      = decays (hArr m c) (gArr m c) (wArr m c) (aArr m c) (bArr m c) (ix2 ⟨1024 * t.val + (y 0).val, by have := points t; have : (y 0).val < 1024 := (y 0).isLt; omega⟩ (y 1)) := by
  obtain ⟨r, l, rfl⟩ : ∃ (r : Fin 256) (l : Fin 256), x = ix2 r l := ⟨x 0, x 1, eq_ix2 x⟩
  obtain ⟨u, v, rfl⟩ : ∃ (u : Fin 1024) (v : Fin 256), y = ix2 u v := ⟨y 0, y 1, eq_ix2 y⟩
  have hu : u.val = o + r.val := h0
  obtain rfl : l = v := (Fin.ext h1).symm
  have ho : o + r.val < 1024 := hu ▸ u.isLt
  obtain rfl : u = ⟨o + r.val, ho⟩ := Fin.ext hu
  have first (i : Fin 128) (hi : i.val < 16) : times (fun k => part m c t o inb (ix2 r k)) (fun k i => View.ld (iblk (F := Ideal) m c 5 t) r0_17 (ix2 k i)) i
      = projected (hArr m c) (gArr m c) (wArr m c) ⟨1024 * t.val + (o + r.val), by have := points t; omega⟩ ⟨3072 + i.val, by omega⟩ :=
    times_at m c t o inb r ho _ i ⟨3072 + i.val, by omega⟩ fun k => low_col m c t i hi k
  have hx (i : Fin 128) : Finite (times (fun k => part m c t o inb (ix2 r k)) (fun k i => View.ld (iblk (F := Ideal) m c 5 t) r0_17 (ix2 k i)) i) := by
    by_cases hi : i.val < 16
    · rw [first i hi]; exact Finite.projected hf.gain hf.weights _ _
    · have e : times (fun k => part m c t o inb (ix2 r k)) (fun k i => View.ld (iblk (F := Ideal) m c 5 t) r0_17 (ix2 k i)) i = 0 :=
        Finset.sum_eq_zero fun k _ => (congrArg (_ * ·) (low_zero m c t i hi k)).trans (mul_zero _)
      rw [e]; exact Finite.zero
  have hQ (i : Fin 128) : Finite (View.ld (iblk (F := Ideal) m c 6 t) r0_0 (ix2 i l)) := by
    by_cases hi : i.val < 16
    · rw [up_row m c t i hi l]; exact hf.up _
    · rw [up_zero m c t i hi l]; exact Finite.zero
  refine (laPart_apply _ _ _ _ r l hx hQ).trans (congrArg decay (congrArg₂ (· + ·) ?_ ((ld_bias _ l).trans (bias_at m c t l))))
  refine (times_first _ _ l fun i hi => up_zero m c t i (by omega) l).trans ?_
  exact Finset.sum_congr rfl fun i _ => congrArg₂ (· * ·) (first ⟨i.val, by omega⟩ i.isLt) (up_row m c t ⟨i.val, by omega⟩ i.isLt l)

theorem q_at (c : Dev nD) (t : Fin grid0.N) (y : S1024x512.Idx) :
    out0_8 (F := Ideal) (iblk m c 0 t) (iblk m c 1 t) (iblk m c 2 t) (iblk m c 3 t) (iblk m c 4 t) (iblk m c 5 t) (iblk m c 6 t) (iblk m c 7 t) y
      = queries (hArr m c) (gArr m c) (wArr m c) (ix2 ⟨1024 * t.val + (y 0).val, by have := points t; have : (y 0).val < 1024 := (y 0).isLt; omega⟩ (y 1)) := by
  unfold_out out0_8
  canon_tiles x h
  · rw [qPart3, normed3]; exact q_part m c t 768 _ _ (cols0 m c t) y x h0 h1
  · rw [qPart2, normed2]; exact q_part m c t 512 _ _ (cols0 m c t) y x h0 h1
  · rw [qPart1, normed1]; exact q_part m c t 256 _ _ (cols0 m c t) y x h0 h1
  · exact q_part m c t 0 _ _ (cols0 m c t) y x (by omega) h1

theorem k_at (c : Dev nD) (t : Fin grid0.N) (y : S1024x512.Idx) :
    out0_9 (F := Ideal) (iblk m c 0 t) (iblk m c 1 t) (iblk m c 2 t) (iblk m c 3 t) (iblk m c 4 t) (iblk m c 5 t) (iblk m c 6 t) (iblk m c 7 t) y
      = taken (hArr m c) (gArr m c) (wArr m c) 512 512 (by omega) (ix2 ⟨1024 * t.val + (y 0).val, by have := points t; have : (y 0).val < 1024 := (y 0).isLt; omega⟩ (y 1)) := by
  unfold_out out0_9
  canon_tiles x h
  · rw [kPart3, normed3]; exact wide_part m c t 768 _ _ 512 (by omega) (cols1 m c t) y x h0 h1
  · rw [kPart2, normed2]; exact wide_part m c t 512 _ _ 512 (by omega) (cols1 m c t) y x h0 h1
  · rw [kPart1, normed1]; exact wide_part m c t 256 _ _ 512 (by omega) (cols1 m c t) y x h0 h1
  · exact wide_part m c t 0 _ _ 512 (by omega) (cols1 m c t) y x (by omega) h1

theorem gq_at (c : Dev nD) (t : Fin grid0.N) (y : S1024x256.Idx) :
    out0_11 (F := Ideal) (iblk m c 0 t) (iblk m c 1 t) (iblk m c 2 t) (iblk m c 3 t) (iblk m c 4 t) (iblk m c 5 t) (iblk m c 6 t) (iblk m c 7 t) y
      = linQueries (hArr m c) (gArr m c) (wArr m c) (ix2 ⟨1024 * t.val + (y 0).val, by have := points t; have : (y 0).val < 1024 := (y 0).isLt; omega⟩ (y 1)) := by
  unfold_out out0_11
  canon_tiles x h
  · rw [gqPart3, normed3]; exact gq_part m c t 768 _ _ (cols2 m c t) y x h0 h1
  · rw [gqPart2, normed2]; exact gq_part m c t 512 _ _ (cols2 m c t) y x h0 h1
  · rw [gqPart1, normed1]; exact gq_part m c t 256 _ _ (cols2 m c t) y x h0 h1
  · exact gq_part m c t 0 _ _ (cols2 m c t) y x (by omega) h1

theorem gk_at (c : Dev nD) (t : Fin grid0.N) (y : S1024x256.Idx) :
    out0_12 (F := Ideal) (iblk m c 0 t) (iblk m c 1 t) (iblk m c 2 t) (iblk m c 3 t) (iblk m c 4 t) (iblk m c 5 t) (iblk m c 6 t) (iblk m c 7 t) y
      = taken (hArr m c) (gArr m c) (wArr m c) 256 1792 (by omega) (ix2 ⟨1024 * t.val + (y 0).val, by have := points t; have : (y 0).val < 1024 := (y 0).isLt; omega⟩ (y 1)) := by
  unfold_out out0_12
  canon_tiles x h
  · rw [gkPart3, normed3]; exact narrow_part m c t 768 _ _ 1792 (by omega) (cols3 m c t) y x h0 h1
  · rw [gkPart2, normed2]; exact narrow_part m c t 512 _ _ 1792 (by omega) (cols3 m c t) y x h0 h1
  · rw [gkPart1, normed1]; exact narrow_part m c t 256 _ _ 1792 (by omega) (cols3 m c t) y x h0 h1
  · exact narrow_part m c t 0 _ _ 1792 (by omega) (cols3 m c t) y x (by omega) h1

theorem gv_at (c : Dev nD) (t : Fin grid0.N) (y : S1024x512.Idx) :
    out0_14 (F := Ideal) (iblk m c 0 t) (iblk m c 1 t) (iblk m c 2 t) (iblk m c 3 t) (iblk m c 4 t) (iblk m c 5 t) (iblk m c 6 t) (iblk m c 7 t) y
      = taken (hArr m c) (gArr m c) (wArr m c) 512 2048 (by omega) (ix2 ⟨1024 * t.val + (y 0).val, by have := points t; have : (y 0).val < 1024 := (y 0).isLt; omega⟩ (y 1)) := by
  unfold_out out0_14
  canon_tiles x h
  · rw [gvPart3, normed3]; exact wide_part m c t 768 _ _ 2048 (by omega) (cols4 m c t) y x h0 h1
  · rw [gvPart2, normed2]; exact wide_part m c t 512 _ _ 2048 (by omega) (cols4 m c t) y x h0 h1
  · rw [gvPart1, normed1]; exact wide_part m c t 256 _ _ 2048 (by omega) (cols4 m c t) y x h0 h1
  · rw [gvPart0]; exact wide_part m c t 0 _ _ 2048 (by omega) (cols4 m c t) y x (by omega) h1

theorem gg_at (c : Dev nD) (t : Fin grid0.N) (y : S1024x512.Idx) :
    out0_15 (F := Ideal) (iblk m c 0 t) (iblk m c 1 t) (iblk m c 2 t) (iblk m c 3 t) (iblk m c 4 t) (iblk m c 5 t) (iblk m c 6 t) (iblk m c 7 t) y
      = taken (hArr m c) (gArr m c) (wArr m c) 512 2560 (by omega) (ix2 ⟨1024 * t.val + (y 0).val, by have := points t; have : (y 0).val < 1024 := (y 0).isLt; omega⟩ (y 1)) := by
  unfold_out out0_15
  canon_tiles x h
  · rw [ggPart3, normed3]; exact wide_part m c t 768 _ _ 2560 (by omega) (cols5 m c t) y x h0 h1
  · rw [ggPart2, normed2]; exact wide_part m c t 512 _ _ 2560 (by omega) (cols5 m c t) y x h0 h1
  · rw [ggPart1, normed1]; exact wide_part m c t 256 _ _ 2560 (by omega) (cols5 m c t) y x h0 h1
  · rw [ggPart0]; exact wide_part m c t 0 _ _ 2560 (by omega) (cols5 m c t) y x (by omega) h1

theorem v_at (c : Dev nD) (t : Fin grid0.N) (y : S4x576x256.Idx) :
    out0_10 (F := Ideal) (iblk m c 0 t) (iblk m c 1 t) (iblk m c 2 t) (iblk m c 3 t) (iblk m c 4 t) (iblk m c 5 t) (iblk m c 6 t) (iblk m c 7 t) y
      = values (hArr m c) (gArr m c) (wArr m c) (ix3 ⟨4 * t.val + (y 0).val, by have := points t; have : (y 0).val < 4 := (y 0).isLt; omega⟩ (y 1) (y 2)) := by
  unfold_out out0_10
  canon_tiles x h
  · rw [vPart3, normed3]; exact v_part m c t 3 (by omega) _ y x h0 h1 h2
  · rw [vPart2, normed2]; exact v_part m c t 2 (by omega) _ y x h0 h1 h2
  · rw [vPart1, normed1]; exact v_part m c t 1 (by omega) _ y x h0 h1 h2
  · exact v_part m c t 0 (by omega) _ y x (by omega) h1 h2

theorem la_at (c : Dev nD) (hf : Plain m c) (t : Fin grid0.N) (y : S1024x256.Idx) :
    out0_13 (F := Ideal) (iblk m c 0 t) (iblk m c 1 t) (iblk m c 2 t) (iblk m c 3 t) (iblk m c 4 t) (iblk m c 5 t) (iblk m c 6 t) (iblk m c 7 t) y
      = decays (hArr m c) (gArr m c) (wArr m c) (aArr m c) (bArr m c) (ix2 ⟨1024 * t.val + (y 0).val, by have := points t; have : (y 0).val < 1024 := (y 0).isLt; omega⟩ (y 1)) := by
  unfold_out out0_13
  canon_tiles x h
  · rw [laPart3, normed3]; exact la_part m c hf t 768 _ y x h0 h1
  · rw [laPart2, normed2]; exact la_part m c hf t 512 _ y x h0 h1
  · rw [laPart1, normed1]; exact la_part m c hf t 256 _ y x h0 h1
  · exact la_part m c hf t 0 _ y x (by omega) h1

/-- The kernel's result arrays. -/
theorem q_final (c : Dev nD) : (dats (F := Ideal) m 0 c).arrAt 8 cfg0.N = queries (hArr m c) (gArr m c) (wArr m c) := by
  refine (dats (F := Ideal) m 0 c).arrAt_eq_of_covers 8 _ (by decide +kernel) fun t _ y => ?_
  blk_simp
  rw [after0_8]
  refine (q_at m c t _).trans (congrArg _ (funext fun a => Fin.ext ?_))
  obtain ⟨e0, e1⟩ := index8 t
  fin_cases a
  · show 1024 * t.val + (y 0).val = win0_8.index t (0 : Fin 2) * 1024 + 1 * (y 0).val; omega
  · show (y 1).val = win0_8.index t (1 : Fin 2) * 512 + 1 * (y 1).val; omega

theorem k_final (c : Dev nD) : (dats (F := Ideal) m 0 c).arrAt 9 cfg0.N = taken (hArr m c) (gArr m c) (wArr m c) 512 512 (by omega) := by
  refine (dats (F := Ideal) m 0 c).arrAt_eq_of_covers 9 _ (by decide +kernel) fun t _ y => ?_
  blk_simp
  rw [after0_9]
  refine (k_at m c t _).trans (congrArg _ (funext fun a => Fin.ext ?_))
  obtain ⟨e0, e1⟩ := index9 t
  fin_cases a
  · show 1024 * t.val + (y 0).val = win0_9.index t (0 : Fin 2) * 1024 + 1 * (y 0).val; omega
  · show (y 1).val = win0_9.index t (1 : Fin 2) * 512 + 1 * (y 1).val; omega

theorem v_final (c : Dev nD) : (dats (F := Ideal) m 0 c).arrAt 10 cfg0.N = values (hArr m c) (gArr m c) (wArr m c) := by
  refine (dats (F := Ideal) m 0 c).arrAt_eq_of_covers 10 _ (by decide +kernel) fun t _ y => ?_
  blk_simp
  rw [after0_10]
  refine (v_at m c t _).trans (congrArg _ (funext fun a => Fin.ext ?_))
  obtain ⟨e0, e1, e2⟩ := index10 t
  fin_cases a
  · show 4 * t.val + (y 0).val = win0_10.index t (0 : Fin 3) * 4 + 1 * (y 0).val; omega
  · show (y 1).val = win0_10.index t (1 : Fin 3) * 576 + 1 * (y 1).val; omega
  · show (y 2).val = win0_10.index t (2 : Fin 3) * 256 + 1 * (y 2).val; omega

theorem gq_final (c : Dev nD) : (dats (F := Ideal) m 0 c).arrAt 11 cfg0.N = linQueries (hArr m c) (gArr m c) (wArr m c) := by
  refine (dats (F := Ideal) m 0 c).arrAt_eq_of_covers 11 _ (by decide +kernel) fun t _ y => ?_
  blk_simp
  rw [after0_11]
  refine (gq_at m c t _).trans (congrArg _ (funext fun a => Fin.ext ?_))
  obtain ⟨e0, e1⟩ := index11 t
  fin_cases a
  · show 1024 * t.val + (y 0).val = win0_11.index t (0 : Fin 2) * 1024 + 1 * (y 0).val; omega
  · show (y 1).val = win0_11.index t (1 : Fin 2) * 256 + 1 * (y 1).val; omega

theorem gk_final (c : Dev nD) : (dats (F := Ideal) m 0 c).arrAt 12 cfg0.N = taken (hArr m c) (gArr m c) (wArr m c) 256 1792 (by omega) := by
  refine (dats (F := Ideal) m 0 c).arrAt_eq_of_covers 12 _ (by decide +kernel) fun t _ y => ?_
  blk_simp
  rw [after0_12]
  refine (gk_at m c t _).trans (congrArg _ (funext fun a => Fin.ext ?_))
  obtain ⟨e0, e1⟩ := index12 t
  fin_cases a
  · show 1024 * t.val + (y 0).val = win0_12.index t (0 : Fin 2) * 1024 + 1 * (y 0).val; omega
  · show (y 1).val = win0_12.index t (1 : Fin 2) * 256 + 1 * (y 1).val; omega

theorem la_final (c : Dev nD) (hf : Plain m c) : (dats (F := Ideal) m 0 c).arrAt 13 cfg0.N = decays (hArr m c) (gArr m c) (wArr m c) (aArr m c) (bArr m c) := by
  refine (dats (F := Ideal) m 0 c).arrAt_eq_of_covers 13 _ (by decide +kernel) fun t _ y => ?_
  blk_simp
  rw [after0_13]
  refine (la_at m c hf t _).trans (congrArg _ (funext fun a => Fin.ext ?_))
  obtain ⟨e0, e1⟩ := index13 t
  fin_cases a
  · show 1024 * t.val + (y 0).val = win0_13.index t (0 : Fin 2) * 1024 + 1 * (y 0).val; omega
  · show (y 1).val = win0_13.index t (1 : Fin 2) * 256 + 1 * (y 1).val; omega

theorem gv_final (c : Dev nD) : (dats (F := Ideal) m 0 c).arrAt 14 cfg0.N = taken (hArr m c) (gArr m c) (wArr m c) 512 2048 (by omega) := by
  refine (dats (F := Ideal) m 0 c).arrAt_eq_of_covers 14 _ (by decide +kernel) fun t _ y => ?_
  blk_simp
  rw [after0_14]
  refine (gv_at m c t _).trans (congrArg _ (funext fun a => Fin.ext ?_))
  obtain ⟨e0, e1⟩ := index14 t
  fin_cases a
  · show 1024 * t.val + (y 0).val = win0_14.index t (0 : Fin 2) * 1024 + 1 * (y 0).val; omega
  · show (y 1).val = win0_14.index t (1 : Fin 2) * 512 + 1 * (y 1).val; omega

theorem gg_final (c : Dev nD) : (dats (F := Ideal) m 0 c).arrAt 15 cfg0.N = taken (hArr m c) (gArr m c) (wArr m c) 512 2560 (by omega) := by
  refine (dats (F := Ideal) m 0 c).arrAt_eq_of_covers 15 _ (by decide +kernel) fun t _ y => ?_
  blk_simp
  rw [after0_15]
  refine (gg_at m c t _).trans (congrArg _ (funext fun a => Fin.ext ?_))
  obtain ⟨e0, e1⟩ := index15 t
  fin_cases a
  · show 1024 * t.val + (y 0).val = win0_15.index t (0 : Fin 2) * 1024 + 1 * (y 0).val; omega
  · show (y 1).val = win0_15.index t (1 : Fin 2) * 512 + 1 * (y 1).val; omega

/-- The run with its results named, the arguments as they were. -/
theorem run (hf : ∀ c, Plain m c) (ρ : Dev nD → PrngReg) : θ_run defs (onTc (τ := τ) (main (F := Ideal))) ⟨m, fun _ => 0, ρ⟩ fun r => ∀ c : Dev nD,
    r.2.mem ((c : Thread nD τ).loc main_v29_0) = queries (hArr m c) (gArr m c) (wArr m c)
    ∧ r.2.mem ((c : Thread nD τ).loc main_v29_1) = taken (hArr m c) (gArr m c) (wArr m c) 512 512 (by omega)
    ∧ r.2.mem ((c : Thread nD τ).loc main_v29_2) = values (hArr m c) (gArr m c) (wArr m c)
    ∧ r.2.mem ((c : Thread nD τ).loc main_v29_3) = linQueries (hArr m c) (gArr m c) (wArr m c)
    ∧ r.2.mem ((c : Thread nD τ).loc main_v29_4) = taken (hArr m c) (gArr m c) (wArr m c) 256 1792 (by omega)
    ∧ r.2.mem ((c : Thread nD τ).loc main_v29_5) = decays (hArr m c) (gArr m c) (wArr m c) (aArr m c) (bArr m c)
    ∧ r.2.mem ((c : Thread nD τ).loc main_v29_6) = taken (hArr m c) (gArr m c) (wArr m c) 512 2048 (by omega)
    ∧ r.2.mem ((c : Thread nD τ).loc main_v29_7) = taken (hArr m c) (gArr m c) (wArr m c) 512 2560 (by omega)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h c).1.trans (q_final m c), (h c).2.1.trans (k_final m c), (h c).2.2.1.trans (v_final m c), (h c).2.2.2.1.trans (gq_final m c), (h c).2.2.2.2.1.trans (gk_final m c), (h c).2.2.2.2.2.1.trans (la_final m c (hf c)), (h c).2.2.2.2.2.2.1.trans (gv_final m c), (h c).2.2.2.2.2.2.2.1.trans (gg_final m c), (h c).2.2.2.2.2.2.2.2⟩)
    (Value.run_blocks m ρ)

end Cert.Proof.PE

end
-- ==== Proof.PE.Ref.lean ====
/-
  The reference of an even layer's projection, read at an element.
-/
module

public import proofs.«01_k».proof.Proof.Gen.Reference6Ideal.Run
public import proofs.«01_k».proof.Proof.FF.Ref
public import proofs.«01_k».proof.Proof.RI.Read
public import proofs.«01_k».proof.Proof.PE.Math

@[expose] public section

set_option maxRecDepth 16384

noncomputable section

namespace Cert.Proof.PE.Ref

open Cert.Reference6Ideal Cert.Reference6Ideal.Gen Idealize.ShloMosaic Idealize.ShloMosaic.TcCoe Finset
open Idealize.SL.Sem
open Cert.Proof.FF (times rms)
open Cert.Proof.FF.Ref (norm norm_apply)

variable (h : FVec Ideal S32768x1024 .f32) (g : FVec Ideal S4x1024 .f32) (W : FVec Ideal S2x1024x3088 .f32)
variable (A : FVec Ideal S2x16x256 .f32) (B : FVec Ideal S2x256 .f32)

def gain : FVec Ideal S1024 .f32 :=
  shapeCast _ (extractStridedSlice S1x1024 ![0, 0] g slices_S4x1024_S1x1024_0_0) shapeCasts_S1x1024_S1024
def weight : FVec Ideal S1024x3088 .f32 :=
  shapeCast _ (extractStridedSlice S1x1024x3088 ![0, 0, 0] W slices_S2x1024x3088_S1x1024x3088_0_0_0) shapeCasts_S1x1024x3088_S1024x3088
/-- All columns of the projection; -/
def rows : FVec Ideal S32768x3088 .f32 :=
  Host.dotGeneral dot_S32768x1024_S1024x3088_S32768x3088_1_0_0_1_n_n none (norm h (gain g)) (weight W)
/-- of these the scaled queries, -/
def q : FVec Ideal S32768x512 .bf16 :=
  truncf .bf16 (Host.divf (mulf (extractStridedSlice S32768x512 ![0, 0] (rows h g W) slices_S32768x3088_S32768x512_0_0)
      (broadcastInDim S32768x512 ![] bcast_S_S32768x512 (constant S_ .f32 0x3E000000#32)))
    (broadcastInDim S32768x512 ![] bcast_S_S32768x512 (Host.log (constant S_ .f32 0x40000000#32)))) bitsLt_bf16_f32
/-- the keys, -/
def k : FVec Ideal S32768x512 .bf16 :=
  truncf .bf16 (extractStridedSlice S32768x512 ![0, 512] (rows h g W) slices_S32768x3088_S32768x512_0_512) bitsLt_bf16_f32
/-- the values by blocks, -/
def split : FVec Ideal S128x4x128x256 .f32 :=
  transpose S128x4x128x256 [0, 2, 3, 1] (shapeCast _ (extractStridedSlice S32768x512 ![0, 1024] (rows h g W) slices_S32768x3088_S32768x512_0_1024)
    shapeCasts_S32768x512_S128x256x4x128) transposes_S128x256x4x128_S128x4x128x256_0_2_3_1
def vt : FVec Ideal S128x576x256 .bf16 :=
  truncf .bf16 (shapeCast _ (concatenate S128x4x144x256 2 [⟨S128x4x128x256, split h g W⟩,
      ⟨S128x4x16x256, broadcastInDim S128x4x16x256 ![] bcast_S_S128x4x16x256 (constant (F := Ideal) S_ .f32 0x3F800000#32)⟩]
    concatenates_S128x4x128x256_S128x4x16x256_S128x4x144x256_d2) shapeCasts_S128x4x144x256_S128x576x256) bitsLt_bf16_f32
/-- the queries of the linear heads, -/
def gq : FVec Ideal S32768x256 .f32 :=
  mulf (extractStridedSlice S32768x256 ![0, 1536] (rows h g W) slices_S32768x3088_S32768x256_0_1536)
    (broadcastInDim S32768x256 ![] bcast_S_S32768x256 (constant S_ .f32 0x3E000000#32))
/-- their keys, -/
def gk : FVec Ideal S32768x256 .f32 := extractStridedSlice S32768x256 ![0, 1792] (rows h g W) slices_S32768x3088_S32768x256_0_1792
/-- their values, -/
def gv : FVec Ideal S32768x512 .bf16 :=
  truncf .bf16 (extractStridedSlice S32768x512 ![0, 2048] (rows h g W) slices_S32768x3088_S32768x512_0_2048) bitsLt_bf16_f32
/-- their gates, -/
def gg : FVec Ideal S32768x512 .f32 := extractStridedSlice S32768x512 ![0, 2560] (rows h g W) slices_S32768x3088_S32768x512_0_2560
/-- what their decays are of, negated, -/
def logit : FVec Ideal S32768x256 .f32 :=
  Host.negf (addf (Host.dotGeneral dot_S32768x16_S16x256_S32768x256_1_0_0_1_n_n none
      (extractStridedSlice S32768x16 ![0, 3072] (rows h g W) slices_S32768x3088_S32768x16_0_3072)
      (shapeCast _ (extractStridedSlice S1x16x256 ![0, 0, 0] A slices_S2x16x256_S1x16x256_0_0_0) shapeCasts_S1x16x256_S16x256))
    (broadcastInDim S32768x256 ![0, 1] bcast_S1x256_S32768x256_0_1 (broadcastInDim S1x256 ![1] bcast_S256_S1x256_1
      (shapeCast _ (extractStridedSlice S1x256 ![0, 0] B slices_S2x256_S1x256_0_0) shapeCasts_S1x256_S256))))
/-- and the decays. -/
def softened (z : FVec Ideal S32768x256 .f32) : FVec Ideal S32768x256 .f32 :=
  Host.divf (Host.negf (select (cmpf .une (subf z (broadcastInDim S32768x256 ![] bcast_S_S32768x256 (constant S_ .f32 0x00000000#32)))
        (subf z (broadcastInDim S32768x256 ![] bcast_S_S32768x256 (constant S_ .f32 0x00000000#32))))
      (addf z (broadcastInDim S32768x256 ![] bcast_S_S32768x256 (constant S_ .f32 0x00000000#32)))
      (addf (maximumf z (broadcastInDim S32768x256 ![] bcast_S_S32768x256 (constant S_ .f32 0x00000000#32)))
        (Host.log1p (Host.exp (Host.negf (Host.absf (subf z (broadcastInDim S32768x256 ![] bcast_S_S32768x256 (constant S_ .f32 0x00000000#32))))))))))
    (broadcastInDim S32768x256 ![] bcast_S_S32768x256 (constant S_ .f32 0x41800000#32))

theorem gain_apply (l : Fin 1024) : gain g (ix1 l) = g (ix2 0 l) := by
  pointwise [gain]
theorem weight_apply (k : Fin 1024) (j : Fin 3088) : weight W (ix2 k j) = W (ix3 0 k j) := by
  pointwise [weight]

theorem rows_apply (r : Fin 32768) (j : Fin 3088) : rows h g W (ix2 r j) = projected h g W r j := by
  unfold projected times
  pointwise [rows]
  simp only [norm_apply, gain_apply, weight_apply]

theorem eighth : Ideal.ofBits .f32 1040187392#32 = (((8 : ℝ)⁻¹ : ℝ) : EReal) := by
  simp [Ideal.ofBits, Ideal.ieee]
  rw [← EReal.coe_mul]
  exact congrArg _ (by norm_num)

theorem over_scale (x : EReal) : Ideal.div (x * Ideal.ofBits .f32 1040187392#32) ((Real.log 2 : ℝ) : EReal) = x * scale := by
  have h : Real.log 2 ≠ 0 := (Real.log_pos (by norm_num)).ne'
  rw [eighth, Ideal.div_coe h, mul_assoc, ← EReal.coe_mul]
  exact congrArg (x * ·) (congrArg _ (by rw [mul_inv, one_div]))

theorem q_eq : q h g W = queries h g W := by
  funext y
  obtain ⟨r, l, rfl⟩ : ∃ (r : Fin 32768) (l : Fin 512), y = ix2 r l := ⟨y 0, y 1, eq_ix2 y⟩
  pointwise [q]
  rw [RI.log_two, over_scale, rows_apply]
  exact congrArg (· * scale) (congrArg (projected h g W r) (Fin.ext (Nat.zero_add _).symm))

theorem k_eq : k h g W = taken h g W 512 512 (by omega) := by
  funext y
  obtain ⟨r, l, rfl⟩ : ∃ (r : Fin 32768) (l : Fin 512), y = ix2 r l := ⟨y 0, y 1, eq_ix2 y⟩
  pointwise [k]
  rw [rows_apply]
  rfl

theorem gq_eq : gq h g W = linQueries h g W := by
  funext y
  obtain ⟨r, l, rfl⟩ : ∃ (r : Fin 32768) (l : Fin 256), y = ix2 r l := ⟨y 0, y 1, eq_ix2 y⟩
  pointwise [gq]
  rw [rows_apply]
  rfl

theorem gk_eq : gk h g W = taken h g W 256 1792 (by omega) := by
  funext y
  obtain ⟨r, l, rfl⟩ : ∃ (r : Fin 32768) (l : Fin 256), y = ix2 r l := ⟨y 0, y 1, eq_ix2 y⟩
  pointwise [gk]
  rw [rows_apply]
  rfl

theorem gv_eq : gv h g W = taken h g W 512 2048 (by omega) := by
  funext y
  obtain ⟨r, l, rfl⟩ : ∃ (r : Fin 32768) (l : Fin 512), y = ix2 r l := ⟨y 0, y 1, eq_ix2 y⟩
  pointwise [gv]
  rw [rows_apply]
  rfl

theorem gg_eq : gg h g W = taken h g W 512 2560 (by omega) := by
  funext y
  obtain ⟨r, l, rfl⟩ : ∃ (r : Fin 32768) (l : Fin 512), y = ix2 r l := ⟨y 0, y 1, eq_ix2 y⟩
  pointwise [gg]
  rw [rows_apply]
  rfl

theorem logit_apply (r : Fin 32768) (l : Fin 256) : logit h g W A B (ix2 r l)
    = -(times (fun i : Fin 16 => projected h g W r ⟨3072 + i.val, by omega⟩) (fun i l => A (ix3 0 i l)) l + B (ix2 0 l)) := by
  unfold times
  pointwise [logit]
  simp only [rows_apply]

theorem softened_apply (z : FVec Ideal S32768x256 .f32) (x : EReal) (r : Fin 32768) (l : Fin 256) (hz : z (ix2 r l) = -x) :
    softened z (ix2 r l) = decay x := by
  unfold decay
  pointwise [softened]
  rw [hz, if_neg fun h => h rfl]
  rfl

theorem split_apply (b : Fin 128) (e : Fin 4) (d : Fin 128) (u : Fin 256) :
    split h g W (ix4 b e d u) = projected h g W ⟨b.val * 256 + u.val, by omega⟩ ⟨1024 + (e.val * 128 + d.val), by omega⟩ := by
  pointwise [split]
  rw [rows_apply]

theorem vt_eq : vt h g W = values h g W := by
  funext y
  obtain ⟨b, n, u, rfl⟩ : ∃ (b : Fin 128) (n : Fin 576) (u : Fin 256), y = ix3 b n u := ⟨y 0, y 1, y 2, eq_ix3 y⟩
  pointwise [vt]
  exact dite_congr rfl (fun _ => split_apply h g W _ _ _ _) fun _ => rfl

theorem la_eq : softened (logit h g W A B) = decays h g W A B := by
  funext y
  obtain ⟨r, l, rfl⟩ : ∃ (r : Fin 32768) (l : Fin 256), y = ix2 r l := ⟨y 0, y 1, eq_ix2 y⟩
  exact softened_apply _ _ r l (logit_apply h g W A B r l)

/-- The reference's run, its results named. -/
theorem run (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c : Thread nD τ).loc main_v47) = queries (m ((c : Thread nD τ).loc main_arg0)) (m ((c : Thread nD τ).loc main_arg1)) (m ((c : Thread nD τ).loc main_arg2))
      ∧ r.2.mem ((c : Thread nD τ).loc main_v48) = taken (m ((c : Thread nD τ).loc main_arg0)) (m ((c : Thread nD τ).loc main_arg1)) (m ((c : Thread nD τ).loc main_arg2)) 512 512 (by omega)
      ∧ r.2.mem ((c : Thread nD τ).loc main_v49) = values (m ((c : Thread nD τ).loc main_arg0)) (m ((c : Thread nD τ).loc main_arg1)) (m ((c : Thread nD τ).loc main_arg2))
      ∧ r.2.mem ((c : Thread nD τ).loc main_v51) = linQueries (m ((c : Thread nD τ).loc main_arg0)) (m ((c : Thread nD τ).loc main_arg1)) (m ((c : Thread nD τ).loc main_arg2))
      ∧ r.2.mem ((c : Thread nD τ).loc main_v22) = taken (m ((c : Thread nD τ).loc main_arg0)) (m ((c : Thread nD τ).loc main_arg1)) (m ((c : Thread nD τ).loc main_arg2)) 256 1792 (by omega)
      ∧ r.2.mem ((c : Thread nD τ).loc main_v46) = decays (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v52) = taken (m ((c : Thread nD τ).loc main_arg0)) (m ((c : Thread nD τ).loc main_arg1)) (m ((c : Thread nD τ).loc main_arg2)) 512 2048 (by omega)
      ∧ r.2.mem ((c : Thread nD τ).loc main_v24) = taken (m ((c : Thread nD τ).loc main_arg0)) (m ((c : Thread nD τ).loc main_arg1)) (m ((c : Thread nD τ).loc main_arg2)) 512 2560 (by omega)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (q_eq _ _ _), (h c).2.1.trans (k_eq _ _ _), (h c).2.2.1.trans (vt_eq _ _ _),
      (h c).2.2.2.1.trans (gq_eq _ _ _), (h c).2.2.2.2.1.trans (gk_eq _ _ _), (h c).2.2.2.2.2.1.trans (la_eq _ _ _ _ _),
      (h c).2.2.2.2.2.2.1.trans (gv_eq _ _ _), (h c).2.2.2.2.2.2.2.1.trans (gg_eq _ _ _), (h c).2.2.2.2.2.2.2.2⟩)
    (Value.run m ρ)

end Cert.Proof.PE.Ref

end
-- ==== Proof.Equal4.lean ====
/-
  The even layers' projection.
-/
module

public import proofs.«01_k».proof.Defs
public import proofs.«01_k».proof.Proof.PE.Value
public import proofs.«01_k».proof.Proof.PE.Ref
public import proofs.«01_k».proof.Proof.Equal
public import Idealize.ShloMosaic.Lib.Quiescent

@[expose] public section

noncomputable section

namespace Cert.Proof

open Idealize.ShloMosaic Idealize.ShloMosaic.TcCoe Idealize.SL.Sem

/-- The side conditions of the precondition's function. -/
theorem weights_facts : Cert.Pre_finite_weights.Facts where
  bcast_S_S4x1024 := by decide
  bcast_S_S2x1024x3088 := by decide
  bcast_S_S2x16x256 := by decide

theorem frame_even_project_reference : Cert.quiescent_Reference6Ideal (hReference6Ideal := Cert.Reference6Ideal.Gen.facts) := fun m g _ =>
  θ_run_mono (Cert.Reference6Ideal.Value.run m g) fun r h => ⟨fun c => (h c).2.2.2.2.2.2.2.2, sem_eq_zero_of_no_sems (by decide) r.2⟩

theorem frame_even_project_reference_finite : Cert.quiescent_Reference6Ideal_pre_finite_weights (hReference6Ideal := Cert.Reference6Ideal.Gen.facts)
    (hPre_finite_weights := weights_facts) := fun m g _ =>
  θ_run_mono (Cert.Reference6Ideal.Value.run m g) fun r h => ⟨fun c => (h c).2.2.2.2.2.2.2.2, sem_eq_zero_of_no_sems (by decide) r.2⟩

/-- The scale of the softmax heads' queries is the one named. -/
theorem diff_scale_kept : Cert.preserves_Kernel6_Kernel6Ideal :=
  IdealRules.named_const.statement Cert.Kernel6Ideal.κ "diff_scale" .f32 0x3E38AA3B#32 (((8 * Real.log 2)⁻¹ : ℝ) : EReal) rfl

/-- An element whose magnitude compares below infinity is a real. -/
theorem finite_of_below (x : EReal) (hx : BitVec.ofBool (decide (max x (-x) < ⊤)) = 1#1) : PE.Finite x := by
  refine ⟨_, real_of_abs_lt x (not_not.1 fun hn => ?_)⟩
  rw [decide_eq_false hn] at hx
  exact absurd hx (by decide)

section
attribute [local instance] weights_facts

variable (h : FVec Ideal Cert.Pre_finite_weights.S32768x1024 .f32) (g : FVec Ideal Cert.Pre_finite_weights.S4x1024 .f32) (W : FVec Ideal Cert.Pre_finite_weights.S2x1024x3088 .f32)
  (A : FVec Ideal Cert.Pre_finite_weights.S2x16x256 .f32) (B : FVec Ideal Cert.Pre_finite_weights.S2x256 .f32)

theorem gain_finite (e : (Cert.Pre_finite_weights.fn (F := Ideal) h g W A B).1 = fun _ => 1#1) (x) : PE.Finite (g x) := by
  have hx := congrFun e x
  pointwise [Cert.Pre_finite_weights.fn] at hx
  rw [infinity] at hx
  exact finite_of_below _ hx

theorem weights_finite (e : (Cert.Pre_finite_weights.fn (F := Ideal) h g W A B).2.1 = fun _ => 1#1) (x) : PE.Finite (W x) := by
  have hx := congrFun e x
  pointwise [Cert.Pre_finite_weights.fn] at hx
  rw [infinity] at hx
  exact finite_of_below _ hx

theorem up_finite (e : (Cert.Pre_finite_weights.fn (F := Ideal) h g W A B).2.2 = fun _ => 1#1) (x) : PE.Finite (A x) := by
  have hx := congrFun e x
  pointwise [Cert.Pre_finite_weights.fn] at hx
  rw [infinity] at hx
  exact finite_of_below _ hx

end

theorem algebraic_even_project : Cert.algebraic_Kernel6Ideal_Reference6Ideal_pre_finite_weights (hKernel6Ideal := Cert.Kernel6Ideal.Gen.facts)
    (hReference6Ideal := Cert.Reference6Ideal.Gen.facts) (hPre_finite_weights := weights_facts) := by
  intro m g m' g' hpre hagree
  have hf : ∀ c, PE.Plain m c := fun c => ⟨gain_finite _ _ _ _ _ (hpre c).1, weights_finite _ _ _ _ _ (hpre c).2.1, up_finite _ _ _ _ _ (hpre c).2.2⟩
  refine ⟨fun c => PE.queries (PE.hArr m c) (PE.gArr m c) (PE.wArr m c), fun c => PE.taken (PE.hArr m c) (PE.gArr m c) (PE.wArr m c) 512 512 (by omega),
    fun c => PE.values (PE.hArr m c) (PE.gArr m c) (PE.wArr m c), fun c => PE.linQueries (PE.hArr m c) (PE.gArr m c) (PE.wArr m c),
    fun c => PE.taken (PE.hArr m c) (PE.gArr m c) (PE.wArr m c) 256 1792 (by omega),
    fun c => PE.decays (PE.hArr m c) (PE.gArr m c) (PE.wArr m c) (PE.aArr m c) (PE.bArr m c),
    fun c => PE.taken (PE.hArr m c) (PE.gArr m c) (PE.wArr m c) 512 2048 (by omega),
    fun c => PE.taken (PE.hArr m c) (PE.gArr m c) (PE.wArr m c) 512 2560 (by omega), PE.run m hf g, ?_⟩
  refine (θ_run (Cert.Reference6Ideal.defs (F := Ideal)) _ _).mono (fun r h c => ?_) (PE.Ref.run m' g')
  obtain ⟨a0, a1, a2, a3, a4⟩ := hagree c
  have e := h c
  rw [a0, a1, a2, a3, a4] at e
  rw [a0, a1, a2, a3, a4]
  exact e

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.KF.Run
public import proofs.«01_k».proof.Proof.KI.Frame
public import proofs.«01_k».proof.Proof.RI.Frame
public import proofs.«01_k».proof.Proof.Equal
public import proofs.«01_k».proof.Proof.Equal2
public import proofs.«01_k».proof.Proof.Equal3
public import proofs.«01_k».proof.Proof.Equal4
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, RI.pre_facts, weights_facts,
  KF.frame_bits, KI.frame_ideal, fun m g _ => KI.run_main (F := Ideal) m g, RI.frame_reference, RI.frame_reference_finite,
  fun m g _ => Cert.Kernel2.Gen.frame m g, fun m g _ => Cert.Kernel2Ideal.Gen.frame m g, frame_ffn_reference,
  fun m g _ => Cert.Kernel3.Gen.frame m g, fun m g _ => Cert.Kernel3Ideal.Gen.frame m g, frame_mix_reference,
  fun m g _ => Cert.Kernel4.Gen.frame m g, fun m g _ => Cert.Kernel4Ideal.Gen.frame m g, frame_even_reference,
  fun m g _ => Cert.Kernel5.Gen.frame m g, fun m g _ => Cert.Kernel5Ideal.Gen.frame m g, frame_project_reference,
  fun m g _ => Cert.Kernel6.Gen.frame m g, fun m g _ => Cert.Kernel6Ideal.Gen.frame m g, fun m g _ => Cert.Kernel6Ideal.Gen.frame m g,
  frame_even_project_reference, frame_even_project_reference_finite,
  RI.names_kept, algebraic, trivial, algebraic_ffn, trivial, algebraic_mix, trivial, algebraic_even, scale_kept, algebraic_project,
  diff_scale_kept, algebraic_even_project⟩

end Cert.Proof

end
